-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S1024x1024 : Shape := ⟨2, ![1024, 1024]⟩
abbrev S2x1024x2048 : Shape := ⟨3, ![2, 1024, 2048]⟩
abbrev S2x2048x1024 : Shape := ⟨3, ![2, 2048, 1024]⟩
abbrev S35 : Shape := ⟨1, ![35]⟩
abbrev S2 : Shape := ⟨1, ![2]⟩
abbrev S_ : Shape := ⟨0, ![]⟩
abbrev S1 : Shape := ⟨1, ![1]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S256x2048 : Shape := ⟨2, ![256, 2048]⟩
abbrev S256x1024 : Shape := ⟨2, ![256, 1024]⟩
abbrev S128x1024 : Shape := ⟨2, ![128, 1024]⟩
abbrev S32x1024 : Shape := ⟨2, ![32, 1024]⟩
abbrev S32x2048 : Shape := ⟨2, ![32, 2048]⟩
abbrev S64x2048 : Shape := ⟨2, ![64, 2048]⟩
abbrev S128x2048 : Shape := ⟨2, ![128, 2048]⟩

abbrev nBuf : Space → Nat
  | .hbm => 8
  | .vmem => 11
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S1024x1024, .f32⟩
  | .local _ .vmem, ⟨0, _⟩ => ⟨S64x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .f32⟩
  | .local _ .vmem, ⟨8, _⟩ => ⟨S2048x1024, .f32⟩
  | .local _ .vmem, ⟨9, _⟩ => ⟨S2x1024x2048, .bf16⟩
  | .local _ .vmem, ⟨10, _⟩ => ⟨S2x2048x1024, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v7 : BitVec 32 := Scalar.muli v2 c64_i32
  let v8 : Index := Scalar.indexCast v7
  let c0_1 : Index := 0#32
  ![v8.toNat, 0]
def k0_dev1 (d0 : Dev nD) : Nat :=
  let c0_i32_6 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v16 : BitVec 32 := Scalar.xori v2 c1_i32_3
  let c1_i32_5 : BitVec 32 := 1#32
  let v17 : BitVec 32 := Scalar.muli v16 c1_i32_5
  let v18 : BitVec 32 := Scalar.addi c0_i32_6 v17
  v18.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v19 : BitVec 32 := Scalar.xori v2 c2_i32
  let c1_i32_8 : BitVec 32 := 1#32
  let v20 : BitVec 32 := Scalar.muli v19 c1_i32_8
  let v21 : BitVec 32 := Scalar.addi c0_i32_9 v20
  v21.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v22 : BitVec 32 := Scalar.xori v2 c4_i32
  let c1_i32_11 : BitVec 32 := 1#32
  let v23 : BitVec 32 := Scalar.muli v22 c1_i32_11
  let v24 : BitVec 32 := Scalar.addi c0_i32_12 v23
  v24.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v25 : BitVec 32 := Scalar.xori v2 c8_i32
  let c1_i32_14 : BitVec 32 := 1#32
  let v26 : BitVec 32 := Scalar.muli v25 c1_i32_14
  let v27 : BitVec 32 := Scalar.addi c0_i32_15 v26
  v27.toNat
def k0_off2 (d0 : Dev nD) (c15_i32 : BitVec 32) (c0_i32_18 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v29 : BitVec 32 := Scalar.andi v2 c15_i32
  let v30 : BitVec 32 := Scalar.addi v29 c0_i32_18
  let c64_i32_19 : BitVec 32 := 64#32
  let v31 : BitVec 32 := Scalar.muli v30 c64_i32_19
  let c0_i32_23 : BitVec 32 := 0#32
  ![v31.toNat, 0]
def k0_off2_at (r : Fin 15) : BitVec 32 × BitVec 32 :=
  if r.val < 7 then
    if r.val < 3 then
      if r.val < 1 then
        (15#32, 0#32)
      else
        if r.val < 2 then
          (7#32, 0#32)
        else
          (7#32, 8#32)
    else
      if r.val < 5 then
        if r.val < 4 then
          (3#32, 0#32)
        else
          (3#32, 4#32)
      else
        if r.val < 6 then
          (3#32, 8#32)
        else
          (3#32, 12#32)
  else
    if r.val < 11 then
      if r.val < 9 then
        if r.val < 8 then
          (1#32, 0#32)
        else
          (1#32, 2#32)
      else
        if r.val < 10 then
          (1#32, 4#32)
        else
          (1#32, 6#32)
    else
      if r.val < 13 then
        if r.val < 12 then
          (1#32, 8#32)
        else
          (1#32, 10#32)
      else
        if r.val < 14 then
          (1#32, 12#32)
        else
          (1#32, 14#32)
def k0_dev5 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_17 : BitVec 32 := 8#32
  let v28 : BitVec 32 := Scalar.xori v2 c8_i32_17
  let c1_i32_21 : BitVec 32 := 1#32
  let v32 : BitVec 32 := Scalar.muli v28 c1_i32_21
  let v33 : BitVec 32 := Scalar.addi c0_i32_22 v32
  v33.toNat
def k0_dev6 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_36 : BitVec 32 := 4#32
  let v50 : BitVec 32 := Scalar.xori v2 c4_i32_36
  let c1_i32_40 : BitVec 32 := 1#32
  let v54 : BitVec 32 := Scalar.muli v50 c1_i32_40
  let v55 : BitVec 32 := Scalar.addi c0_i32_41 v54
  v55.toNat
def k0_dev7 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_36 : BitVec 32 := 4#32
  let v50 : BitVec 32 := Scalar.xori v2 c4_i32_36
  let c1_i32_47 : BitVec 32 := 1#32
  let v64 : BitVec 32 := Scalar.muli v50 c1_i32_47
  let v65 : BitVec 32 := Scalar.addi c0_i32_48 v64
  v65.toNat
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_73 : BitVec 32 := 2#32
  let v92 : BitVec 32 := Scalar.xori v2 c2_i32_73
  let c1_i32_77 : BitVec 32 := 1#32
  let v96 : BitVec 32 := Scalar.muli v92 c1_i32_77
  let v97 : BitVec 32 := Scalar.addi c0_i32_78 v96
  v97.toNat
def k0_dev9 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_73 : BitVec 32 := 2#32
  let v92 : BitVec 32 := Scalar.xori v2 c2_i32_73
  let c1_i32_84 : BitVec 32 := 1#32
  let v106 : BitVec 32 := Scalar.muli v92 c1_i32_84
  let v107 : BitVec 32 := Scalar.addi c0_i32_85 v106
  v107.toNat
def k0_dev10 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_73 : BitVec 32 := 2#32
  let v92 : BitVec 32 := Scalar.xori v2 c2_i32_73
  let c1_i32_91 : BitVec 32 := 1#32
  let v116 : BitVec 32 := Scalar.muli v92 c1_i32_91
  let v117 : BitVec 32 := Scalar.addi c0_i32_92 v116
  v117.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_73 : BitVec 32 := 2#32
  let v92 : BitVec 32 := Scalar.xori v2 c2_i32_73
  let c1_i32_97 : BitVec 32 := 1#32
  let v126 : BitVec 32 := Scalar.muli v92 c1_i32_97
  let v127 : BitVec 32 := Scalar.addi c0_i32_98 v126
  v127.toNat
def k0_dev12 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_145 : BitVec 32 := 1#32
  let v174 : BitVec 32 := Scalar.xori v2 c1_i32_145
  let c1_i32_150 : BitVec 32 := 1#32
  let v178 : BitVec 32 := Scalar.muli v174 c1_i32_150
  let v179 : BitVec 32 := Scalar.addi c0_i32_151 v178
  v179.toNat
def k0_dev13 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_145 : BitVec 32 := 1#32
  let v174 : BitVec 32 := Scalar.xori v2 c1_i32_145
  let c1_i32_157 : BitVec 32 := 1#32
  let v188 : BitVec 32 := Scalar.muli v174 c1_i32_157
  let v189 : BitVec 32 := Scalar.addi c0_i32_158 v188
  v189.toNat
def k0_dev14 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_145 : BitVec 32 := 1#32
  let v174 : BitVec 32 := Scalar.xori v2 c1_i32_145
  let c1_i32_164 : BitVec 32 := 1#32
  let v198 : BitVec 32 := Scalar.muli v174 c1_i32_164
  let v199 : BitVec 32 := Scalar.addi c0_i32_165 v198
  v199.toNat
def k0_dev15 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_145 : BitVec 32 := 1#32
  let v174 : BitVec 32 := Scalar.xori v2 c1_i32_145
  let c1_i32_170 : BitVec 32 := 1#32
  let v208 : BitVec 32 := Scalar.muli v174 c1_i32_170
  let v209 : BitVec 32 := Scalar.addi c0_i32_171 v208
  v209.toNat
def k0_dev16 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_145 : BitVec 32 := 1#32
  let v174 : BitVec 32 := Scalar.xori v2 c1_i32_145
  let c1_i32_177 : BitVec 32 := 1#32
  let v218 : BitVec 32 := Scalar.muli v174 c1_i32_177
  let v219 : BitVec 32 := Scalar.addi c0_i32_178 v218
  v219.toNat
def k0_dev17 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_145 : BitVec 32 := 1#32
  let v174 : BitVec 32 := Scalar.xori v2 c1_i32_145
  let c1_i32_183 : BitVec 32 := 1#32
  let v228 : BitVec 32 := Scalar.muli v174 c1_i32_183
  let v229 : BitVec 32 := Scalar.addi c0_i32_184 v228
  v229.toNat
def k0_dev18 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_145 : BitVec 32 := 1#32
  let v174 : BitVec 32 := Scalar.xori v2 c1_i32_145
  let c1_i32_190 : BitVec 32 := 1#32
  let v238 : BitVec 32 := Scalar.muli v174 c1_i32_190
  let v239 : BitVec 32 := Scalar.addi c0_i32_191 v238
  v239.toNat
def k0_dev19 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_145 : BitVec 32 := 1#32
  let v174 : BitVec 32 := Scalar.xori v2 c1_i32_145
  let c1_i32_196 : BitVec 32 := 1#32
  let v248 : BitVec 32 := Scalar.muli v174 c1_i32_196
  let v249 : BitVec 32 := Scalar.addi c0_i32_197 v248
  v249.toNat
def k0_off3 (d0 : Dev nD) (c0_i32_321 : BitVec 32) (c0_i32_316 : BitVec 32) : Fin 2 → Nat :=
  let c1_i32_319 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let v377 : BitVec 32 := Scalar.subi c1_i32_319 v374
  let c256_i32_320 : BitVec 32 := 256#32
  let v378 : BitVec 32 := Scalar.muli v377 c256_i32_320
  let v379 : BitVec 32 := Scalar.addi c0_i32_321 v378
  let v380 : Index := Scalar.indexCast v379
  let c0_322 : Index := 0#32
  ![v380.toNat, 0]
def k0_off3_at (r : Fin 2) : BitVec 32 × BitVec 32 :=
  if r.val < 1 then
    (0#32, 0#32)
  else
    (512#32, 2#32)
def k0_off4 (d0 : Dev nD) (c0_i32_321 : BitVec 32) (c0_i32_316 : BitVec 32) : Fin 2 → Nat :=
  let c1_i32_319 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let v377 : BitVec 32 := Scalar.subi c1_i32_319 v374
  let c256_i32_320 : BitVec 32 := 256#32
  let v378 : BitVec 32 := Scalar.muli v377 c256_i32_320
  let v379 : BitVec 32 := Scalar.addi c0_i32_321 v378
  let v385 : Index := Scalar.indexCast v379
  let c0_327 : Index := 0#32
  ![v385.toNat, 0]
def k0_off4_at (r : Fin 2) : BitVec 32 × BitVec 32 :=
  if r.val < 1 then
    (0#32, 0#32)
  else
    (512#32, 2#32)
def k0_dev20 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_331 : BitVec 32 := 1#32
  let v395 : BitVec 32 := Scalar.xori v2 c1_i32_331
  let c1_i32_334 : BitVec 32 := 1#32
  let v396 : BitVec 32 := Scalar.muli v395 c1_i32_334
  let v397 : BitVec 32 := Scalar.addi c0_i32_335 v396
  v397.toNat
def k0_dev21 (d0 : Dev nD) : Nat :=
  let c0_i32_358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_354 : BitVec 32 := 4#32
  let v426 : BitVec 32 := Scalar.xori v2 c4_i32_354
  let c1_i32_357 : BitVec 32 := 1#32
  let v427 : BitVec 32 := Scalar.muli v426 c1_i32_357
  let v428 : BitVec 32 := Scalar.addi c0_i32_358 v427
  v428.toNat
def k0_off5 (d0 : Dev nD) (c0_i32_318 : BitVec 32) (c0_i32_316 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v435 : Index := Scalar.indexCast v376
  let c0_363 : Index := 0#32
  ![v435.toNat, 0]
def k0_off5_at (r : Fin 2) : BitVec 32 × BitVec 32 :=
  if r.val < 1 then
    (0#32, 0#32)
  else
    (512#32, 2#32)
def k0_off6 (d0 : Dev nD) (c0_i32_318 : BitVec 32) (c0_i32_316 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v440 : Index := Scalar.indexCast v376
  let c0_368 : Index := 0#32
  ![v440.toNat, 0]
def k0_off6_at (r : Fin 2) : BitVec 32 × BitVec 32 :=
  if r.val < 1 then
    (0#32, 0#32)
  else
    (512#32, 2#32)
def k0_off7 (d0 : Dev nD) (c0_i32_318 : BitVec 32) (c0_i32_316 : BitVec 32) (c2_i32_407 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let c1_i32_409 : BitVec 32 := 1#32
  let v490 : BitVec 32 := Scalar.shrsi v2 c2_i32_407
  let c1_i32_408 : BitVec 32 := 1#32
  let v491 : BitVec 32 := Scalar.andi v490 c1_i32_408
  let v494 : BitVec 32 := Scalar.subi c1_i32_409 v491
  let c128_i32_410 : BitVec 32 := 128#32
  let v495 : BitVec 32 := Scalar.muli v494 c128_i32_410
  let v496 : BitVec 32 := Scalar.addi v376 v495
  let v497 : Index := Scalar.indexCast v496
  let c0_411 : Index := 0#32
  ![v497.toNat, 0]
def k0_off7_at (r : Fin 2) : BitVec 32 × BitVec 32 × BitVec 32 :=
  if r.val < 1 then
    (0#32, 0#32, 2#32)
  else
    (512#32, 2#32, 0#32)
def k0_dev22 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_413 : BitVec 32 := 4#32
  let v503 : BitVec 32 := Scalar.xori v2 c4_i32_413
  let c1_i32_415 : BitVec 32 := 1#32
  let v504 : BitVec 32 := Scalar.muli v503 c1_i32_415
  let v505 : BitVec 32 := Scalar.addi c0_i32_416 v504
  v505.toNat
def k0_dev23 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let v544 : BitVec 32 := Scalar.xori v2 c1_i32_447
  let c1_i32_449 : BitVec 32 := 1#32
  let v545 : BitVec 32 := Scalar.muli v544 c1_i32_449
  let v546 : BitVec 32 := Scalar.addi c0_i32_450 v545
  v546.toNat
def k0_off8 (d0 : Dev nD) (c0_i32_318 : BitVec 32) (c0_i32_316 : BitVec 32) (c2_i32_407 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v563 : Index := Scalar.indexCast v493
  let c0_469 : Index := 0#32
  ![v563.toNat, 0]
def k0_off8_at (r : Fin 2) : BitVec 32 × BitVec 32 × BitVec 32 :=
  if r.val < 1 then
    (0#32, 0#32, 2#32)
  else
    (512#32, 2#32, 0#32)
def k0_off9 (d0 : Dev nD) (c0_i32_318 : BitVec 32) (c0_i32_316 : BitVec 32) (c2_i32_407 : BitVec 32) (c1_i32_473 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let c1_i32_476 : BitVec 32 := 1#32
  let v572 : BitVec 32 := Scalar.shrsi v2 c1_i32_473
  let c1_i32_474 : BitVec 32 := 1#32
  let v573 : BitVec 32 := Scalar.andi v572 c1_i32_474
  let v576 : BitVec 32 := Scalar.subi c1_i32_476 v573
  let c64_i32_477 : BitVec 32 := 64#32
  let v577 : BitVec 32 := Scalar.muli v576 c64_i32_477
  let v578 : BitVec 32 := Scalar.addi v493 v577
  let v579 : Index := Scalar.indexCast v578
  let c0_478 : Index := 0#32
  ![v579.toNat, 0]
def k0_off9_at (r : Fin 2) : BitVec 32 × BitVec 32 × BitVec 32 × BitVec 32 :=
  if r.val < 1 then
    (0#32, 0#32, 2#32, 1#32)
  else
    (512#32, 2#32, 0#32, 3#32)
def k0_dev24 (d0 : Dev nD) : Nat :=
  let c0_i32_484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_480 : BitVec 32 := 2#32
  let v585 : BitVec 32 := Scalar.xori v2 c2_i32_480
  let c1_i32_483 : BitVec 32 := 1#32
  let v586 : BitVec 32 := Scalar.muli v585 c1_i32_483
  let v587 : BitVec 32 := Scalar.addi c0_i32_484 v586
  v587.toNat
def k0_dev25 (d0 : Dev nD) : Nat :=
  let c0_i32_517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_514 : BitVec 32 := 8#32
  let v626 : BitVec 32 := Scalar.xori v2 c8_i32_514
  let c1_i32_516 : BitVec 32 := 1#32
  let v627 : BitVec 32 := Scalar.muli v626 c1_i32_516
  let v628 : BitVec 32 := Scalar.addi c0_i32_517 v627
  v628.toNat
def k0_off10 (d0 : Dev nD) (c0_i32_318 : BitVec 32) (c0_i32_316 : BitVec 32) (c2_i32_407 : BitVec 32) (c1_i32_473 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v572 : BitVec 32 := Scalar.shrsi v2 c1_i32_473
  let c1_i32_474 : BitVec 32 := 1#32
  let v573 : BitVec 32 := Scalar.andi v572 c1_i32_474
  let c64_i32_475 : BitVec 32 := 64#32
  let v574 : BitVec 32 := Scalar.muli v573 c64_i32_475
  let v575 : BitVec 32 := Scalar.addi v493 v574
  let v645 : Index := Scalar.indexCast v575
  let c0_536 : Index := 0#32
  ![v645.toNat, 0]
def k0_off10_at (r : Fin 2) : BitVec 32 × BitVec 32 × BitVec 32 × BitVec 32 :=
  if r.val < 1 then
    (0#32, 0#32, 2#32, 1#32)
  else
    (512#32, 2#32, 0#32, 3#32)
def k0_off11 (d0 : Dev nD) (c0_i32_318 : BitVec 32) (c0_i32_316 : BitVec 32) (c2_i32_407 : BitVec 32) (c1_i32_473 : BitVec 32) (c3_i32_540 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v572 : BitVec 32 := Scalar.shrsi v2 c1_i32_473
  let c1_i32_474 : BitVec 32 := 1#32
  let v573 : BitVec 32 := Scalar.andi v572 c1_i32_474
  let c64_i32_475 : BitVec 32 := 64#32
  let v574 : BitVec 32 := Scalar.muli v573 c64_i32_475
  let v575 : BitVec 32 := Scalar.addi v493 v574
  let c1_i32_543 : BitVec 32 := 1#32
  let v654 : BitVec 32 := Scalar.shrsi v2 c3_i32_540
  let c1_i32_541 : BitVec 32 := 1#32
  let v655 : BitVec 32 := Scalar.andi v654 c1_i32_541
  let v658 : BitVec 32 := Scalar.subi c1_i32_543 v655
  let c32_i32_544 : BitVec 32 := 32#32
  let v659 : BitVec 32 := Scalar.muli v658 c32_i32_544
  let v660 : BitVec 32 := Scalar.addi v575 v659
  let v661 : Index := Scalar.indexCast v660
  let c0_545 : Index := 0#32
  ![v661.toNat, 0]
def k0_off11_at (r : Fin 2) : BitVec 32 × BitVec 32 × BitVec 32 × BitVec 32 × BitVec 32 :=
  if r.val < 1 then
    (0#32, 0#32, 2#32, 1#32, 3#32)
  else
    (512#32, 2#32, 0#32, 3#32, 1#32)
def k0_dev26 (d0 : Dev nD) : Nat :=
  let c0_i32_551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_547 : BitVec 32 := 8#32
  let v667 : BitVec 32 := Scalar.xori v2 c8_i32_547
  let c1_i32_550 : BitVec 32 := 1#32
  let v668 : BitVec 32 := Scalar.muli v667 c1_i32_550
  let v669 : BitVec 32 := Scalar.addi c0_i32_551 v668
  v669.toNat
def k0_dev27 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_581 : BitVec 32 := 2#32
  let v708 : BitVec 32 := Scalar.xori v2 c2_i32_581
  let c1_i32_583 : BitVec 32 := 1#32
  let v709 : BitVec 32 := Scalar.muli v708 c1_i32_583
  let v710 : BitVec 32 := Scalar.addi c0_i32_584 v709
  v710.toNat
def k0_off12 (d0 : Dev nD) (c0_i32_318 : BitVec 32) (c0_i32_316 : BitVec 32) (c2_i32_407 : BitVec 32) (c1_i32_473 : BitVec 32) (c3_i32_540 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v572 : BitVec 32 := Scalar.shrsi v2 c1_i32_473
  let c1_i32_474 : BitVec 32 := 1#32
  let v573 : BitVec 32 := Scalar.andi v572 c1_i32_474
  let c64_i32_475 : BitVec 32 := 64#32
  let v574 : BitVec 32 := Scalar.muli v573 c64_i32_475
  let v575 : BitVec 32 := Scalar.addi v493 v574
  let v654 : BitVec 32 := Scalar.shrsi v2 c3_i32_540
  let c1_i32_541 : BitVec 32 := 1#32
  let v655 : BitVec 32 := Scalar.andi v654 c1_i32_541
  let c32_i32_542 : BitVec 32 := 32#32
  let v656 : BitVec 32 := Scalar.muli v655 c32_i32_542
  let v657 : BitVec 32 := Scalar.addi v575 v656
  let v727 : Index := Scalar.indexCast v657
  let c0_603 : Index := 0#32
  ![v727.toNat, 0]
def k0_off12_at (r : Fin 2) : BitVec 32 × BitVec 32 × BitVec 32 × BitVec 32 × BitVec 32 :=
  if r.val < 1 then
    (0#32, 0#32, 2#32, 1#32, 3#32)
  else
    (512#32, 2#32, 0#32, 3#32, 1#32)
def k0_off13 (d0 : Dev nD) (c0_i32_318 : BitVec 32) (c0_i32_316 : BitVec 32) (c2_i32_407 : BitVec 32) (c1_i32_473 : BitVec 32) (c3_i32_540 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v572 : BitVec 32 := Scalar.shrsi v2 c1_i32_473
  let c1_i32_474 : BitVec 32 := 1#32
  let v573 : BitVec 32 := Scalar.andi v572 c1_i32_474
  let c64_i32_475 : BitVec 32 := 64#32
  let v574 : BitVec 32 := Scalar.muli v573 c64_i32_475
  let v575 : BitVec 32 := Scalar.addi v493 v574
  let v654 : BitVec 32 := Scalar.shrsi v2 c3_i32_540
  let c1_i32_541 : BitVec 32 := 1#32
  let v655 : BitVec 32 := Scalar.andi v654 c1_i32_541
  let c32_i32_542 : BitVec 32 := 32#32
  let v656 : BitVec 32 := Scalar.muli v655 c32_i32_542
  let v657 : BitVec 32 := Scalar.addi v575 v656
  let c0_i32_635 : BitVec 32 := 0#32
  ![v657.toNat, 0]
def k0_off13_at (r : Fin 2) : BitVec 32 × BitVec 32 × BitVec 32 × BitVec 32 × BitVec 32 :=
  if r.val < 1 then
    (0#32, 0#32, 2#32, 1#32, 3#32)
  else
    (512#32, 2#32, 0#32, 3#32, 1#32)
def k0_dev28 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_630 : BitVec 32 := 8#32
  let v764 : BitVec 32 := Scalar.xori v2 c8_i32_630
  let c1_i32_633 : BitVec 32 := 1#32
  let v765 : BitVec 32 := Scalar.muli v764 c1_i32_633
  let v766 : BitVec 32 := Scalar.addi c0_i32_634 v765
  v766.toNat
def k0_dev29 (d0 : Dev nD) : Nat :=
  let c0_i32_648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_644 : BitVec 32 := 2#32
  let v786 : BitVec 32 := Scalar.xori v2 c2_i32_644
  let c1_i32_647 : BitVec 32 := 1#32
  let v787 : BitVec 32 := Scalar.muli v786 c1_i32_647
  let v788 : BitVec 32 := Scalar.addi c0_i32_648 v787
  v788.toNat
def k0_off14 (d0 : Dev nD) (c0_i32_318 : BitVec 32) (c0_i32_316 : BitVec 32) (c2_i32_407 : BitVec 32) (c1_i32_473 : BitVec 32) (c3_i32_540 : BitVec 32) (c3_i32_628 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v572 : BitVec 32 := Scalar.shrsi v2 c1_i32_473
  let c1_i32_474 : BitVec 32 := 1#32
  let v573 : BitVec 32 := Scalar.andi v572 c1_i32_474
  let c64_i32_475 : BitVec 32 := 64#32
  let v574 : BitVec 32 := Scalar.muli v573 c64_i32_475
  let v575 : BitVec 32 := Scalar.addi v493 v574
  let v654 : BitVec 32 := Scalar.shrsi v2 c3_i32_540
  let c1_i32_541 : BitVec 32 := 1#32
  let v655 : BitVec 32 := Scalar.andi v654 c1_i32_541
  let c32_i32_542 : BitVec 32 := 32#32
  let v656 : BitVec 32 := Scalar.muli v655 c32_i32_542
  let v657 : BitVec 32 := Scalar.addi v575 v656
  let v762 : BitVec 32 := Scalar.shrsi v2 c3_i32_628
  let c1_i32_629 : BitVec 32 := 1#32
  let v763 : BitVec 32 := Scalar.andi v762 c1_i32_629
  let c32_i32_665 : BitVec 32 := 32#32
  let v809 : BitVec 32 := Scalar.muli v763 c32_i32_665
  let v810 : BitVec 32 := Scalar.subi v657 v809
  let c0_i32_673 : BitVec 32 := 0#32
  ![v810.toNat, 0]
def k0_off14_at (r : Fin 2) : BitVec 32 × BitVec 32 × BitVec 32 × BitVec 32 × BitVec 32 × BitVec 32 :=
  if r.val < 1 then
    (0#32, 0#32, 2#32, 1#32, 3#32, 3#32)
  else
    (512#32, 2#32, 0#32, 3#32, 1#32, 1#32)
def k0_dev30 (d0 : Dev nD) : Nat :=
  let c0_i32_672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_668 : BitVec 32 := 2#32
  let v813 : BitVec 32 := Scalar.xori v2 c2_i32_668
  let c1_i32_671 : BitVec 32 := 1#32
  let v814 : BitVec 32 := Scalar.muli v813 c1_i32_671
  let v815 : BitVec 32 := Scalar.addi c0_i32_672 v814
  v815.toNat
def k0_dev31 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_692 : BitVec 32 := 8#32
  let v840 : BitVec 32 := Scalar.xori v2 c8_i32_692
  let c1_i32_695 : BitVec 32 := 1#32
  let v841 : BitVec 32 := Scalar.muli v840 c1_i32_695
  let v842 : BitVec 32 := Scalar.addi c0_i32_696 v841
  v842.toNat
def k0_off15 (d0 : Dev nD) (c0_i32_318 : BitVec 32) (c0_i32_316 : BitVec 32) (c2_i32_407 : BitVec 32) (c1_i32_473 : BitVec 32) (c3_i32_540 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v572 : BitVec 32 := Scalar.shrsi v2 c1_i32_473
  let c1_i32_474 : BitVec 32 := 1#32
  let v573 : BitVec 32 := Scalar.andi v572 c1_i32_474
  let c64_i32_475 : BitVec 32 := 64#32
  let v574 : BitVec 32 := Scalar.muli v573 c64_i32_475
  let v575 : BitVec 32 := Scalar.addi v493 v574
  let v654 : BitVec 32 := Scalar.shrsi v2 c3_i32_540
  let c1_i32_541 : BitVec 32 := 1#32
  let v655 : BitVec 32 := Scalar.andi v654 c1_i32_541
  let c32_i32_542 : BitVec 32 := 32#32
  let v656 : BitVec 32 := Scalar.muli v655 c32_i32_542
  let v657 : BitVec 32 := Scalar.addi v575 v656
  let v861 : Index := Scalar.indexCast v657
  let c0_708 : Index := 0#32
  ![v861.toNat, 0]
def k0_off15_at (r : Fin 2) : BitVec 32 × BitVec 32 × BitVec 32 × BitVec 32 × BitVec 32 :=
  if r.val < 1 then
    (0#32, 0#32, 2#32, 1#32, 3#32)
  else
    (512#32, 2#32, 0#32, 3#32, 1#32)
def k0_off16 (d0 : Dev nD) (c0_i32_318 : BitVec 32) (c0_i32_316 : BitVec 32) (c2_i32_407 : BitVec 32) (c1_i32_473 : BitVec 32) (c3_i32_540 : BitVec 32) (c3_i32_628 : BitVec 32) (c1_i32_666 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v572 : BitVec 32 := Scalar.shrsi v2 c1_i32_473
  let c1_i32_474 : BitVec 32 := 1#32
  let v573 : BitVec 32 := Scalar.andi v572 c1_i32_474
  let c64_i32_475 : BitVec 32 := 64#32
  let v574 : BitVec 32 := Scalar.muli v573 c64_i32_475
  let v575 : BitVec 32 := Scalar.addi v493 v574
  let v654 : BitVec 32 := Scalar.shrsi v2 c3_i32_540
  let c1_i32_541 : BitVec 32 := 1#32
  let v655 : BitVec 32 := Scalar.andi v654 c1_i32_541
  let c32_i32_542 : BitVec 32 := 32#32
  let v656 : BitVec 32 := Scalar.muli v655 c32_i32_542
  let v657 : BitVec 32 := Scalar.addi v575 v656
  let v762 : BitVec 32 := Scalar.shrsi v2 c3_i32_628
  let c1_i32_629 : BitVec 32 := 1#32
  let v763 : BitVec 32 := Scalar.andi v762 c1_i32_629
  let c32_i32_665 : BitVec 32 := 32#32
  let v809 : BitVec 32 := Scalar.muli v763 c32_i32_665
  let v810 : BitVec 32 := Scalar.subi v657 v809
  let v811 : BitVec 32 := Scalar.shrsi v2 c1_i32_666
  let c1_i32_667 : BitVec 32 := 1#32
  let v812 : BitVec 32 := Scalar.andi v811 c1_i32_667
  let c64_i32_727 : BitVec 32 := 64#32
  let v887 : BitVec 32 := Scalar.muli v812 c64_i32_727
  let v888 : BitVec 32 := Scalar.subi v810 v887
  let c0_i32_735 : BitVec 32 := 0#32
  ![v888.toNat, 0]
def k0_off16_at (r : Fin 2) : BitVec 32 × BitVec 32 × BitVec 32 × BitVec 32 × BitVec 32 × BitVec 32 × BitVec 32 :=
  if r.val < 1 then
    (0#32, 0#32, 2#32, 1#32, 3#32, 3#32, 1#32)
  else
    (512#32, 2#32, 0#32, 3#32, 1#32, 1#32, 3#32)
def k0_dev32 (d0 : Dev nD) : Nat :=
  let c0_i32_734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_730 : BitVec 32 := 4#32
  let v891 : BitVec 32 := Scalar.xori v2 c4_i32_730
  let c1_i32_733 : BitVec 32 := 1#32
  let v892 : BitVec 32 := Scalar.muli v891 c1_i32_733
  let v893 : BitVec 32 := Scalar.addi c0_i32_734 v892
  v893.toNat
def k0_dev33 (d0 : Dev nD) : Nat :=
  let c0_i32_757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_754 : BitVec 32 := 1#32
  let v918 : BitVec 32 := Scalar.xori v2 c1_i32_754
  let c1_i32_756 : BitVec 32 := 1#32
  let v919 : BitVec 32 := Scalar.muli v918 c1_i32_756
  let v920 : BitVec 32 := Scalar.addi c0_i32_757 v919
  v920.toNat
def k0_off17 (d0 : Dev nD) (c0_i32_318 : BitVec 32) (c0_i32_316 : BitVec 32) (c2_i32_407 : BitVec 32) (c1_i32_473 : BitVec 32) (c3_i32_540 : BitVec 32) (c3_i32_628 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v572 : BitVec 32 := Scalar.shrsi v2 c1_i32_473
  let c1_i32_474 : BitVec 32 := 1#32
  let v573 : BitVec 32 := Scalar.andi v572 c1_i32_474
  let c64_i32_475 : BitVec 32 := 64#32
  let v574 : BitVec 32 := Scalar.muli v573 c64_i32_475
  let v575 : BitVec 32 := Scalar.addi v493 v574
  let v654 : BitVec 32 := Scalar.shrsi v2 c3_i32_540
  let c1_i32_541 : BitVec 32 := 1#32
  let v655 : BitVec 32 := Scalar.andi v654 c1_i32_541
  let c32_i32_542 : BitVec 32 := 32#32
  let v656 : BitVec 32 := Scalar.muli v655 c32_i32_542
  let v657 : BitVec 32 := Scalar.addi v575 v656
  let c1_i32_638 : BitVec 32 := 1#32
  let c2_i32_637 : BitVec 32 := 2#32
  let v762 : BitVec 32 := Scalar.shrsi v2 c3_i32_628
  let c1_i32_629 : BitVec 32 := 1#32
  let v763 : BitVec 32 := Scalar.andi v762 c1_i32_629
  let v773 : BitVec 32 := Scalar.muli c2_i32_637 v763
  let v774 : BitVec 32 := Scalar.subi c1_i32_638 v773
  let c32_i32_639 : BitVec 32 := 32#32
  let v775 : BitVec 32 := Scalar.muli v774 c32_i32_639
  let v776 : BitVec 32 := Scalar.addi v657 v775
  let v931 : Index := Scalar.indexCast v776
  let c0_763 : Index := 0#32
  ![v931.toNat, 0]
def k0_off17_at (r : Fin 2) : BitVec 32 × BitVec 32 × BitVec 32 × BitVec 32 × BitVec 32 × BitVec 32 :=
  if r.val < 1 then
    (0#32, 0#32, 2#32, 1#32, 3#32, 3#32)
  else
    (512#32, 2#32, 0#32, 3#32, 1#32, 1#32)
def k0_off18 (d0 : Dev nD) (c0_i32_318 : BitVec 32) (c0_i32_316 : BitVec 32) (c2_i32_407 : BitVec 32) (c1_i32_473 : BitVec 32) (c3_i32_540 : BitVec 32) (c3_i32_628 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v572 : BitVec 32 := Scalar.shrsi v2 c1_i32_473
  let c1_i32_474 : BitVec 32 := 1#32
  let v573 : BitVec 32 := Scalar.andi v572 c1_i32_474
  let c64_i32_475 : BitVec 32 := 64#32
  let v574 : BitVec 32 := Scalar.muli v573 c64_i32_475
  let v575 : BitVec 32 := Scalar.addi v493 v574
  let v654 : BitVec 32 := Scalar.shrsi v2 c3_i32_540
  let c1_i32_541 : BitVec 32 := 1#32
  let v655 : BitVec 32 := Scalar.andi v654 c1_i32_541
  let c32_i32_542 : BitVec 32 := 32#32
  let v656 : BitVec 32 := Scalar.muli v655 c32_i32_542
  let v657 : BitVec 32 := Scalar.addi v575 v656
  let c1_i32_638 : BitVec 32 := 1#32
  let c2_i32_637 : BitVec 32 := 2#32
  let v762 : BitVec 32 := Scalar.shrsi v2 c3_i32_628
  let c1_i32_629 : BitVec 32 := 1#32
  let v763 : BitVec 32 := Scalar.andi v762 c1_i32_629
  let v773 : BitVec 32 := Scalar.muli c2_i32_637 v763
  let v774 : BitVec 32 := Scalar.subi c1_i32_638 v773
  let c32_i32_639 : BitVec 32 := 32#32
  let v775 : BitVec 32 := Scalar.muli v774 c32_i32_639
  let v776 : BitVec 32 := Scalar.addi v657 v775
  let v939 : Index := Scalar.indexCast v776
  let c0_769 : Index := 0#32
  ![v939.toNat, 0]
def k0_off18_at (r : Fin 2) : BitVec 32 × BitVec 32 × BitVec 32 × BitVec 32 × BitVec 32 × BitVec 32 :=
  if r.val < 1 then
    (0#32, 0#32, 2#32, 1#32, 3#32, 3#32)
  else
    (512#32, 2#32, 0#32, 3#32, 1#32, 1#32)
def k0_off19 (d0 : Dev nD) (c0_i32_318 : BitVec 32) (c0_i32_316 : BitVec 32) (c2_i32_407 : BitVec 32) (c1_i32_473 : BitVec 32) (c3_i32_540 : BitVec 32) (c3_i32_628 : BitVec 32) (c1_i32_666 : BitVec 32) (c2_i32_728 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v572 : BitVec 32 := Scalar.shrsi v2 c1_i32_473
  let c1_i32_474 : BitVec 32 := 1#32
  let v573 : BitVec 32 := Scalar.andi v572 c1_i32_474
  let c64_i32_475 : BitVec 32 := 64#32
  let v574 : BitVec 32 := Scalar.muli v573 c64_i32_475
  let v575 : BitVec 32 := Scalar.addi v493 v574
  let v654 : BitVec 32 := Scalar.shrsi v2 c3_i32_540
  let c1_i32_541 : BitVec 32 := 1#32
  let v655 : BitVec 32 := Scalar.andi v654 c1_i32_541
  let c32_i32_542 : BitVec 32 := 32#32
  let v656 : BitVec 32 := Scalar.muli v655 c32_i32_542
  let v657 : BitVec 32 := Scalar.addi v575 v656
  let v762 : BitVec 32 := Scalar.shrsi v2 c3_i32_628
  let c1_i32_629 : BitVec 32 := 1#32
  let v763 : BitVec 32 := Scalar.andi v762 c1_i32_629
  let c32_i32_665 : BitVec 32 := 32#32
  let v809 : BitVec 32 := Scalar.muli v763 c32_i32_665
  let v810 : BitVec 32 := Scalar.subi v657 v809
  let v811 : BitVec 32 := Scalar.shrsi v2 c1_i32_666
  let c1_i32_667 : BitVec 32 := 1#32
  let v812 : BitVec 32 := Scalar.andi v811 c1_i32_667
  let c64_i32_727 : BitVec 32 := 64#32
  let v887 : BitVec 32 := Scalar.muli v812 c64_i32_727
  let v888 : BitVec 32 := Scalar.subi v810 v887
  let v889 : BitVec 32 := Scalar.shrsi v2 c2_i32_728
  let c1_i32_729 : BitVec 32 := 1#32
  let v890 : BitVec 32 := Scalar.andi v889 c1_i32_729
  let c128_i32_788 : BitVec 32 := 128#32
  let v965 : BitVec 32 := Scalar.muli v890 c128_i32_788
  let v966 : BitVec 32 := Scalar.subi v888 v965
  let c0_i32_796 : BitVec 32 := 0#32
  ![v966.toNat, 0]
def k0_off19_at (r : Fin 2) : BitVec 32 × BitVec 32 × BitVec 32 × BitVec 32 × BitVec 32 × BitVec 32 × BitVec 32 × BitVec 32 :=
  if r.val < 1 then
    (0#32, 0#32, 2#32, 1#32, 3#32, 3#32, 1#32, 2#32)
  else
    (512#32, 2#32, 0#32, 3#32, 1#32, 1#32, 3#32, 0#32)
def k0_dev34 (d0 : Dev nD) : Nat :=
  let c0_i32_795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_791 : BitVec 32 := 1#32
  let v969 : BitVec 32 := Scalar.xori v2 c1_i32_791
  let c1_i32_794 : BitVec 32 := 1#32
  let v970 : BitVec 32 := Scalar.muli v969 c1_i32_794
  let v971 : BitVec 32 := Scalar.addi c0_i32_795 v970
  v971.toNat
def k0_dev35 (d0 : Dev nD) : Nat :=
  let c0_i32_819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_815 : BitVec 32 := 4#32
  let v996 : BitVec 32 := Scalar.xori v2 c4_i32_815
  let c1_i32_818 : BitVec 32 := 1#32
  let v997 : BitVec 32 := Scalar.muli v996 c1_i32_818
  let v998 : BitVec 32 := Scalar.addi c0_i32_819 v997
  v998.toNat
def k0_off20 (d0 : Dev nD) (c0_i32_318 : BitVec 32) (c0_i32_316 : BitVec 32) (c2_i32_407 : BitVec 32) (c1_i32_473 : BitVec 32) (c3_i32_540 : BitVec 32) (c3_i32_628 : BitVec 32) (c1_i32_666 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v572 : BitVec 32 := Scalar.shrsi v2 c1_i32_473
  let c1_i32_474 : BitVec 32 := 1#32
  let v573 : BitVec 32 := Scalar.andi v572 c1_i32_474
  let c64_i32_475 : BitVec 32 := 64#32
  let v574 : BitVec 32 := Scalar.muli v573 c64_i32_475
  let v575 : BitVec 32 := Scalar.addi v493 v574
  let v654 : BitVec 32 := Scalar.shrsi v2 c3_i32_540
  let c1_i32_541 : BitVec 32 := 1#32
  let v655 : BitVec 32 := Scalar.andi v654 c1_i32_541
  let c32_i32_542 : BitVec 32 := 32#32
  let v656 : BitVec 32 := Scalar.muli v655 c32_i32_542
  let v657 : BitVec 32 := Scalar.addi v575 v656
  let v762 : BitVec 32 := Scalar.shrsi v2 c3_i32_628
  let c1_i32_629 : BitVec 32 := 1#32
  let v763 : BitVec 32 := Scalar.andi v762 c1_i32_629
  let c32_i32_665 : BitVec 32 := 32#32
  let v809 : BitVec 32 := Scalar.muli v763 c32_i32_665
  let v810 : BitVec 32 := Scalar.subi v657 v809
  let c1_i32_676 : BitVec 32 := 1#32
  let c2_i32_675 : BitVec 32 := 2#32
  let v811 : BitVec 32 := Scalar.shrsi v2 c1_i32_666
  let c1_i32_667 : BitVec 32 := 1#32
  let v812 : BitVec 32 := Scalar.andi v811 c1_i32_667
  let v822 : BitVec 32 := Scalar.muli c2_i32_675 v812
  let v823 : BitVec 32 := Scalar.subi c1_i32_676 v822
  let c64_i32_677 : BitVec 32 := 64#32
  let v824 : BitVec 32 := Scalar.muli v823 c64_i32_677
  let v825 : BitVec 32 := Scalar.addi v810 v824
  let v1009 : Index := Scalar.indexCast v825
  let c0_825 : Index := 0#32
  ![v1009.toNat, 0]
def k0_off20_at (r : Fin 2) : BitVec 32 × BitVec 32 × BitVec 32 × BitVec 32 × BitVec 32 × BitVec 32 × BitVec 32 :=
  if r.val < 1 then
    (0#32, 0#32, 2#32, 1#32, 3#32, 3#32, 1#32)
  else
    (512#32, 2#32, 0#32, 3#32, 1#32, 1#32, 3#32)
def k0_off21 (d0 : Dev nD) (c0_i32_318 : BitVec 32) (c0_i32_316 : BitVec 32) (c2_i32_407 : BitVec 32) (c1_i32_473 : BitVec 32) (c3_i32_540 : BitVec 32) (c3_i32_628 : BitVec 32) (c1_i32_666 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v572 : BitVec 32 := Scalar.shrsi v2 c1_i32_473
  let c1_i32_474 : BitVec 32 := 1#32
  let v573 : BitVec 32 := Scalar.andi v572 c1_i32_474
  let c64_i32_475 : BitVec 32 := 64#32
  let v574 : BitVec 32 := Scalar.muli v573 c64_i32_475
  let v575 : BitVec 32 := Scalar.addi v493 v574
  let v654 : BitVec 32 := Scalar.shrsi v2 c3_i32_540
  let c1_i32_541 : BitVec 32 := 1#32
  let v655 : BitVec 32 := Scalar.andi v654 c1_i32_541
  let c32_i32_542 : BitVec 32 := 32#32
  let v656 : BitVec 32 := Scalar.muli v655 c32_i32_542
  let v657 : BitVec 32 := Scalar.addi v575 v656
  let v762 : BitVec 32 := Scalar.shrsi v2 c3_i32_628
  let c1_i32_629 : BitVec 32 := 1#32
  let v763 : BitVec 32 := Scalar.andi v762 c1_i32_629
  let c32_i32_665 : BitVec 32 := 32#32
  let v809 : BitVec 32 := Scalar.muli v763 c32_i32_665
  let v810 : BitVec 32 := Scalar.subi v657 v809
  let c1_i32_676 : BitVec 32 := 1#32
  let c2_i32_675 : BitVec 32 := 2#32
  let v811 : BitVec 32 := Scalar.shrsi v2 c1_i32_666
  let c1_i32_667 : BitVec 32 := 1#32
  let v812 : BitVec 32 := Scalar.andi v811 c1_i32_667
  let v822 : BitVec 32 := Scalar.muli c2_i32_675 v812
  let v823 : BitVec 32 := Scalar.subi c1_i32_676 v822
  let c64_i32_677 : BitVec 32 := 64#32
  let v824 : BitVec 32 := Scalar.muli v823 c64_i32_677
  let v825 : BitVec 32 := Scalar.addi v810 v824
  let v1017 : Index := Scalar.indexCast v825
  let c0_831 : Index := 0#32
  ![v1017.toNat, 0]
def k0_off21_at (r : Fin 2) : BitVec 32 × BitVec 32 × BitVec 32 × BitVec 32 × BitVec 32 × BitVec 32 × BitVec 32 :=
  if r.val < 1 then
    (0#32, 0#32, 2#32, 1#32, 3#32, 3#32, 1#32)
  else
    (512#32, 2#32, 0#32, 3#32, 1#32, 1#32, 3#32)
def k0_off22 (d0 : Dev nD) (c0_i32_318 : BitVec 32) (c0_i32_316 : BitVec 32) (c2_i32_407 : BitVec 32) (c1_i32_473 : BitVec 32) (c3_i32_540 : BitVec 32) (c3_i32_628 : BitVec 32) (c1_i32_666 : BitVec 32) (c2_i32_728 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v572 : BitVec 32 := Scalar.shrsi v2 c1_i32_473
  let c1_i32_474 : BitVec 32 := 1#32
  let v573 : BitVec 32 := Scalar.andi v572 c1_i32_474
  let c64_i32_475 : BitVec 32 := 64#32
  let v574 : BitVec 32 := Scalar.muli v573 c64_i32_475
  let v575 : BitVec 32 := Scalar.addi v493 v574
  let v654 : BitVec 32 := Scalar.shrsi v2 c3_i32_540
  let c1_i32_541 : BitVec 32 := 1#32
  let v655 : BitVec 32 := Scalar.andi v654 c1_i32_541
  let c32_i32_542 : BitVec 32 := 32#32
  let v656 : BitVec 32 := Scalar.muli v655 c32_i32_542
  let v657 : BitVec 32 := Scalar.addi v575 v656
  let v762 : BitVec 32 := Scalar.shrsi v2 c3_i32_628
  let c1_i32_629 : BitVec 32 := 1#32
  let v763 : BitVec 32 := Scalar.andi v762 c1_i32_629
  let c32_i32_665 : BitVec 32 := 32#32
  let v809 : BitVec 32 := Scalar.muli v763 c32_i32_665
  let v810 : BitVec 32 := Scalar.subi v657 v809
  let v811 : BitVec 32 := Scalar.shrsi v2 c1_i32_666
  let c1_i32_667 : BitVec 32 := 1#32
  let v812 : BitVec 32 := Scalar.andi v811 c1_i32_667
  let c64_i32_727 : BitVec 32 := 64#32
  let v887 : BitVec 32 := Scalar.muli v812 c64_i32_727
  let v888 : BitVec 32 := Scalar.subi v810 v887
  let c1_i32_738 : BitVec 32 := 1#32
  let c2_i32_737 : BitVec 32 := 2#32
  let v889 : BitVec 32 := Scalar.shrsi v2 c2_i32_728
  let c1_i32_729 : BitVec 32 := 1#32
  let v890 : BitVec 32 := Scalar.andi v889 c1_i32_729
  let v900 : BitVec 32 := Scalar.muli c2_i32_737 v890
  let v901 : BitVec 32 := Scalar.subi c1_i32_738 v900
  let c128_i32_739 : BitVec 32 := 128#32
  let v902 : BitVec 32 := Scalar.muli v901 c128_i32_739
  let v903 : BitVec 32 := Scalar.addi v888 v902
  let v1053 : Index := Scalar.indexCast v903
  let c0_861 : Index := 0#32
  ![v1053.toNat, 0]
def k0_off22_at (r : Fin 2) : BitVec 32 × BitVec 32 × BitVec 32 × BitVec 32 × BitVec 32 × BitVec 32 × BitVec 32 × BitVec 32 :=
  if r.val < 1 then
    (0#32, 0#32, 2#32, 1#32, 3#32, 3#32, 1#32, 2#32)
  else
    (512#32, 2#32, 0#32, 3#32, 1#32, 1#32, 3#32, 0#32)
def k0_off23 (d0 : Dev nD) (c0_i32_318 : BitVec 32) (c0_i32_316 : BitVec 32) (c2_i32_407 : BitVec 32) (c1_i32_473 : BitVec 32) (c3_i32_540 : BitVec 32) (c3_i32_628 : BitVec 32) (c1_i32_666 : BitVec 32) (c2_i32_728 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v572 : BitVec 32 := Scalar.shrsi v2 c1_i32_473
  let c1_i32_474 : BitVec 32 := 1#32
  let v573 : BitVec 32 := Scalar.andi v572 c1_i32_474
  let c64_i32_475 : BitVec 32 := 64#32
  let v574 : BitVec 32 := Scalar.muli v573 c64_i32_475
  let v575 : BitVec 32 := Scalar.addi v493 v574
  let v654 : BitVec 32 := Scalar.shrsi v2 c3_i32_540
  let c1_i32_541 : BitVec 32 := 1#32
  let v655 : BitVec 32 := Scalar.andi v654 c1_i32_541
  let c32_i32_542 : BitVec 32 := 32#32
  let v656 : BitVec 32 := Scalar.muli v655 c32_i32_542
  let v657 : BitVec 32 := Scalar.addi v575 v656
  let v762 : BitVec 32 := Scalar.shrsi v2 c3_i32_628
  let c1_i32_629 : BitVec 32 := 1#32
  let v763 : BitVec 32 := Scalar.andi v762 c1_i32_629
  let c32_i32_665 : BitVec 32 := 32#32
  let v809 : BitVec 32 := Scalar.muli v763 c32_i32_665
  let v810 : BitVec 32 := Scalar.subi v657 v809
  let v811 : BitVec 32 := Scalar.shrsi v2 c1_i32_666
  let c1_i32_667 : BitVec 32 := 1#32
  let v812 : BitVec 32 := Scalar.andi v811 c1_i32_667
  let c64_i32_727 : BitVec 32 := 64#32
  let v887 : BitVec 32 := Scalar.muli v812 c64_i32_727
  let v888 : BitVec 32 := Scalar.subi v810 v887
  let c1_i32_738 : BitVec 32 := 1#32
  let c2_i32_737 : BitVec 32 := 2#32
  let v889 : BitVec 32 := Scalar.shrsi v2 c2_i32_728
  let c1_i32_729 : BitVec 32 := 1#32
  let v890 : BitVec 32 := Scalar.andi v889 c1_i32_729
  let v900 : BitVec 32 := Scalar.muli c2_i32_737 v890
  let v901 : BitVec 32 := Scalar.subi c1_i32_738 v900
  let c128_i32_739 : BitVec 32 := 128#32
  let v902 : BitVec 32 := Scalar.muli v901 c128_i32_739
  let v903 : BitVec 32 := Scalar.addi v888 v902
  let v1061 : Index := Scalar.indexCast v903
  let c0_867 : Index := 0#32
  ![v1061.toNat, 0]
def k0_off23_at (r : Fin 2) : BitVec 32 × BitVec 32 × BitVec 32 × BitVec 32 × BitVec 32 × BitVec 32 × BitVec 32 × BitVec 32 :=
  if r.val < 1 then
    (0#32, 0#32, 2#32, 1#32, 3#32, 3#32, 1#32, 2#32)
  else
    (512#32, 2#32, 0#32, 3#32, 1#32, 1#32, 3#32, 0#32)
def k0_off24 (d0 : Dev nD) (c0_i32_318 : BitVec 32) (c0_i32_316 : BitVec 32) (c2_i32_407 : BitVec 32) (c1_i32_473 : BitVec 32) (c3_i32_540 : BitVec 32) (c3_i32_628 : BitVec 32) (c1_i32_666 : BitVec 32) (c2_i32_728 : BitVec 32) (c0_i32_789 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v572 : BitVec 32 := Scalar.shrsi v2 c1_i32_473
  let c1_i32_474 : BitVec 32 := 1#32
  let v573 : BitVec 32 := Scalar.andi v572 c1_i32_474
  let c64_i32_475 : BitVec 32 := 64#32
  let v574 : BitVec 32 := Scalar.muli v573 c64_i32_475
  let v575 : BitVec 32 := Scalar.addi v493 v574
  let v654 : BitVec 32 := Scalar.shrsi v2 c3_i32_540
  let c1_i32_541 : BitVec 32 := 1#32
  let v655 : BitVec 32 := Scalar.andi v654 c1_i32_541
  let c32_i32_542 : BitVec 32 := 32#32
  let v656 : BitVec 32 := Scalar.muli v655 c32_i32_542
  let v657 : BitVec 32 := Scalar.addi v575 v656
  let v762 : BitVec 32 := Scalar.shrsi v2 c3_i32_628
  let c1_i32_629 : BitVec 32 := 1#32
  let v763 : BitVec 32 := Scalar.andi v762 c1_i32_629
  let c32_i32_665 : BitVec 32 := 32#32
  let v809 : BitVec 32 := Scalar.muli v763 c32_i32_665
  let v810 : BitVec 32 := Scalar.subi v657 v809
  let v811 : BitVec 32 := Scalar.shrsi v2 c1_i32_666
  let c1_i32_667 : BitVec 32 := 1#32
  let v812 : BitVec 32 := Scalar.andi v811 c1_i32_667
  let c64_i32_727 : BitVec 32 := 64#32
  let v887 : BitVec 32 := Scalar.muli v812 c64_i32_727
  let v888 : BitVec 32 := Scalar.subi v810 v887
  let v889 : BitVec 32 := Scalar.shrsi v2 c2_i32_728
  let c1_i32_729 : BitVec 32 := 1#32
  let v890 : BitVec 32 := Scalar.andi v889 c1_i32_729
  let c128_i32_788 : BitVec 32 := 128#32
  let v965 : BitVec 32 := Scalar.muli v890 c128_i32_788
  let v966 : BitVec 32 := Scalar.subi v888 v965
  let c1_i32_799 : BitVec 32 := 1#32
  let c2_i32_798 : BitVec 32 := 2#32
  let v967 : BitVec 32 := Scalar.shrsi v2 c0_i32_789
  let c1_i32_790 : BitVec 32 := 1#32
  let v968 : BitVec 32 := Scalar.andi v967 c1_i32_790
  let v978 : BitVec 32 := Scalar.muli c2_i32_798 v968
  let v979 : BitVec 32 := Scalar.subi c1_i32_799 v978
  let c256_i32_800 : BitVec 32 := 256#32
  let v980 : BitVec 32 := Scalar.muli v979 c256_i32_800
  let v981 : BitVec 32 := Scalar.addi v966 v980
  let v1077 : Index := Scalar.indexCast v981
  let c0_875 : Index := 0#32
  ![v1077.toNat, 0]
def k0_off24_at (r : Fin 2) : BitVec 32 × BitVec 32 × BitVec 32 × BitVec 32 × BitVec 32 × BitVec 32 × BitVec 32 × BitVec 32 × BitVec 32 :=
  if r.val < 1 then
    (0#32, 0#32, 2#32, 1#32, 3#32, 3#32, 1#32, 2#32, 0#32)
  else
    (512#32, 2#32, 0#32, 3#32, 1#32, 1#32, 3#32, 0#32, 2#32)
def k0_off25 (d0 : Dev nD) (c0_i32_318 : BitVec 32) (c0_i32_316 : BitVec 32) (c2_i32_407 : BitVec 32) (c1_i32_473 : BitVec 32) (c3_i32_540 : BitVec 32) (c3_i32_628 : BitVec 32) (c1_i32_666 : BitVec 32) (c2_i32_728 : BitVec 32) (c0_i32_789 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v373 : BitVec 32 := Scalar.shrsi v2 c0_i32_316
  let c1_i32_317 : BitVec 32 := 1#32
  let v374 : BitVec 32 := Scalar.andi v373 c1_i32_317
  let c256_i32 : BitVec 32 := 256#32
  let v375 : BitVec 32 := Scalar.muli v374 c256_i32
  let v376 : BitVec 32 := Scalar.addi c0_i32_318 v375
  let v490 : BitVec 32 := Scalar.shrsi v2 c2_i32_407
  let c1_i32_408 : BitVec 32 := 1#32
  let v491 : BitVec 32 := Scalar.andi v490 c1_i32_408
  let c128_i32 : BitVec 32 := 128#32
  let v492 : BitVec 32 := Scalar.muli v491 c128_i32
  let v493 : BitVec 32 := Scalar.addi v376 v492
  let v572 : BitVec 32 := Scalar.shrsi v2 c1_i32_473
  let c1_i32_474 : BitVec 32 := 1#32
  let v573 : BitVec 32 := Scalar.andi v572 c1_i32_474
  let c64_i32_475 : BitVec 32 := 64#32
  let v574 : BitVec 32 := Scalar.muli v573 c64_i32_475
  let v575 : BitVec 32 := Scalar.addi v493 v574
  let v654 : BitVec 32 := Scalar.shrsi v2 c3_i32_540
  let c1_i32_541 : BitVec 32 := 1#32
  let v655 : BitVec 32 := Scalar.andi v654 c1_i32_541
  let c32_i32_542 : BitVec 32 := 32#32
  let v656 : BitVec 32 := Scalar.muli v655 c32_i32_542
  let v657 : BitVec 32 := Scalar.addi v575 v656
  let v762 : BitVec 32 := Scalar.shrsi v2 c3_i32_628
  let c1_i32_629 : BitVec 32 := 1#32
  let v763 : BitVec 32 := Scalar.andi v762 c1_i32_629
  let c32_i32_665 : BitVec 32 := 32#32
  let v809 : BitVec 32 := Scalar.muli v763 c32_i32_665
  let v810 : BitVec 32 := Scalar.subi v657 v809
  let v811 : BitVec 32 := Scalar.shrsi v2 c1_i32_666
  let c1_i32_667 : BitVec 32 := 1#32
  let v812 : BitVec 32 := Scalar.andi v811 c1_i32_667
  let c64_i32_727 : BitVec 32 := 64#32
  let v887 : BitVec 32 := Scalar.muli v812 c64_i32_727
  let v888 : BitVec 32 := Scalar.subi v810 v887
  let v889 : BitVec 32 := Scalar.shrsi v2 c2_i32_728
  let c1_i32_729 : BitVec 32 := 1#32
  let v890 : BitVec 32 := Scalar.andi v889 c1_i32_729
  let c128_i32_788 : BitVec 32 := 128#32
  let v965 : BitVec 32 := Scalar.muli v890 c128_i32_788
  let v966 : BitVec 32 := Scalar.subi v888 v965
  let c1_i32_799 : BitVec 32 := 1#32
  let c2_i32_798 : BitVec 32 := 2#32
  let v967 : BitVec 32 := Scalar.shrsi v2 c0_i32_789
  let c1_i32_790 : BitVec 32 := 1#32
  let v968 : BitVec 32 := Scalar.andi v967 c1_i32_790
  let v978 : BitVec 32 := Scalar.muli c2_i32_798 v968
  let v979 : BitVec 32 := Scalar.subi c1_i32_799 v978
  let c256_i32_800 : BitVec 32 := 256#32
  let v980 : BitVec 32 := Scalar.muli v979 c256_i32_800
  let v981 : BitVec 32 := Scalar.addi v966 v980
  let v1085 : Index := Scalar.indexCast v981
  let c0_881 : Index := 0#32
  ![v1085.toNat, 0]
def k0_off25_at (r : Fin 2) : BitVec 32 × BitVec 32 × BitVec 32 × BitVec 32 × BitVec 32 × BitVec 32 × BitVec 32 × BitVec 32 × BitVec 32 :=
  if r.val < 1 then
    (0#32, 0#32, 2#32, 1#32, 3#32, 3#32, 1#32, 2#32, 0#32)
  else
    (512#32, 2#32, 0#32, 3#32, 1#32, 1#32, 3#32, 0#32, 2#32)
def k0_dev36 (d0 : Dev nD) : Nat :=
  let c0_i32_909 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_905 : BitVec 32 := 1#32
  let v1123 : BitVec 32 := Scalar.xori v2 c1_i32_905
  let c1_i32_908 : BitVec 32 := 1#32
  let v1124 : BitVec 32 := Scalar.muli v1123 c1_i32_908
  let v1125 : BitVec 32 := Scalar.addi c0_i32_909 v1124
  v1125.toNat
def k0_dev37 (d0 : Dev nD) : Nat :=
  let c0_i32_934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_930 : BitVec 32 := 4#32
  let v1154 : BitVec 32 := Scalar.xori v2 c4_i32_930
  let c1_i32_933 : BitVec 32 := 1#32
  let v1155 : BitVec 32 := Scalar.muli v1154 c1_i32_933
  let v1156 : BitVec 32 := Scalar.addi c0_i32_934 v1155
  v1156.toNat
def k0_dev38 (d0 : Dev nD) : Nat :=
  let c0_i32_994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_990 : BitVec 32 := 4#32
  let v1227 : BitVec 32 := Scalar.xori v2 c4_i32_990
  let c1_i32_993 : BitVec 32 := 1#32
  let v1228 : BitVec 32 := Scalar.muli v1227 c1_i32_993
  let v1229 : BitVec 32 := Scalar.addi c0_i32_994 v1228
  v1229.toNat
def k0_dev39 (d0 : Dev nD) : Nat :=
  let c0_i32_1030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1026 : BitVec 32 := 1#32
  let v1268 : BitVec 32 := Scalar.xori v2 c1_i32_1026
  let c1_i32_1029 : BitVec 32 := 1#32
  let v1269 : BitVec 32 := Scalar.muli v1268 c1_i32_1029
  let v1270 : BitVec 32 := Scalar.addi c0_i32_1030 v1269
  v1270.toNat
def k0_dev40 (d0 : Dev nD) : Nat :=
  let c0_i32_1066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1062 : BitVec 32 := 2#32
  let v1309 : BitVec 32 := Scalar.xori v2 c2_i32_1062
  let c1_i32_1065 : BitVec 32 := 1#32
  let v1310 : BitVec 32 := Scalar.muli v1309 c1_i32_1065
  let v1311 : BitVec 32 := Scalar.addi c0_i32_1066 v1310
  v1311.toNat
def k0_dev41 (d0 : Dev nD) : Nat :=
  let c0_i32_1102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1098 : BitVec 32 := 8#32
  let v1350 : BitVec 32 := Scalar.xori v2 c8_i32_1098
  let c1_i32_1101 : BitVec 32 := 1#32
  let v1351 : BitVec 32 := Scalar.muli v1350 c1_i32_1101
  let v1352 : BitVec 32 := Scalar.addi c0_i32_1102 v1351
  v1352.toNat
def k0_dev42 (d0 : Dev nD) : Nat :=
  let c0_i32_1138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1134 : BitVec 32 := 8#32
  let v1391 : BitVec 32 := Scalar.xori v2 c8_i32_1134
  let c1_i32_1137 : BitVec 32 := 1#32
  let v1392 : BitVec 32 := Scalar.muli v1391 c1_i32_1137
  let v1393 : BitVec 32 := Scalar.addi c0_i32_1138 v1392
  v1393.toNat
def k0_dev43 (d0 : Dev nD) : Nat :=
  let c0_i32_1174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1170 : BitVec 32 := 2#32
  let v1432 : BitVec 32 := Scalar.xori v2 c2_i32_1170
  let c1_i32_1173 : BitVec 32 := 1#32
  let v1433 : BitVec 32 := Scalar.muli v1432 c1_i32_1173
  let v1434 : BitVec 32 := Scalar.addi c0_i32_1174 v1433
  v1434.toNat
def k0_dev44 (d0 : Dev nD) : Nat :=
  let c0_i32_1225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1221 : BitVec 32 := 8#32
  let v1488 : BitVec 32 := Scalar.xori v2 c8_i32_1221
  let c1_i32_1224 : BitVec 32 := 1#32
  let v1489 : BitVec 32 := Scalar.muli v1488 c1_i32_1224
  let v1490 : BitVec 32 := Scalar.addi c0_i32_1225 v1489
  v1490.toNat
def k0_dev45 (d0 : Dev nD) : Nat :=
  let c0_i32_1239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1235 : BitVec 32 := 2#32
  let v1510 : BitVec 32 := Scalar.xori v2 c2_i32_1235
  let c1_i32_1238 : BitVec 32 := 1#32
  let v1511 : BitVec 32 := Scalar.muli v1510 c1_i32_1238
  let v1512 : BitVec 32 := Scalar.addi c0_i32_1239 v1511
  v1512.toNat
def k0_dev46 (d0 : Dev nD) : Nat :=
  let c0_i32_1263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1259 : BitVec 32 := 2#32
  let v1537 : BitVec 32 := Scalar.xori v2 c2_i32_1259
  let c1_i32_1262 : BitVec 32 := 1#32
  let v1538 : BitVec 32 := Scalar.muli v1537 c1_i32_1262
  let v1539 : BitVec 32 := Scalar.addi c0_i32_1263 v1538
  v1539.toNat
def k0_dev47 (d0 : Dev nD) : Nat :=
  let c0_i32_1287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1283 : BitVec 32 := 8#32
  let v1564 : BitVec 32 := Scalar.xori v2 c8_i32_1283
  let c1_i32_1286 : BitVec 32 := 1#32
  let v1565 : BitVec 32 := Scalar.muli v1564 c1_i32_1286
  let v1566 : BitVec 32 := Scalar.addi c0_i32_1287 v1565
  v1566.toNat
def k0_dev48 (d0 : Dev nD) : Nat :=
  let c0_i32_1325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1321 : BitVec 32 := 4#32
  let v1615 : BitVec 32 := Scalar.xori v2 c4_i32_1321
  let c1_i32_1324 : BitVec 32 := 1#32
  let v1616 : BitVec 32 := Scalar.muli v1615 c1_i32_1324
  let v1617 : BitVec 32 := Scalar.addi c0_i32_1325 v1616
  v1617.toNat
def k0_dev49 (d0 : Dev nD) : Nat :=
  let c0_i32_1349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1345 : BitVec 32 := 1#32
  let v1642 : BitVec 32 := Scalar.xori v2 c1_i32_1345
  let c1_i32_1348 : BitVec 32 := 1#32
  let v1643 : BitVec 32 := Scalar.muli v1642 c1_i32_1348
  let v1644 : BitVec 32 := Scalar.addi c0_i32_1349 v1643
  v1644.toNat
def k0_dev50 (d0 : Dev nD) : Nat :=
  let c0_i32_1387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1383 : BitVec 32 := 1#32
  let v1693 : BitVec 32 := Scalar.xori v2 c1_i32_1383
  let c1_i32_1386 : BitVec 32 := 1#32
  let v1694 : BitVec 32 := Scalar.muli v1693 c1_i32_1386
  let v1695 : BitVec 32 := Scalar.addi c0_i32_1387 v1694
  v1695.toNat
def k0_dev51 (d0 : Dev nD) : Nat :=
  let c0_i32_1411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1407 : BitVec 32 := 4#32
  let v1720 : BitVec 32 := Scalar.xori v2 c4_i32_1407
  let c1_i32_1410 : BitVec 32 := 1#32
  let v1721 : BitVec 32 := Scalar.muli v1720 c1_i32_1410
  let v1722 : BitVec 32 := Scalar.addi c0_i32_1411 v1721
  v1722.toNat
def k0_dev52 (d0 : Dev nD) : Nat :=
  let c0_i32_1501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1497 : BitVec 32 := 1#32
  let v1847 : BitVec 32 := Scalar.xori v2 c1_i32_1497
  let c1_i32_1500 : BitVec 32 := 1#32
  let v1848 : BitVec 32 := Scalar.muli v1847 c1_i32_1500
  let v1849 : BitVec 32 := Scalar.addi c0_i32_1501 v1848
  v1849.toNat
def k0_dev53 (d0 : Dev nD) : Nat :=
  let c0_i32_1526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1522 : BitVec 32 := 4#32
  let v1878 : BitVec 32 := Scalar.xori v2 c4_i32_1522
  let c1_i32_1525 : BitVec 32 := 1#32
  let v1879 : BitVec 32 := Scalar.muli v1878 c1_i32_1525
  let v1880 : BitVec 32 := Scalar.addi c0_i32_1526 v1879
  v1880.toNat
def k0_dev54 (d0 : Dev nD) : Nat :=
  let c0_i32_1574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1570 : BitVec 32 := 4#32
  let v1937 : BitVec 32 := Scalar.xori v2 c4_i32_1570
  let c1_i32_1573 : BitVec 32 := 1#32
  let v1938 : BitVec 32 := Scalar.muli v1937 c1_i32_1573
  let v1939 : BitVec 32 := Scalar.addi c0_i32_1574 v1938
  v1939.toNat
def k0_dev55 (d0 : Dev nD) : Nat :=
  let c0_i32_1610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1606 : BitVec 32 := 1#32
  let v1978 : BitVec 32 := Scalar.xori v2 c1_i32_1606
  let c1_i32_1609 : BitVec 32 := 1#32
  let v1979 : BitVec 32 := Scalar.muli v1978 c1_i32_1609
  let v1980 : BitVec 32 := Scalar.addi c0_i32_1610 v1979
  v1980.toNat
def k0_dev56 (d0 : Dev nD) : Nat :=
  let c0_i32_1646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1642 : BitVec 32 := 2#32
  let v2019 : BitVec 32 := Scalar.xori v2 c2_i32_1642
  let c1_i32_1645 : BitVec 32 := 1#32
  let v2020 : BitVec 32 := Scalar.muli v2019 c1_i32_1645
  let v2021 : BitVec 32 := Scalar.addi c0_i32_1646 v2020
  v2021.toNat
def k0_dev57 (d0 : Dev nD) : Nat :=
  let c0_i32_1682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1678 : BitVec 32 := 8#32
  let v2060 : BitVec 32 := Scalar.xori v2 c8_i32_1678
  let c1_i32_1681 : BitVec 32 := 1#32
  let v2061 : BitVec 32 := Scalar.muli v2060 c1_i32_1681
  let v2062 : BitVec 32 := Scalar.addi c0_i32_1682 v2061
  v2062.toNat
def k0_dev58 (d0 : Dev nD) : Nat :=
  let c0_i32_1718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1714 : BitVec 32 := 8#32
  let v2101 : BitVec 32 := Scalar.xori v2 c8_i32_1714
  let c1_i32_1717 : BitVec 32 := 1#32
  let v2102 : BitVec 32 := Scalar.muli v2101 c1_i32_1717
  let v2103 : BitVec 32 := Scalar.addi c0_i32_1718 v2102
  v2103.toNat
def k0_dev59 (d0 : Dev nD) : Nat :=
  let c0_i32_1754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1750 : BitVec 32 := 2#32
  let v2142 : BitVec 32 := Scalar.xori v2 c2_i32_1750
  let c1_i32_1753 : BitVec 32 := 1#32
  let v2143 : BitVec 32 := Scalar.muli v2142 c1_i32_1753
  let v2144 : BitVec 32 := Scalar.addi c0_i32_1754 v2143
  v2144.toNat
def k0_dev60 (d0 : Dev nD) : Nat :=
  let c0_i32_1805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1801 : BitVec 32 := 8#32
  let v2198 : BitVec 32 := Scalar.xori v2 c8_i32_1801
  let c1_i32_1804 : BitVec 32 := 1#32
  let v2199 : BitVec 32 := Scalar.muli v2198 c1_i32_1804
  let v2200 : BitVec 32 := Scalar.addi c0_i32_1805 v2199
  v2200.toNat
def k0_dev61 (d0 : Dev nD) : Nat :=
  let c0_i32_1819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1815 : BitVec 32 := 2#32
  let v2220 : BitVec 32 := Scalar.xori v2 c2_i32_1815
  let c1_i32_1818 : BitVec 32 := 1#32
  let v2221 : BitVec 32 := Scalar.muli v2220 c1_i32_1818
  let v2222 : BitVec 32 := Scalar.addi c0_i32_1819 v2221
  v2222.toNat
def k0_dev62 (d0 : Dev nD) : Nat :=
  let c0_i32_1843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1839 : BitVec 32 := 2#32
  let v2247 : BitVec 32 := Scalar.xori v2 c2_i32_1839
  let c1_i32_1842 : BitVec 32 := 1#32
  let v2248 : BitVec 32 := Scalar.muli v2247 c1_i32_1842
  let v2249 : BitVec 32 := Scalar.addi c0_i32_1843 v2248
  v2249.toNat
def k0_dev63 (d0 : Dev nD) : Nat :=
  let c0_i32_1867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1863 : BitVec 32 := 8#32
  let v2274 : BitVec 32 := Scalar.xori v2 c8_i32_1863
  let c1_i32_1866 : BitVec 32 := 1#32
  let v2275 : BitVec 32 := Scalar.muli v2274 c1_i32_1866
  let v2276 : BitVec 32 := Scalar.addi c0_i32_1867 v2275
  v2276.toNat
def k0_dev64 (d0 : Dev nD) : Nat :=
  let c0_i32_1895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1891 : BitVec 32 := 4#32
  let v2311 : BitVec 32 := Scalar.xori v2 c4_i32_1891
  let c1_i32_1894 : BitVec 32 := 1#32
  let v2312 : BitVec 32 := Scalar.muli v2311 c1_i32_1894
  let v2313 : BitVec 32 := Scalar.addi c0_i32_1895 v2312
  v2313.toNat
def k0_dev65 (d0 : Dev nD) : Nat :=
  let c0_i32_1919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1915 : BitVec 32 := 1#32
  let v2338 : BitVec 32 := Scalar.xori v2 c1_i32_1915
  let c1_i32_1918 : BitVec 32 := 1#32
  let v2339 : BitVec 32 := Scalar.muli v2338 c1_i32_1918
  let v2340 : BitVec 32 := Scalar.addi c0_i32_1919 v2339
  v2340.toNat
def k0_dev66 (d0 : Dev nD) : Nat :=
  let c0_i32_1947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1943 : BitVec 32 := 1#32
  let v2375 : BitVec 32 := Scalar.xori v2 c1_i32_1943
  let c1_i32_1946 : BitVec 32 := 1#32
  let v2376 : BitVec 32 := Scalar.muli v2375 c1_i32_1946
  let v2377 : BitVec 32 := Scalar.addi c0_i32_1947 v2376
  v2377.toNat
def k0_dev67 (d0 : Dev nD) : Nat :=
  let c0_i32_1971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1967 : BitVec 32 := 4#32
  let v2402 : BitVec 32 := Scalar.xori v2 c4_i32_1967
  let c1_i32_1970 : BitVec 32 := 1#32
  let v2403 : BitVec 32 := Scalar.muli v2402 c1_i32_1970
  let v2404 : BitVec 32 := Scalar.addi c0_i32_1971 v2403
  v2404.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩
abbrev S1024x32768 : Shape := ⟨2, ![1024, 32768]⟩
abbrev S32768x1024 : Shape := ⟨2, ![32768, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x32768, .f32⟩
  | .hbm, ⟨2, _⟩ => ⟨S32768x1024, .f32⟩
  | .hbm, ⟨3, _⟩ => ⟨S1024x32768, .f32⟩
  | .hbm, ⟨4, _⟩ => ⟨S32768x1024, .f32⟩
  | .hbm, ⟨5, _⟩ => ⟨S1024x32768, .f32⟩
  | .hbm, ⟨6, _⟩ => ⟨S32768x1024, .f32⟩
  | .hbm, ⟨7, _⟩ => ⟨S1024x32768, .f32⟩
  | .hbm, ⟨8, _⟩ => ⟨S_, .f32⟩
  | .hbm, ⟨9, _⟩ => ⟨S1024x32768, .f32⟩
  | .hbm, ⟨10, _⟩ => ⟨S1024x32768, .f32⟩
  | .hbm, ⟨11, _⟩ => ⟨S1024x1024, .f32⟩
  | .hbm, ⟨12, _⟩ => ⟨S1024x32768, .f32⟩
  | .hbm, ⟨13, _⟩ => ⟨S_, .f32⟩
  | .hbm, ⟨14, _⟩ => ⟨S1024x32768, .f32⟩
  | .hbm, ⟨15, _⟩ => ⟨S1024x32768, .f32⟩
  | .hbm, ⟨16, _⟩ => ⟨S1024x1024, .f32⟩
  | .hbm, ⟨17, _⟩ => ⟨S1024x32768, .f32⟩
  | .hbm, ⟨18, _⟩ => ⟨S_, .f32⟩
  | .hbm, ⟨19, _⟩ => ⟨S1024x32768, .f32⟩
  | .hbm, ⟨20, _⟩ => ⟨S1024x32768, .f32⟩
  | .hbm, ⟨21, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Pieces.lean ====
/- The pieces the kernel's body is made of: each a short run of memory operations that the kernel
   repeats at different rows, slots and devices. -/
module

public import proofs.«01_k».proof.Proof.Gen.KernelIdeal.Skeleton
public import proofs.«01_k».proof.Proof.Gen.KernelIdeal.Points

@[expose] public section

noncomputable section

namespace Cert.KernelIdeal.Gen

open Idealize.ShloMosaic Idealize.ShloMosaic.TcCoe
open Idealize.SL Idealize.SL.Sem

/-- `n` rows of 1024. -/
abbrev Rows (n : ℕ) : Shape := ⟨2, ![n, 1024]⟩
/-- `n` rows of 2048. -/
abbrev HRows (n : ℕ) : Shape := ⟨2, ![n, 2048]⟩

/-! ## The buffers and semaphores -/

abbrev mX : Memref sig .tc .vmem S64x1024 .f32 := Memref.whole cc0_stg0_0
abbrev mO : Memref sig .tc .vmem S1024x1024 .f32 := Memref.whole cc0_stg1_0
abbrev mAcc : Memref sig .tc .vmem S1024x1024 .f32 := Memref.whole cc0_scratch0
abbrev mOut : Memref sig .tc .vmem S1024x1024 .bf16 := Memref.whole cc0_scratch1
abbrev mStage : Memref sig .tc .vmem S1024x1024 .bf16 := Memref.whole cc0_scratch2
abbrev mSend : Memref sig .tc .vmem S1024x1024 .bf16 := Memref.whole cc0_scratch3
abbrev mHact : Memref sig .tc .vmem S1024x2048 .bf16 := Memref.whole cc0_scratch4
abbrev mWst : Memref sig .tc .vmem S1024x2048 .f32 := Memref.whole cc0_scratch5
abbrev mOst : Memref sig .tc .vmem S2048x1024 .f32 := Memref.whole cc0_scratch6
abbrev mWin : Memref sig .tc .vmem S2x1024x2048 .bf16 := Memref.whole cc0_scratch7
abbrev mWout : Memref sig .tc .vmem S2x2048x1024 .bf16 := Memref.whole cc0_scratch8

/-- An entry of a 35-entry array of semaphores is an entry of it. -/
theorem inb35 (k : Fin 35) : ∀ a, (![k.val] : Fin 1 → ℕ) a + S1.size a ≤ S35.size a := by
  intro a; fin_cases a; show k.val + 1 ≤ 35; omega
theorem inb2 (k : Fin 2) : ∀ a, (![k.val] : Fin 1 → ℕ) a + S1.size a ≤ S2.size a := by
  intro a; fin_cases a; show k.val + 1 ≤ 2; omega

variable [Facts]

/-- The semaphore of slot `k` that a send credits on the sender, -/
abbrev sSend (k : Fin 35) : DmaSem sig :=
  ((cc0_scratch9.slice (Rect.unit (s := S35) ![k.val] S1.size (inb35 k))).squeeze S_ squeezes_S1_S_).sem
/-- and on the receiver. -/
abbrev sRecv (k : Fin 35) : DmaSem sig :=
  ((cc0_scratch10.slice (Rect.unit (s := S35) ![k.val] S1.size (inb35 k))).squeeze S_ squeezes_S1_S_).sem
/-- The semaphores of the two weight loads. -/
abbrev sCopy (k : Fin 2) : DmaSem sig :=
  ((cc0_scratch11.slice (Rect.unit (s := S2) ![k.val] S1.size (inb2 k))).squeeze S_ squeezes_S1_S_).sem
/-- The barrier semaphore. -/
abbrev sBar : Sem sig := (SemArray.scalar (d := ![]) (sig.barrier 0 rfl)).sem

variable {F : FTy → Type} [FloatOps F]

/-! ## What the pieces compute -/

def truncV (n : ℕ) (v : Vec F (Rows n) .f32) : FVec F (Rows n) .bf16 :=
  shapeCast (Rows n) (truncf .bf16 v bitsLt_bf16_f32) rfl
def addV (n : ℕ) (v : Vec F (Rows n) .f32) (w : Vec F (Rows n) .bf16) : FVec F (Rows n) .f32 :=
  shapeCast (Rows n) (addf v (extf .f32 w bitsLt_bf16_f32)) rfl
def extV (n : ℕ) (w : Vec F (Rows n) .bf16) : FVec F (Rows n) .f32 := extf .f32 w bitsLt_bf16_f32
def dotV (v : Vec F (HRows 256) .bf16) (w : Vec F S1x2048x1024 .bf16) : FVec F (Rows 256) .f32 :=
  shapeCast (Rows 256)
    (matmul (DotDims.plain 256 2048 1024) none v (shapeCast S2048x1024 w shapeCasts_S1x2048x1024_S2048x1024)
      (constant (Rows 256) .f32 0x00000000#32)) rfl
def consV (n : ℕ) (v : Vec F (Rows n) .bf16) (w : Vec F S1x1024x2048 .bf16) : FVec F (HRows n) .bf16 :=
  shapeCast (HRows n)
    (truncf .bf16 (maximumf
      (matmul (DotDims.plain n 1024 2048) none v (shapeCast S1024x2048 w shapeCasts_S1x1024x2048_S1024x2048)
        (constant (HRows n) .f32 0x00000000#32))
      (broadcast (HRows n) (Scalar.ofBits .f32 0x00000000#32))) bitsLt_bf16_f32) rfl
def headV (v : Vec F S1024x1024 .bf16) (w : Vec F S1x1024x1024 .bf16) : FVec F S1024x1024 .bf16 := k0_pay6 (k0_pay5 v w)

/-! ## Accesses -/

/-- A load of a rectangle, -/
def ld {s : Shape} {e : EltTy} (m : Memref sig .tc .vmem s e) (off : Fin s.rank → ℕ) (size : Fin s.rank → ℕ)
    (inb : ∀ a, off a + size a ≤ s.size a) (h : 0 < (Rect.unit (s := s) off size inb).toLoadRect.shape.numel) :
    Prog (TpuEff nD τ sig (Elt F) Λ₀ .tc) ((⟨s.rank, size⟩ : Shape).Idx → Elt F e) :=
  Prog.lift (.load m (Rect.unit (s := s) off size inb).toLoadRect (View.loadsAt_vmem h))
/-- and an unmasked store. -/
def st {s : Shape} {e : EltTy} (m : Memref sig .tc .vmem s e) (off : Fin s.rank → ℕ) (size : Fin s.rank → ℕ)
    (inb : ∀ a, off a + size a ≤ s.size a) (w : (⟨s.rank, size⟩ : Shape).Idx → Elt F e)
    (h : (m.access (Rect.unit (s := s) off size inb)).Stores Finset.univ) :
    Prog (TpuEff nD τ sig (Elt F) Λ₀ .tc) PUnit :=
  Prog.lift (.store m (Rect.unit (s := s) off size inb) w Finset.univ h (.inl rfl))

/-- The rows `off` of a buffer, as a buffer of their own. -/
abbrev rowSl (m : Memref sig .tc .vmem S1024x1024 .bf16) (n : ℕ) (off : Fin 2 → ℕ)
    (inb : ∀ a, off a + (Rows n).size a ≤ S1024x1024.size a) : Memref sig .tc .vmem (Rows n) .bf16 :=
  m.slice (Rect.unit (s := S1024x1024) off (Rows n).size inb) (fun _ => rfl)

/-! ## The pieces -/

/-- Rows of the accumulator: the product of rows of `hact` and a loaded second weight. -/
def dotPiece (oh : Fin 2 → ℕ) (ih : ∀ a, oh a + (HRows 256).size a ≤ S1024x2048.size a)
    (ow : Fin 3 → ℕ) (iw : ∀ a, ow a + S1x2048x1024.size a ≤ S2x2048x1024.size a)
    (oa : Fin 2 → ℕ) (ia : ∀ a, oa a + (Rows 256).size a ≤ S1024x1024.size a) :
    Prog (TpuEff nD τ sig (Elt F) Λ₀ .tc) PUnit := do
  let v ← ld (F := F) mHact oh (HRows 256).size ih h_S256x2048
  let w ← ld (F := F) mWout ow S1x2048x1024.size iw h_S1x2048x1024
  let _ ← ld (F := F) mAcc oa (Rows 256).size ia h_S256x1024
  st (F := F) mAcc oa (Rows 256).size ia (dotV v w) (View.stores_vmem_bits_univ h_S256x1024 rfl)

/-- Rows of the accumulator, rounded, into the send buffer. -/
def packPiece (n : ℕ) (h : 0 < (Rows n).numel) (oa : Fin 2 → ℕ) (ia : ∀ a, oa a + (Rows n).size a ≤ S1024x1024.size a)
    (os : Fin 2 → ℕ) (is : ∀ a, os a + (Rows n).size a ≤ S1024x1024.size a)
    (pk : (mSend.access (Rect.unit (s := S1024x1024) os (Rows n).size is)).StoreExact Finset.univ) :
    Prog (TpuEff nD τ sig (Elt F) Λ₀ .tc) PUnit := do
  let v ← ld (F := F) mAcc oa (Rows n).size ia h
  let _ ← ld (F := F) mSend os (Rows n).size is h
  st (F := F) mSend os (Rows n).size is (truncV n v) (View.stores_vmem h pk (fun _ => rfl))

/-- Send rows `os` of the buffer `src` to the same rows of `dst` on device `d'`. -/
def sendPiece (n : ℕ) (src dst : Memref sig .tc .vmem S1024x1024 .bf16) (k : Fin 35) (d' : Dev nD) (os : Fin 2 → ℕ)
    (is : ∀ a, os a + (Rows n).size a ≤ S1024x1024.size a)
    (hs : (rowSl src n os is).view.WordExact) (hd : (rowSl dst n os is).view.WordExact) :
    Prog (TpuEff nD τ sig (Elt F) Λ₀ .tc) PUnit :=
  Prog.lift (.enqueueDma (rowSl src n os is) (.remote (Dev.tc d') (rowSl dst n os is) (.dma (sSend k)))
    (.dma (sRecv k)) hs hd ⟨⟨rfl, Or.inl rfl⟩, trivial⟩)

/-- Wait for the send of slot `k`, then for the rows it brings. -/
def waitPiece (n : ℕ) (src dst : Memref sig .tc .vmem S1024x1024 .bf16) (k : Fin 35) (os : Fin 2 → ℕ)
    (is : ∀ a, os a + (Rows n).size a ≤ S1024x1024.size a)
    (hs : (rowSl src n os is).view.WordExact) (hd : (rowSl dst n os is).view.WordExact) :
    Prog (TpuEff nD τ sig (Elt F) Λ₀ .tc) PUnit := do
  Prog.lift (.waitDma2 (sSend k) (rowSl dst n os is) (rowSl src n os is) hd hs)
  Prog.lift (.waitDma2 (sRecv k) (rowSl src n os is) (rowSl dst n os is) hs hd)

/-- Add received rows to the accumulator. -/
def addPiece (n : ℕ) (h : 0 < (Rows n).numel) (oa : Fin 2 → ℕ) (ia : ∀ a, oa a + (Rows n).size a ≤ S1024x1024.size a)
    (os : Fin 2 → ℕ) (is : ∀ a, os a + (Rows n).size a ≤ S1024x1024.size a) :
    Prog (TpuEff nD τ sig (Elt F) Λ₀ .tc) PUnit := do
  let v ← ld (F := F) mAcc oa (Rows n).size ia h
  let w ← ld (F := F) mStage os (Rows n).size is h
  let _ ← ld (F := F) mAcc oa (Rows n).size ia h
  st (F := F) mAcc oa (Rows n).size ia (addV n v w) (View.stores_vmem_bits_univ h rfl)

/-- Finished rows of the accumulator, rounded, into the gathered buffer. -/
def donePiece (oa : Fin 2 → ℕ) (ia : ∀ a, oa a + (Rows 32).size a ≤ S1024x1024.size a)
    (pk : (mOut.access (Rect.unit (s := S1024x1024) oa (Rows 32).size ia)).StoreExact Finset.univ) :
    Prog (TpuEff nD τ sig (Elt F) Λ₀ .tc) PUnit := do
  let v ← ld (F := F) mAcc oa (Rows 32).size ia h_S32x1024
  let _ ← ld (F := F) mOut oa (Rows 32).size ia h_S32x1024
  st (F := F) mOut oa (Rows 32).size ia (truncV 32 v) (View.stores_vmem h_S32x1024 pk (fun _ => rfl))

/-- Gathered rows through the next layer's first weight. -/
def consPiece (n : ℕ) (h : 0 < (Rows n).numel) (h' : 0 < (HRows n).numel)
    (ox : Fin 2 → ℕ) (ix : ∀ a, ox a + (Rows n).size a ≤ S1024x1024.size a)
    (ow : Fin 3 → ℕ) (iw : ∀ a, ow a + S1x1024x2048.size a ≤ S2x1024x2048.size a)
    (oh : Fin 2 → ℕ) (ih : ∀ a, oh a + (HRows n).size a ≤ S1024x2048.size a)
    (pk : (mHact.access (Rect.unit (s := S1024x2048) oh (HRows n).size ih)).StoreExact Finset.univ) :
    Prog (TpuEff nD τ sig (Elt F) Λ₀ .tc) PUnit := do
  let v ← ld (F := F) mOut ox (Rows n).size ix h
  let w ← ld (F := F) mWin ow S1x1024x2048.size iw h_S1x1024x2048
  let _ ← ld (F := F) mHact oh (HRows n).size ih h'
  st (F := F) mHact oh (HRows n).size ih (consV n v w) (View.stores_vmem h' pk (fun _ => rfl))

/-- Gathered rows of the last layer into the result. -/
def outPiece (n : ℕ) (h : 0 < (Rows n).numel)
    (ox : Fin 2 → ℕ) (ix : ∀ a, ox a + (Rows n).size a ≤ S1024x1024.size a) :
    Prog (TpuEff nD τ sig (Elt F) Λ₀ .tc) PUnit := do
  let v ← ld (F := F) mOut ox (Rows n).size ix h
  let _ ← ld (F := F) mO ox (Rows n).size ix h
  st (F := F) mO ox (Rows n).size ix (extV n v) (View.stores_vmem_bits_univ h rfl)

/-- Start the two loads of a layer's weights, -/
def loadPiece (a : Memref sig .tc .hbm S1024x2048 .f32) (ha : a.view.WordExact)
    (b : Memref sig .tc .hbm S2048x1024 .f32) (hb : b.view.WordExact) :
    Prog (TpuEff nD τ sig (Elt F) Λ₀ .tc) PUnit := do
  Prog.lift (.enqueueDma a (.here mWst) (.dma (sCopy 0)) ha (Memref.isWhole_whole _).wordExact ⟨Or.inl rfl, trivial⟩)
  Prog.lift (.enqueueDma b (.here mOst) (.dma (sCopy 1)) hb (Memref.isWhole_whole _).wordExact ⟨Or.inl rfl, trivial⟩)
/-- and finish them: wait for both, round both into the layer's buffers. -/
def storePiece (a : Memref sig .tc .hbm S1024x2048 .f32) (ha : a.view.WordExact)
    (b : Memref sig .tc .hbm S2048x1024 .f32) (hb : b.view.WordExact)
    (ow : Fin 3 → ℕ) (iw : ∀ a, ow a + S1x1024x2048.size a ≤ S2x1024x2048.size a)
    (pw : (mWin.access (Rect.unit (s := S2x1024x2048) ow S1x1024x2048.size iw)).StoreExact Finset.univ)
    (oo : Fin 3 → ℕ) (io : ∀ a, oo a + S1x2048x1024.size a ≤ S2x2048x1024.size a)
    (po : (mWout.access (Rect.unit (s := S2x2048x1024) oo S1x2048x1024.size io)).StoreExact Finset.univ) :
    Prog (TpuEff nD τ sig (Elt F) Λ₀ .tc) PUnit := do
  Prog.lift (.waitDma2 (sCopy 0) a mWst ha (Memref.isWhole_whole _).wordExact)
  Prog.lift (.waitDma2 (sCopy 1) b mOst hb (Memref.isWhole_whole _).wordExact)
  let v ← ld (F := F) mWst ![0, 0] S1024x2048.size inb_S1024x2048_S1024x2048_0_0 h_S1024x2048
  let _ ← ld (F := F) mWin ow S1x1024x2048.size iw h_S1x1024x2048
  st (F := F) mWin ow S1x1024x2048.size iw (k0_pay2 v) (View.stores_vmem h_S1x1024x2048 pw (fun _ => rfl))
  let v ← ld (F := F) mOst ![0, 0] S2048x1024.size inb_S2048x1024_S2048x1024_0_0 h_S2048x1024
  let _ ← ld (F := F) mWout oo S1x2048x1024.size io h_S1x2048x1024
  st (F := F) mWout oo S1x2048x1024.size io (k0_pay3 v) (View.stores_vmem h_S1x2048x1024 po (fun _ => rfl))

/-- The device's own rows of the input, rounded, into the gathered buffer. -/
def inPiece (oa : Fin 2 → ℕ) (ia : ∀ a, oa a + (Rows 64).size a ≤ S1024x1024.size a)
    (pk : (mOut.access (Rect.unit (s := S1024x1024) oa (Rows 64).size ia)).StoreExact Finset.univ) :
    Prog (TpuEff nD τ sig (Elt F) Λ₀ .tc) PUnit := do
  let v ← ld (F := F) mX ![0, 0] S64x1024.size inb_S64x1024_S64x1024_0_0 h_S64x1024
  let _ ← ld (F := F) mOut oa (Rows 64).size ia h_S64x1024
  st (F := F) mOut oa (Rows 64).size ia (k0_pay1 v) (View.stores_vmem h_S64x1024 pk (fun _ => rfl))

/-- One half of the first layer's `hact`, from the gathered input. -/
def headPiece (x : Vec F S1024x1024 .bf16)
    (ow : Fin 3 → ℕ) (iw : ∀ a, ow a + S1x1024x1024.size a ≤ S2x1024x2048.size a)
    (oh : Fin 2 → ℕ) (ih : ∀ a, oh a + S1024x1024.size a ≤ S1024x2048.size a)
    (pk : (mHact.access (Rect.unit (s := S1024x2048) oh S1024x1024.size ih)).StoreExact Finset.univ) :
    Prog (TpuEff nD τ sig (Elt F) Λ₀ .tc) PUnit := do
  let w ← ld (F := F) mWin ow S1x1024x1024.size iw h_S1x1024x1024
  let _ ← ld (F := F) mHact oh S1024x1024.size ih h_S1024x1024
  st (F := F) mHact oh S1024x1024.size ih (headV x w) (View.stores_vmem h_S1024x1024 pk (fun _ => rfl))

/-- Tell the four neighbours that the buffers may be written, and wait for theirs. -/
def barrierPiece (d₁ d₂ d₃ d₄ : Dev nD) : Prog (TpuEff nD τ sig (Elt F) Λ₀ .tc) PUnit := do
  semSignalWord d₁ sBar 1#32
  semSignalWord d₂ sBar 1#32
  semSignalWord d₃ sBar 1#32
  semSignalWord d₄ sBar 1#32
  semWaitWord sBar 4#32

end Cert.KernelIdeal.Gen

end
-- ==== Proof.Program.lean ====
/- The kernel's body as a list of its pieces, the three layers one definition. -/
module

public import proofs.«01_k».proof.Proof.Pieces
public import Idealize.ShloMosaic.Lib.Pipeline.Regions
public import proofs.«01_k».proof.Proof.Gen.KernelIdeal.Launch

@[expose] public section

set_option maxRecDepth 65536

noncomputable section

namespace Cert.KernelIdeal.Gen

open Idealize.ShloMosaic Idealize.ShloMosaic.TcCoe
open Idealize.SL Idealize.SL.Sem

variable [Facts] {F : FTy → Type} [FloatOps F]

/-- The products of a layer, the first of the two halves of each band sent off at once. -/
def layerDot (d : Dev nD) (dv : Fin 16 → Dev nD) (ow : Fin 3 → ℕ) (iw : ∀ a, ow a + S1x2048x1024.size a ≤ S2x2048x1024.size a) : Prog (TpuEff nD τ sig (Elt F) Λ₀ .tc) PUnit := do
  dotPiece (F := F) (k0_off3 d 0#32 0#32) (k0_off3_inb d 0) ow iw (k0_off4 d 0#32 0#32) (k0_off4_inb d 0)
  packPiece (F := F) 256 h_S256x1024 (k0_off4 d 0#32 0#32) (k0_off4_inb d 0) ![0, 0] inb_S1024x1024_S256x1024_0_0 ((Memref.isWhole_whole _).storeExact_slice rfl _ packedbf16_S1024x1024_S256x1024_0_0)
  sendPiece (F := F) 256 mSend mStage 12 (dv 0) ![0, 0] inb_S1024x1024_S256x1024_0_0 ((Memref.isWhole_whole _).wordExact_slice rfl _ wordsbf16_S1024x1024_S256x1024_0_0) ((Memref.isWhole_whole _).wordExact_slice rfl _ wordsbf16_S1024x1024_S256x1024_0_0)
  dotPiece (F := F) (k0_off3 d 512#32 2#32) (k0_off3_inb d 1) ow iw (k0_off4 d 512#32 2#32) (k0_off4_inb d 1)
  packPiece (F := F) 256 h_S256x1024 (k0_off4 d 512#32 2#32) (k0_off4_inb d 1) ![512, 0] inb_S1024x1024_S256x1024_512_0 ((Memref.isWhole_whole _).storeExact_slice rfl _ packedbf16_S1024x1024_S256x1024_512_0)
  sendPiece (F := F) 256 mSend mStage 16 (dv 1) ![512, 0] inb_S1024x1024_S256x1024_512_0 ((Memref.isWhole_whole _).wordExact_slice rfl _ wordsbf16_S1024x1024_S256x1024_512_0) ((Memref.isWhole_whole _).wordExact_slice rfl _ wordsbf16_S1024x1024_S256x1024_512_0)
  dotPiece (F := F) (k0_off5 d 0#32 0#32) (k0_off5_inb d 0) ow iw (k0_off6 d 0#32 0#32) (k0_off6_inb d 0)
  dotPiece (F := F) (k0_off5 d 512#32 2#32) (k0_off5_inb d 1) ow iw (k0_off6 d 512#32 2#32) (k0_off6_inb d 1)

/-- The four exchanges that add up the partial products. -/
def layerReduce (d : Dev nD) (dv : Fin 16 → Dev nD) : Prog (TpuEff nD τ sig (Elt F) Λ₀ .tc) PUnit := do
  waitPiece (F := F) 256 mSend mStage 12 ![0, 0] inb_S1024x1024_S256x1024_0_0 ((Memref.isWhole_whole _).wordExact_slice rfl _ wordsbf16_S1024x1024_S256x1024_0_0) ((Memref.isWhole_whole _).wordExact_slice rfl _ wordsbf16_S1024x1024_S256x1024_0_0)
  addPiece (F := F) 256 h_S256x1024 (k0_off6 d 0#32 0#32) (k0_off6_inb d 0) ![0, 0] inb_S1024x1024_S256x1024_0_0
  packPiece (F := F) 128 h_S128x1024 (k0_off7 d 0#32 0#32 2#32) (k0_off7_inb d 0) ![256, 0] inb_S1024x1024_S128x1024_256_0 ((Memref.isWhole_whole _).storeExact_slice rfl _ packedbf16_S1024x1024_S128x1024_256_0)
  sendPiece (F := F) 128 mSend mStage 13 (dv 2) ![256, 0] inb_S1024x1024_S128x1024_256_0 ((Memref.isWhole_whole _).wordExact_slice rfl _ wordsbf16_S1024x1024_S128x1024_256_0) ((Memref.isWhole_whole _).wordExact_slice rfl _ wordsbf16_S1024x1024_S128x1024_256_0)
  waitPiece (F := F) 256 mSend mStage 16 ![512, 0] inb_S1024x1024_S256x1024_512_0 ((Memref.isWhole_whole _).wordExact_slice rfl _ wordsbf16_S1024x1024_S256x1024_512_0) ((Memref.isWhole_whole _).wordExact_slice rfl _ wordsbf16_S1024x1024_S256x1024_512_0)
  addPiece (F := F) 256 h_S256x1024 (k0_off6 d 512#32 2#32) (k0_off6_inb d 1) ![512, 0] inb_S1024x1024_S256x1024_512_0
  packPiece (F := F) 128 h_S128x1024 (k0_off7 d 512#32 2#32 0#32) (k0_off7_inb d 1) ![768, 0] inb_S1024x1024_S128x1024_768_0 ((Memref.isWhole_whole _).storeExact_slice rfl _ packedbf16_S1024x1024_S128x1024_768_0)
  sendPiece (F := F) 128 mSend mStage 17 (dv 3) ![768, 0] inb_S1024x1024_S128x1024_768_0 ((Memref.isWhole_whole _).wordExact_slice rfl _ wordsbf16_S1024x1024_S128x1024_768_0) ((Memref.isWhole_whole _).wordExact_slice rfl _ wordsbf16_S1024x1024_S128x1024_768_0)
  waitPiece (F := F) 128 mSend mStage 13 ![256, 0] inb_S1024x1024_S128x1024_256_0 ((Memref.isWhole_whole _).wordExact_slice rfl _ wordsbf16_S1024x1024_S128x1024_256_0) ((Memref.isWhole_whole _).wordExact_slice rfl _ wordsbf16_S1024x1024_S128x1024_256_0)
  addPiece (F := F) 128 h_S128x1024 (k0_off8 d 0#32 0#32 2#32) (k0_off8_inb d 0) ![256, 0] inb_S1024x1024_S128x1024_256_0
  packPiece (F := F) 64 h_S64x1024 (k0_off9 d 0#32 0#32 2#32 1#32) (k0_off9_inb d 0) ![384, 0] inb_S1024x1024_S64x1024_384_0 ((Memref.isWhole_whole _).storeExact_slice rfl _ packedbf16_S1024x1024_S64x1024_384_0)
  sendPiece (F := F) 64 mSend mStage 14 (dv 4) ![384, 0] inb_S1024x1024_S64x1024_384_0 ((Memref.isWhole_whole _).wordExact_slice rfl _ wordsbf16_S1024x1024_S64x1024_384_0) ((Memref.isWhole_whole _).wordExact_slice rfl _ wordsbf16_S1024x1024_S64x1024_384_0)
  waitPiece (F := F) 128 mSend mStage 17 ![768, 0] inb_S1024x1024_S128x1024_768_0 ((Memref.isWhole_whole _).wordExact_slice rfl _ wordsbf16_S1024x1024_S128x1024_768_0) ((Memref.isWhole_whole _).wordExact_slice rfl _ wordsbf16_S1024x1024_S128x1024_768_0)
  addPiece (F := F) 128 h_S128x1024 (k0_off8 d 512#32 2#32 0#32) (k0_off8_inb d 1) ![768, 0] inb_S1024x1024_S128x1024_768_0
  packPiece (F := F) 64 h_S64x1024 (k0_off9 d 512#32 2#32 0#32 3#32) (k0_off9_inb d 1) ![896, 0] inb_S1024x1024_S64x1024_896_0 ((Memref.isWhole_whole _).storeExact_slice rfl _ packedbf16_S1024x1024_S64x1024_896_0)
  sendPiece (F := F) 64 mSend mStage 18 (dv 5) ![896, 0] inb_S1024x1024_S64x1024_896_0 ((Memref.isWhole_whole _).wordExact_slice rfl _ wordsbf16_S1024x1024_S64x1024_896_0) ((Memref.isWhole_whole _).wordExact_slice rfl _ wordsbf16_S1024x1024_S64x1024_896_0)
  waitPiece (F := F) 64 mSend mStage 14 ![384, 0] inb_S1024x1024_S64x1024_384_0 ((Memref.isWhole_whole _).wordExact_slice rfl _ wordsbf16_S1024x1024_S64x1024_384_0) ((Memref.isWhole_whole _).wordExact_slice rfl _ wordsbf16_S1024x1024_S64x1024_384_0)
  addPiece (F := F) 64 h_S64x1024 (k0_off10 d 0#32 0#32 2#32 1#32) (k0_off10_inb d 0) ![384, 0] inb_S1024x1024_S64x1024_384_0
  packPiece (F := F) 32 h_S32x1024 (k0_off11 d 0#32 0#32 2#32 1#32 3#32) (k0_off11_inb d 0) ![448, 0] inb_S1024x1024_S32x1024_448_0 ((Memref.isWhole_whole _).storeExact_slice rfl _ packedbf16_S1024x1024_S32x1024_448_0)
  sendPiece (F := F) 32 mSend mStage 15 (dv 6) ![448, 0] inb_S1024x1024_S32x1024_448_0 ((Memref.isWhole_whole _).wordExact_slice rfl _ wordsbf16_S1024x1024_S32x1024_448_0) ((Memref.isWhole_whole _).wordExact_slice rfl _ wordsbf16_S1024x1024_S32x1024_448_0)
  waitPiece (F := F) 64 mSend mStage 18 ![896, 0] inb_S1024x1024_S64x1024_896_0 ((Memref.isWhole_whole _).wordExact_slice rfl _ wordsbf16_S1024x1024_S64x1024_896_0) ((Memref.isWhole_whole _).wordExact_slice rfl _ wordsbf16_S1024x1024_S64x1024_896_0)
  addPiece (F := F) 64 h_S64x1024 (k0_off10 d 512#32 2#32 0#32 3#32) (k0_off10_inb d 1) ![896, 0] inb_S1024x1024_S64x1024_896_0
  packPiece (F := F) 32 h_S32x1024 (k0_off11 d 512#32 2#32 0#32 3#32 1#32) (k0_off11_inb d 1) ![960, 0] inb_S1024x1024_S32x1024_960_0 ((Memref.isWhole_whole _).storeExact_slice rfl _ packedbf16_S1024x1024_S32x1024_960_0)
  sendPiece (F := F) 32 mSend mStage 19 (dv 7) ![960, 0] inb_S1024x1024_S32x1024_960_0 ((Memref.isWhole_whole _).wordExact_slice rfl _ wordsbf16_S1024x1024_S32x1024_960_0) ((Memref.isWhole_whole _).wordExact_slice rfl _ wordsbf16_S1024x1024_S32x1024_960_0)
  waitPiece (F := F) 32 mSend mStage 15 ![448, 0] inb_S1024x1024_S32x1024_448_0 ((Memref.isWhole_whole _).wordExact_slice rfl _ wordsbf16_S1024x1024_S32x1024_448_0) ((Memref.isWhole_whole _).wordExact_slice rfl _ wordsbf16_S1024x1024_S32x1024_448_0)
  addPiece (F := F) 32 h_S32x1024 (k0_off12 d 0#32 0#32 2#32 1#32 3#32) (k0_off12_inb d 0) ![448, 0] inb_S1024x1024_S32x1024_448_0
  waitPiece (F := F) 32 mSend mStage 19 ![960, 0] inb_S1024x1024_S32x1024_960_0 ((Memref.isWhole_whole _).wordExact_slice rfl _ wordsbf16_S1024x1024_S32x1024_960_0) ((Memref.isWhole_whole _).wordExact_slice rfl _ wordsbf16_S1024x1024_S32x1024_960_0)
  addPiece (F := F) 32 h_S32x1024 (k0_off12 d 512#32 2#32 0#32 3#32 1#32) (k0_off12_inb d 1) ![960, 0] inb_S1024x1024_S32x1024_960_0

/-- The four exchanges that spread the finished rows, each followed by what is done with the rows it brings. -/
def layerGather (d : Dev nD) (dv : Fin 16 → Dev nD) (c : Fin 10 → Prog (TpuEff nD τ sig (Elt F) Λ₀ .tc) PUnit) : Prog (TpuEff nD τ sig (Elt F) Λ₀ .tc) PUnit := do
  donePiece (F := F) (k0_off12 d 0#32 0#32 2#32 1#32 3#32) (k0_off12_inb d 0) ((Memref.isWhole_whole _).storeExact_slice rfl _ (k0_off12_packedbf16 d 0))
  sendPiece (F := F) 32 mOut mOut 3 (dv 8) (k0_off13 d 0#32 0#32 2#32 1#32 3#32) (k0_off13_inb d 0) ((Memref.isWhole_whole _).wordExact_slice rfl _ (k0_off13_wordsbf16 d 0)) ((Memref.isWhole_whole _).wordExact_slice rfl _ (k0_off13_wordsbf16 d 0))
  donePiece (F := F) (k0_off12 d 512#32 2#32 0#32 3#32 1#32) (k0_off12_inb d 1) ((Memref.isWhole_whole _).storeExact_slice rfl _ (k0_off12_packedbf16 d 1))
  sendPiece (F := F) 32 mOut mOut 7 (dv 9) (k0_off13 d 512#32 2#32 0#32 3#32 1#32) (k0_off13_inb d 1) ((Memref.isWhole_whole _).wordExact_slice rfl _ (k0_off13_wordsbf16 d 1)) ((Memref.isWhole_whole _).wordExact_slice rfl _ (k0_off13_wordsbf16 d 1))
  waitPiece (F := F) 32 mOut mOut 3 (k0_off13 d 0#32 0#32 2#32 1#32 3#32) (k0_off13_inb d 0) ((Memref.isWhole_whole _).wordExact_slice rfl _ (k0_off13_wordsbf16 d 0)) ((Memref.isWhole_whole _).wordExact_slice rfl _ (k0_off13_wordsbf16 d 0))
  sendPiece (F := F) 64 mOut mOut 2 (dv 10) (k0_off14 d 0#32 0#32 2#32 1#32 3#32 3#32) (k0_off14_inb d 0) ((Memref.isWhole_whole _).wordExact_slice rfl _ (k0_off14_wordsbf16 d 0)) ((Memref.isWhole_whole _).wordExact_slice rfl _ (k0_off14_wordsbf16 d 0))
  waitPiece (F := F) 32 mOut mOut 7 (k0_off13 d 512#32 2#32 0#32 3#32 1#32) (k0_off13_inb d 1) ((Memref.isWhole_whole _).wordExact_slice rfl _ (k0_off13_wordsbf16 d 1)) ((Memref.isWhole_whole _).wordExact_slice rfl _ (k0_off13_wordsbf16 d 1))
  sendPiece (F := F) 64 mOut mOut 6 (dv 11) (k0_off14 d 512#32 2#32 0#32 3#32 1#32 1#32) (k0_off14_inb d 1) ((Memref.isWhole_whole _).wordExact_slice rfl _ (k0_off14_wordsbf16 d 1)) ((Memref.isWhole_whole _).wordExact_slice rfl _ (k0_off14_wordsbf16 d 1))
  c 0
  c 1
  waitPiece (F := F) 64 mOut mOut 2 (k0_off14 d 0#32 0#32 2#32 1#32 3#32 3#32) (k0_off14_inb d 0) ((Memref.isWhole_whole _).wordExact_slice rfl _ (k0_off14_wordsbf16 d 0)) ((Memref.isWhole_whole _).wordExact_slice rfl _ (k0_off14_wordsbf16 d 0))
  sendPiece (F := F) 128 mOut mOut 1 (dv 12) (k0_off16 d 0#32 0#32 2#32 1#32 3#32 3#32 1#32) (k0_off16_inb d 0) ((Memref.isWhole_whole _).wordExact_slice rfl _ (k0_off16_wordsbf16 d 0)) ((Memref.isWhole_whole _).wordExact_slice rfl _ (k0_off16_wordsbf16 d 0))
  waitPiece (F := F) 64 mOut mOut 6 (k0_off14 d 512#32 2#32 0#32 3#32 1#32 1#32) (k0_off14_inb d 1) ((Memref.isWhole_whole _).wordExact_slice rfl _ (k0_off14_wordsbf16 d 1)) ((Memref.isWhole_whole _).wordExact_slice rfl _ (k0_off14_wordsbf16 d 1))
  sendPiece (F := F) 128 mOut mOut 5 (dv 13) (k0_off16 d 512#32 2#32 0#32 3#32 1#32 1#32 3#32) (k0_off16_inb d 1) ((Memref.isWhole_whole _).wordExact_slice rfl _ (k0_off16_wordsbf16 d 1)) ((Memref.isWhole_whole _).wordExact_slice rfl _ (k0_off16_wordsbf16 d 1))
  c 2
  c 3
  waitPiece (F := F) 128 mOut mOut 1 (k0_off16 d 0#32 0#32 2#32 1#32 3#32 3#32 1#32) (k0_off16_inb d 0) ((Memref.isWhole_whole _).wordExact_slice rfl _ (k0_off16_wordsbf16 d 0)) ((Memref.isWhole_whole _).wordExact_slice rfl _ (k0_off16_wordsbf16 d 0))
  sendPiece (F := F) 256 mOut mOut 0 (dv 14) (k0_off19 d 0#32 0#32 2#32 1#32 3#32 3#32 1#32 2#32) (k0_off19_inb d 0) ((Memref.isWhole_whole _).wordExact_slice rfl _ (k0_off19_wordsbf16 d 0)) ((Memref.isWhole_whole _).wordExact_slice rfl _ (k0_off19_wordsbf16 d 0))
  waitPiece (F := F) 128 mOut mOut 5 (k0_off16 d 512#32 2#32 0#32 3#32 1#32 1#32 3#32) (k0_off16_inb d 1) ((Memref.isWhole_whole _).wordExact_slice rfl _ (k0_off16_wordsbf16 d 1)) ((Memref.isWhole_whole _).wordExact_slice rfl _ (k0_off16_wordsbf16 d 1))
  sendPiece (F := F) 256 mOut mOut 4 (dv 15) (k0_off19 d 512#32 2#32 0#32 3#32 1#32 1#32 3#32 0#32) (k0_off19_inb d 1) ((Memref.isWhole_whole _).wordExact_slice rfl _ (k0_off19_wordsbf16 d 1)) ((Memref.isWhole_whole _).wordExact_slice rfl _ (k0_off19_wordsbf16 d 1))
  c 4
  c 5
  waitPiece (F := F) 256 mOut mOut 0 (k0_off19 d 0#32 0#32 2#32 1#32 3#32 3#32 1#32 2#32) (k0_off19_inb d 0) ((Memref.isWhole_whole _).wordExact_slice rfl _ (k0_off19_wordsbf16 d 0)) ((Memref.isWhole_whole _).wordExact_slice rfl _ (k0_off19_wordsbf16 d 0))
  waitPiece (F := F) 256 mOut mOut 4 (k0_off19 d 512#32 2#32 0#32 3#32 1#32 1#32 3#32 0#32) (k0_off19_inb d 1) ((Memref.isWhole_whole _).wordExact_slice rfl _ (k0_off19_wordsbf16 d 1)) ((Memref.isWhole_whole _).wordExact_slice rfl _ (k0_off19_wordsbf16 d 1))
  c 6
  c 7
  c 8
  c 9

/-- The four hops that give every device all the rows of the input. -/
def spread (d : Dev nD) : Prog (TpuEff nD τ sig (Elt F) Λ₀ .tc) PUnit := do
  sendPiece (F := F) 64 mOut mOut 20 ⟨k0_dev5 d, k0_dev5_lt d⟩ (k0_off2 d 15#32 0#32) (k0_off2_inb d 0) ((Memref.isWhole_whole _).wordExact_slice rfl _ (k0_off2_wordsbf16 d 0)) ((Memref.isWhole_whole _).wordExact_slice rfl _ (k0_off2_wordsbf16 d 0))
  waitPiece (F := F) 64 mOut mOut 20 (k0_off2 d 15#32 0#32) (k0_off2_inb d 0) ((Memref.isWhole_whole _).wordExact_slice rfl _ (k0_off2_wordsbf16 d 0)) ((Memref.isWhole_whole _).wordExact_slice rfl _ (k0_off2_wordsbf16 d 0))
  sendPiece (F := F) 64 mOut mOut 21 ⟨k0_dev6 d, k0_dev6_lt d⟩ (k0_off2 d 7#32 0#32) (k0_off2_inb d 1) ((Memref.isWhole_whole _).wordExact_slice rfl _ (k0_off2_wordsbf16 d 1)) ((Memref.isWhole_whole _).wordExact_slice rfl _ (k0_off2_wordsbf16 d 1))
  sendPiece (F := F) 64 mOut mOut 22 ⟨k0_dev7 d, k0_dev7_lt d⟩ (k0_off2 d 7#32 8#32) (k0_off2_inb d 2) ((Memref.isWhole_whole _).wordExact_slice rfl _ (k0_off2_wordsbf16 d 2)) ((Memref.isWhole_whole _).wordExact_slice rfl _ (k0_off2_wordsbf16 d 2))
  waitPiece (F := F) 64 mOut mOut 21 (k0_off2 d 7#32 0#32) (k0_off2_inb d 1) ((Memref.isWhole_whole _).wordExact_slice rfl _ (k0_off2_wordsbf16 d 1)) ((Memref.isWhole_whole _).wordExact_slice rfl _ (k0_off2_wordsbf16 d 1))
  waitPiece (F := F) 64 mOut mOut 22 (k0_off2 d 7#32 8#32) (k0_off2_inb d 2) ((Memref.isWhole_whole _).wordExact_slice rfl _ (k0_off2_wordsbf16 d 2)) ((Memref.isWhole_whole _).wordExact_slice rfl _ (k0_off2_wordsbf16 d 2))
  sendPiece (F := F) 64 mOut mOut 23 ⟨k0_dev8 d, k0_dev8_lt d⟩ (k0_off2 d 3#32 0#32) (k0_off2_inb d 3) ((Memref.isWhole_whole _).wordExact_slice rfl _ (k0_off2_wordsbf16 d 3)) ((Memref.isWhole_whole _).wordExact_slice rfl _ (k0_off2_wordsbf16 d 3))
  sendPiece (F := F) 64 mOut mOut 24 ⟨k0_dev9 d, k0_dev9_lt d⟩ (k0_off2 d 3#32 4#32) (k0_off2_inb d 4) ((Memref.isWhole_whole _).wordExact_slice rfl _ (k0_off2_wordsbf16 d 4)) ((Memref.isWhole_whole _).wordExact_slice rfl _ (k0_off2_wordsbf16 d 4))
  sendPiece (F := F) 64 mOut mOut 25 ⟨k0_dev10 d, k0_dev10_lt d⟩ (k0_off2 d 3#32 8#32) (k0_off2_inb d 5) ((Memref.isWhole_whole _).wordExact_slice rfl _ (k0_off2_wordsbf16 d 5)) ((Memref.isWhole_whole _).wordExact_slice rfl _ (k0_off2_wordsbf16 d 5))
  sendPiece (F := F) 64 mOut mOut 26 ⟨k0_dev11 d, k0_dev11_lt d⟩ (k0_off2 d 3#32 12#32) (k0_off2_inb d 6) ((Memref.isWhole_whole _).wordExact_slice rfl _ (k0_off2_wordsbf16 d 6)) ((Memref.isWhole_whole _).wordExact_slice rfl _ (k0_off2_wordsbf16 d 6))
  waitPiece (F := F) 64 mOut mOut 23 (k0_off2 d 3#32 0#32) (k0_off2_inb d 3) ((Memref.isWhole_whole _).wordExact_slice rfl _ (k0_off2_wordsbf16 d 3)) ((Memref.isWhole_whole _).wordExact_slice rfl _ (k0_off2_wordsbf16 d 3))
  waitPiece (F := F) 64 mOut mOut 24 (k0_off2 d 3#32 4#32) (k0_off2_inb d 4) ((Memref.isWhole_whole _).wordExact_slice rfl _ (k0_off2_wordsbf16 d 4)) ((Memref.isWhole_whole _).wordExact_slice rfl _ (k0_off2_wordsbf16 d 4))
  waitPiece (F := F) 64 mOut mOut 25 (k0_off2 d 3#32 8#32) (k0_off2_inb d 5) ((Memref.isWhole_whole _).wordExact_slice rfl _ (k0_off2_wordsbf16 d 5)) ((Memref.isWhole_whole _).wordExact_slice rfl _ (k0_off2_wordsbf16 d 5))
  waitPiece (F := F) 64 mOut mOut 26 (k0_off2 d 3#32 12#32) (k0_off2_inb d 6) ((Memref.isWhole_whole _).wordExact_slice rfl _ (k0_off2_wordsbf16 d 6)) ((Memref.isWhole_whole _).wordExact_slice rfl _ (k0_off2_wordsbf16 d 6))
  sendPiece (F := F) 64 mOut mOut 27 ⟨k0_dev12 d, k0_dev12_lt d⟩ (k0_off2 d 1#32 0#32) (k0_off2_inb d 7) ((Memref.isWhole_whole _).wordExact_slice rfl _ (k0_off2_wordsbf16 d 7)) ((Memref.isWhole_whole _).wordExact_slice rfl _ (k0_off2_wordsbf16 d 7))
  sendPiece (F := F) 64 mOut mOut 28 ⟨k0_dev13 d, k0_dev13_lt d⟩ (k0_off2 d 1#32 2#32) (k0_off2_inb d 8) ((Memref.isWhole_whole _).wordExact_slice rfl _ (k0_off2_wordsbf16 d 8)) ((Memref.isWhole_whole _).wordExact_slice rfl _ (k0_off2_wordsbf16 d 8))
  sendPiece (F := F) 64 mOut mOut 29 ⟨k0_dev14 d, k0_dev14_lt d⟩ (k0_off2 d 1#32 4#32) (k0_off2_inb d 9) ((Memref.isWhole_whole _).wordExact_slice rfl _ (k0_off2_wordsbf16 d 9)) ((Memref.isWhole_whole _).wordExact_slice rfl _ (k0_off2_wordsbf16 d 9))
  sendPiece (F := F) 64 mOut mOut 30 ⟨k0_dev15 d, k0_dev15_lt d⟩ (k0_off2 d 1#32 6#32) (k0_off2_inb d 10) ((Memref.isWhole_whole _).wordExact_slice rfl _ (k0_off2_wordsbf16 d 10)) ((Memref.isWhole_whole _).wordExact_slice rfl _ (k0_off2_wordsbf16 d 10))
  sendPiece (F := F) 64 mOut mOut 31 ⟨k0_dev16 d, k0_dev16_lt d⟩ (k0_off2 d 1#32 8#32) (k0_off2_inb d 11) ((Memref.isWhole_whole _).wordExact_slice rfl _ (k0_off2_wordsbf16 d 11)) ((Memref.isWhole_whole _).wordExact_slice rfl _ (k0_off2_wordsbf16 d 11))
  sendPiece (F := F) 64 mOut mOut 32 ⟨k0_dev17 d, k0_dev17_lt d⟩ (k0_off2 d 1#32 10#32) (k0_off2_inb d 12) ((Memref.isWhole_whole _).wordExact_slice rfl _ (k0_off2_wordsbf16 d 12)) ((Memref.isWhole_whole _).wordExact_slice rfl _ (k0_off2_wordsbf16 d 12))
  sendPiece (F := F) 64 mOut mOut 33 ⟨k0_dev18 d, k0_dev18_lt d⟩ (k0_off2 d 1#32 12#32) (k0_off2_inb d 13) ((Memref.isWhole_whole _).wordExact_slice rfl _ (k0_off2_wordsbf16 d 13)) ((Memref.isWhole_whole _).wordExact_slice rfl _ (k0_off2_wordsbf16 d 13))
  sendPiece (F := F) 64 mOut mOut 34 ⟨k0_dev19 d, k0_dev19_lt d⟩ (k0_off2 d 1#32 14#32) (k0_off2_inb d 14) ((Memref.isWhole_whole _).wordExact_slice rfl _ (k0_off2_wordsbf16 d 14)) ((Memref.isWhole_whole _).wordExact_slice rfl _ (k0_off2_wordsbf16 d 14))
  waitPiece (F := F) 64 mOut mOut 27 (k0_off2 d 1#32 0#32) (k0_off2_inb d 7) ((Memref.isWhole_whole _).wordExact_slice rfl _ (k0_off2_wordsbf16 d 7)) ((Memref.isWhole_whole _).wordExact_slice rfl _ (k0_off2_wordsbf16 d 7))
  waitPiece (F := F) 64 mOut mOut 28 (k0_off2 d 1#32 2#32) (k0_off2_inb d 8) ((Memref.isWhole_whole _).wordExact_slice rfl _ (k0_off2_wordsbf16 d 8)) ((Memref.isWhole_whole _).wordExact_slice rfl _ (k0_off2_wordsbf16 d 8))
  waitPiece (F := F) 64 mOut mOut 29 (k0_off2 d 1#32 4#32) (k0_off2_inb d 9) ((Memref.isWhole_whole _).wordExact_slice rfl _ (k0_off2_wordsbf16 d 9)) ((Memref.isWhole_whole _).wordExact_slice rfl _ (k0_off2_wordsbf16 d 9))
  waitPiece (F := F) 64 mOut mOut 30 (k0_off2 d 1#32 6#32) (k0_off2_inb d 10) ((Memref.isWhole_whole _).wordExact_slice rfl _ (k0_off2_wordsbf16 d 10)) ((Memref.isWhole_whole _).wordExact_slice rfl _ (k0_off2_wordsbf16 d 10))
  waitPiece (F := F) 64 mOut mOut 31 (k0_off2 d 1#32 8#32) (k0_off2_inb d 11) ((Memref.isWhole_whole _).wordExact_slice rfl _ (k0_off2_wordsbf16 d 11)) ((Memref.isWhole_whole _).wordExact_slice rfl _ (k0_off2_wordsbf16 d 11))
  waitPiece (F := F) 64 mOut mOut 32 (k0_off2 d 1#32 10#32) (k0_off2_inb d 12) ((Memref.isWhole_whole _).wordExact_slice rfl _ (k0_off2_wordsbf16 d 12)) ((Memref.isWhole_whole _).wordExact_slice rfl _ (k0_off2_wordsbf16 d 12))
  waitPiece (F := F) 64 mOut mOut 33 (k0_off2 d 1#32 12#32) (k0_off2_inb d 13) ((Memref.isWhole_whole _).wordExact_slice rfl _ (k0_off2_wordsbf16 d 13)) ((Memref.isWhole_whole _).wordExact_slice rfl _ (k0_off2_wordsbf16 d 13))
  waitPiece (F := F) 64 mOut mOut 34 (k0_off2 d 1#32 14#32) (k0_off2_inb d 14) ((Memref.isWhole_whole _).wordExact_slice rfl _ (k0_off2_wordsbf16 d 14)) ((Memref.isWhole_whole _).wordExact_slice rfl _ (k0_off2_wordsbf16 d 14))

/-- The first layer's `hact`. -/
def headPieces : Prog (TpuEff nD τ sig (Elt F) Λ₀ .tc) PUnit := do
  let x ← ld (F := F) mOut ![0, 0] S1024x1024.size inb_S1024x1024_S1024x1024_0_0 h_S1024x1024
  headPiece (F := F) x ![0, 0, 0] inb_S2x1024x2048_S1x1024x1024_0_0_0 ![0, 0] inb_S1024x2048_S1024x1024_0_0 ((Memref.isWhole_whole _).storeExact_slice rfl _ packedbf16_S1024x2048_S1024x1024_0_0)
  headPiece (F := F) x ![0, 0, 1024] inb_S2x1024x2048_S1x1024x1024_0_0_1024 ![0, 1024] inb_S1024x2048_S1024x1024_0_1024 ((Memref.isWhole_whole _).storeExact_slice rfl _ packedbf16_S1024x2048_S1024x1024_0_1024)

/-- Gathered rows, piece by piece, into the next layer's `hact`, -/
def toHact (d : Dev nD) (ow : Fin 3 → ℕ) (iw : ∀ a, ow a + S1x1024x2048.size a ≤ S2x1024x2048.size a) : Fin 10 → Prog (TpuEff nD τ sig (Elt F) Λ₀ .tc) PUnit
  | 0 => consPiece (F := F) 32 h_S32x1024 h_S32x2048 (k0_off12 d 0#32 0#32 2#32 1#32 3#32) (k0_off12_inb d 0) ow iw (k0_off15 d 0#32 0#32 2#32 1#32 3#32) (k0_off15_inb d 0) ((Memref.isWhole_whole _).storeExact_slice rfl _ (k0_off15_packedbf16 d 0))
  | 1 => consPiece (F := F) 32 h_S32x1024 h_S32x2048 (k0_off12 d 512#32 2#32 0#32 3#32 1#32) (k0_off12_inb d 1) ow iw (k0_off15 d 512#32 2#32 0#32 3#32 1#32) (k0_off15_inb d 1) ((Memref.isWhole_whole _).storeExact_slice rfl _ (k0_off15_packedbf16 d 1))
  | 2 => consPiece (F := F) 32 h_S32x1024 h_S32x2048 (k0_off17 d 0#32 0#32 2#32 1#32 3#32 3#32) (k0_off17_inb d 0) ow iw (k0_off18 d 0#32 0#32 2#32 1#32 3#32 3#32) (k0_off18_inb d 0) ((Memref.isWhole_whole _).storeExact_slice rfl _ (k0_off18_packedbf16 d 0))
  | 3 => consPiece (F := F) 32 h_S32x1024 h_S32x2048 (k0_off17 d 512#32 2#32 0#32 3#32 1#32 1#32) (k0_off17_inb d 1) ow iw (k0_off18 d 512#32 2#32 0#32 3#32 1#32 1#32) (k0_off18_inb d 1) ((Memref.isWhole_whole _).storeExact_slice rfl _ (k0_off18_packedbf16 d 1))
  | 4 => consPiece (F := F) 64 h_S64x1024 h_S64x2048 (k0_off20 d 0#32 0#32 2#32 1#32 3#32 3#32 1#32) (k0_off20_inb d 0) ow iw (k0_off21 d 0#32 0#32 2#32 1#32 3#32 3#32 1#32) (k0_off21_inb d 0) ((Memref.isWhole_whole _).storeExact_slice rfl _ (k0_off21_packedbf16 d 0))
  | 5 => consPiece (F := F) 64 h_S64x1024 h_S64x2048 (k0_off20 d 512#32 2#32 0#32 3#32 1#32 1#32 3#32) (k0_off20_inb d 1) ow iw (k0_off21 d 512#32 2#32 0#32 3#32 1#32 1#32 3#32) (k0_off21_inb d 1) ((Memref.isWhole_whole _).storeExact_slice rfl _ (k0_off21_packedbf16 d 1))
  | 6 => consPiece (F := F) 128 h_S128x1024 h_S128x2048 (k0_off22 d 0#32 0#32 2#32 1#32 3#32 3#32 1#32 2#32) (k0_off22_inb d 0) ow iw (k0_off23 d 0#32 0#32 2#32 1#32 3#32 3#32 1#32 2#32) (k0_off23_inb d 0) ((Memref.isWhole_whole _).storeExact_slice rfl _ (k0_off23_packedbf16 d 0))
  | 7 => consPiece (F := F) 128 h_S128x1024 h_S128x2048 (k0_off22 d 512#32 2#32 0#32 3#32 1#32 1#32 3#32 0#32) (k0_off22_inb d 1) ow iw (k0_off23 d 512#32 2#32 0#32 3#32 1#32 1#32 3#32 0#32) (k0_off23_inb d 1) ((Memref.isWhole_whole _).storeExact_slice rfl _ (k0_off23_packedbf16 d 1))
  | 8 => consPiece (F := F) 256 h_S256x1024 h_S256x2048 (k0_off24 d 0#32 0#32 2#32 1#32 3#32 3#32 1#32 2#32 0#32) (k0_off24_inb d 0) ow iw (k0_off25 d 0#32 0#32 2#32 1#32 3#32 3#32 1#32 2#32 0#32) (k0_off25_inb d 0) ((Memref.isWhole_whole _).storeExact_slice rfl _ (k0_off25_packedbf16 d 0))
  | _ => consPiece (F := F) 256 h_S256x1024 h_S256x2048 (k0_off24 d 512#32 2#32 0#32 3#32 1#32 1#32 3#32 0#32 2#32) (k0_off24_inb d 1) ow iw (k0_off25 d 512#32 2#32 0#32 3#32 1#32 1#32 3#32 0#32 2#32) (k0_off25_inb d 1) ((Memref.isWhole_whole _).storeExact_slice rfl _ (k0_off25_packedbf16 d 1))

/-- or into the result. -/
def toOut (d : Dev nD) : Fin 10 → Prog (TpuEff nD τ sig (Elt F) Λ₀ .tc) PUnit
  | 0 => outPiece (F := F) 32 h_S32x1024 (k0_off12 d 0#32 0#32 2#32 1#32 3#32) (k0_off12_inb d 0)
  | 1 => outPiece (F := F) 32 h_S32x1024 (k0_off12 d 512#32 2#32 0#32 3#32 1#32) (k0_off12_inb d 1)
  | 2 => outPiece (F := F) 32 h_S32x1024 (k0_off17 d 0#32 0#32 2#32 1#32 3#32 3#32) (k0_off17_inb d 0)
  | 3 => outPiece (F := F) 32 h_S32x1024 (k0_off17 d 512#32 2#32 0#32 3#32 1#32 1#32) (k0_off17_inb d 1)
  | 4 => outPiece (F := F) 64 h_S64x1024 (k0_off20 d 0#32 0#32 2#32 1#32 3#32 3#32 1#32) (k0_off20_inb d 0)
  | 5 => outPiece (F := F) 64 h_S64x1024 (k0_off20 d 512#32 2#32 0#32 3#32 1#32 1#32 3#32) (k0_off20_inb d 1)
  | 6 => outPiece (F := F) 128 h_S128x1024 (k0_off22 d 0#32 0#32 2#32 1#32 3#32 3#32 1#32 2#32) (k0_off22_inb d 0)
  | 7 => outPiece (F := F) 128 h_S128x1024 (k0_off22 d 512#32 2#32 0#32 3#32 1#32 1#32 3#32 0#32) (k0_off22_inb d 1)
  | 8 => outPiece (F := F) 256 h_S256x1024 (k0_off24 d 0#32 0#32 2#32 1#32 3#32 3#32 1#32 2#32 0#32) (k0_off24_inb d 0)
  | _ => outPiece (F := F) 256 h_S256x1024 (k0_off24 d 512#32 2#32 0#32 3#32 1#32 1#32 3#32 0#32 2#32) (k0_off24_inb d 1)

/-- The partner of each exchange of layer 0, in the order the exchanges start. -/
def dv0 (d : Dev nD) : Fin 16 → Dev nD
  | 0 => ⟨k0_dev20 d, k0_dev20_lt d⟩
  | 1 => ⟨k0_dev21 d, k0_dev21_lt d⟩
  | 2 => ⟨k0_dev22 d, k0_dev22_lt d⟩
  | 3 => ⟨k0_dev23 d, k0_dev23_lt d⟩
  | 4 => ⟨k0_dev24 d, k0_dev24_lt d⟩
  | 5 => ⟨k0_dev25 d, k0_dev25_lt d⟩
  | 6 => ⟨k0_dev26 d, k0_dev26_lt d⟩
  | 7 => ⟨k0_dev27 d, k0_dev27_lt d⟩
  | 8 => ⟨k0_dev28 d, k0_dev28_lt d⟩
  | 9 => ⟨k0_dev29 d, k0_dev29_lt d⟩
  | 10 => ⟨k0_dev30 d, k0_dev30_lt d⟩
  | 11 => ⟨k0_dev31 d, k0_dev31_lt d⟩
  | 12 => ⟨k0_dev32 d, k0_dev32_lt d⟩
  | 13 => ⟨k0_dev33 d, k0_dev33_lt d⟩
  | 14 => ⟨k0_dev34 d, k0_dev34_lt d⟩
  | _ => ⟨k0_dev35 d, k0_dev35_lt d⟩

/-- The partner of each exchange of layer 1, in the order the exchanges start. -/
def dv1 (d : Dev nD) : Fin 16 → Dev nD
  | 0 => ⟨k0_dev36 d, k0_dev36_lt d⟩
  | 1 => ⟨k0_dev37 d, k0_dev37_lt d⟩
  | 2 => ⟨k0_dev38 d, k0_dev38_lt d⟩
  | 3 => ⟨k0_dev39 d, k0_dev39_lt d⟩
  | 4 => ⟨k0_dev40 d, k0_dev40_lt d⟩
  | 5 => ⟨k0_dev41 d, k0_dev41_lt d⟩
  | 6 => ⟨k0_dev42 d, k0_dev42_lt d⟩
  | 7 => ⟨k0_dev43 d, k0_dev43_lt d⟩
  | 8 => ⟨k0_dev44 d, k0_dev44_lt d⟩
  | 9 => ⟨k0_dev45 d, k0_dev45_lt d⟩
  | 10 => ⟨k0_dev46 d, k0_dev46_lt d⟩
  | 11 => ⟨k0_dev47 d, k0_dev47_lt d⟩
  | 12 => ⟨k0_dev48 d, k0_dev48_lt d⟩
  | 13 => ⟨k0_dev49 d, k0_dev49_lt d⟩
  | 14 => ⟨k0_dev50 d, k0_dev50_lt d⟩
  | _ => ⟨k0_dev51 d, k0_dev51_lt d⟩

/-- The partner of each exchange of layer 2, in the order the exchanges start. -/
def dv2 (d : Dev nD) : Fin 16 → Dev nD
  | 0 => ⟨k0_dev52 d, k0_dev52_lt d⟩
  | 1 => ⟨k0_dev53 d, k0_dev53_lt d⟩
  | 2 => ⟨k0_dev54 d, k0_dev54_lt d⟩
  | 3 => ⟨k0_dev55 d, k0_dev55_lt d⟩
  | 4 => ⟨k0_dev56 d, k0_dev56_lt d⟩
  | 5 => ⟨k0_dev57 d, k0_dev57_lt d⟩
  | 6 => ⟨k0_dev58 d, k0_dev58_lt d⟩
  | 7 => ⟨k0_dev59 d, k0_dev59_lt d⟩
  | 8 => ⟨k0_dev60 d, k0_dev60_lt d⟩
  | 9 => ⟨k0_dev61 d, k0_dev61_lt d⟩
  | 10 => ⟨k0_dev62 d, k0_dev62_lt d⟩
  | 11 => ⟨k0_dev63 d, k0_dev63_lt d⟩
  | 12 => ⟨k0_dev64 d, k0_dev64_lt d⟩
  | 13 => ⟨k0_dev65 d, k0_dev65_lt d⟩
  | 14 => ⟨k0_dev66 d, k0_dev66_lt d⟩
  | _ => ⟨k0_dev67 d, k0_dev67_lt d⟩

/-- The body on device `d`. -/
def prog (d : Dev nD) : Prog (TpuEff nD τ sig (Elt F) Λ₀ .tc) PUnit := do
  inPiece (F := F) (k0_off1 d) (k0_off1_inb d) ((Memref.isWhole_whole _).storeExact_slice rfl _ (k0_off1_packedbf16 d))
  loadPiece (F := F) (Memref.whole main_arg1) (Memref.isWhole_whole _).wordExact (Memref.whole main_arg2) (Memref.isWhole_whole _).wordExact
  barrierPiece (F := F) ⟨k0_dev1 d, k0_dev1_lt d⟩ ⟨k0_dev2 d, k0_dev2_lt d⟩ ⟨k0_dev3 d, k0_dev3_lt d⟩ ⟨k0_dev4 d, k0_dev4_lt d⟩
  spread (F := F) d
  storePiece (F := F) (Memref.whole main_arg1) (Memref.isWhole_whole _).wordExact (Memref.whole main_arg2) (Memref.isWhole_whole _).wordExact ![0, 0, 0] inb_S2x1024x2048_S1x1024x2048_0_0_0 ((Memref.isWhole_whole _).storeExact_slice rfl _ packedbf16_S2x1024x2048_S1x1024x2048_0_0_0) ![0, 0, 0] inb_S2x2048x1024_S1x2048x1024_0_0_0 ((Memref.isWhole_whole _).storeExact_slice rfl _ packedbf16_S2x2048x1024_S1x2048x1024_0_0_0)
  loadPiece (F := F) (Memref.whole main_arg3) (Memref.isWhole_whole _).wordExact (Memref.whole main_arg4) (Memref.isWhole_whole _).wordExact
  headPieces (F := F)
  layerDot (F := F) d (dv0 d) ![0, 0, 0] inb_S2x2048x1024_S1x2048x1024_0_0_0
  storePiece (F := F) (Memref.whole main_arg1) (Memref.isWhole_whole _).wordExact (Memref.whole main_arg2) (Memref.isWhole_whole _).wordExact ![1, 0, 0] inb_S2x1024x2048_S1x1024x2048_1_0_0 ((Memref.isWhole_whole _).storeExact_slice rfl _ packedbf16_S2x1024x2048_S1x1024x2048_1_0_0) ![1, 0, 0] inb_S2x2048x1024_S1x2048x1024_1_0_0 ((Memref.isWhole_whole _).storeExact_slice rfl _ packedbf16_S2x2048x1024_S1x2048x1024_1_0_0)
  loadPiece (F := F) (Memref.whole main_arg5) (Memref.isWhole_whole _).wordExact (Memref.whole main_arg6) (Memref.isWhole_whole _).wordExact
  layerReduce (F := F) d (dv0 d)
  layerGather (F := F) d (dv0 d) (toHact (F := F) d ![1, 0, 0] inb_S2x1024x2048_S1x1024x2048_1_0_0)
  layerDot (F := F) d (dv1 d) ![1, 0, 0] inb_S2x2048x1024_S1x2048x1024_1_0_0
  storePiece (F := F) (Memref.whole main_arg1) (Memref.isWhole_whole _).wordExact (Memref.whole main_arg2) (Memref.isWhole_whole _).wordExact ![0, 0, 0] inb_S2x1024x2048_S1x1024x2048_0_0_0 ((Memref.isWhole_whole _).storeExact_slice rfl _ packedbf16_S2x1024x2048_S1x1024x2048_0_0_0) ![0, 0, 0] inb_S2x2048x1024_S1x2048x1024_0_0_0 ((Memref.isWhole_whole _).storeExact_slice rfl _ packedbf16_S2x2048x1024_S1x2048x1024_0_0_0)
  layerReduce (F := F) d (dv1 d)
  layerGather (F := F) d (dv1 d) (toHact (F := F) d ![0, 0, 0] inb_S2x1024x2048_S1x1024x2048_0_0_0)
  layerDot (F := F) d (dv2 d) ![0, 0, 0] inb_S2x2048x1024_S1x2048x1024_0_0_0
  layerReduce (F := F) d (dv2 d)
  layerGather (F := F) d (dv2 d) (toOut (F := F) d)

/-- The kernel's body, at the pipeline's one point, is these pieces on the device it runs on. -/
theorem body_eq : bodyAt0 (F := F) t0_0 = (Prog.lift .deviceId >>= fun d => prog (F := F) d) := by
  chain_rfl

end Cert.KernelIdeal.Gen

end
-- ==== Proof.Geo.lean ====
/- Which rows of the buffers each device keeps, sends and receives, and with which partner, as plain
   functions of the device; and that the kernel's computed offsets and device numbers are these. -/
module

public import proofs.«01_k».proof.Proof.Program

@[expose] public section

set_option maxRecDepth 65536

noncomputable section

namespace Cert.KernelIdeal.Gen

open Idealize.ShloMosaic Idealize.ShloMosaic.TcCoe
open Idealize.SL Idealize.SL.Sem

/-! ## Partners -/

/-- The device whose number differs in bit `k`. -/
def flip (k : ℕ) (d : Dev nD) : Dev nD := ⟨(d.val ^^^ (1 <<< k)) % 16, Nat.mod_lt _ (by decide)⟩

/-- The bit that exchange `t` of band `b` goes across. -/
def ord (b : Fin 2) (t : ℕ) : ℕ :=
  if b = 0 then (match t with | 0 => 0 | 1 => 2 | 2 => 1 | _ => 3) else (match t with | 0 => 2 | 1 => 0 | 2 => 3 | _ => 1)

/-- The partner of exchange `t` of band `b`. -/
def peer (b : Fin 2) (t : ℕ) (d : Dev nD) : Dev nD := flip (ord b t) d

def bit (k : ℕ) (d : Dev nD) : ℕ := (d.val >>> k) % 2

/-! ## Rows -/

/-- Half of what is left of a band at exchange `t`. -/
def hsz (t : ℕ) : ℕ := 256 >>> t

/-- The first row of what a device has kept of band `b` before exchange `t`: `512 >>> t` rows. -/
def keepLo (b : Fin 2) : ℕ → Dev nD → ℕ
  | 0, _ => 512 * b.val
  | t + 1, d => keepLo b t d + bit (ord b t) d * hsz t

/-- The first row of what it sends away at exchange `t`: `256 >>> t` rows. -/
def sendLo (b : Fin 2) (t : ℕ) (d : Dev nD) : ℕ := keepLo b t d + (1 - bit (ord b t) d) * hsz t

/-- Where exchange `t` of band `b` is staged. -/
def stgLo (b : Fin 2) (t : ℕ) : ℕ := 512 * b.val + (512 - (512 >>> t))

/-! ## The spreading of the input -/

/-- The hop a transfer of the input belongs to, -/
def hop (x : Fin 15) : ℕ := if x.val < 1 then 0 else if x.val < 3 then 1 else if x.val < 7 then 2 else 3
/-- its partner, -/
def xpeer (x : Fin 15) (d : Dev nD) : Dev nD := flip (3 - hop x) d
/-- and the block of 64 rows a device sends in it. -/
def xblk (x : Fin 15) (d : Dev nD) : ℕ := d.val % (16 >>> hop x) + (x.val + 1 - (1 <<< hop x)) * (16 >>> hop x)

/-! ## Slots of the semaphore arrays -/

def slotA (b : Fin 2) (t : Fin 4) : Fin 35 := ⟨4 * b.val + t.val, by omega⟩
def slotR (b : Fin 2) (t : Fin 4) : Fin 35 := ⟨12 + 4 * b.val + t.val, by omega⟩
def slotX (x : Fin 15) : Fin 35 := ⟨20 + x.val, by omega⟩

/-! ## The kernel's offsets -/

variable (d : Dev nD)

theorem off1_eq : k0_off1 d = ![64 * d.val, 0] := by revert d; decide +kernel

theorem off3_0 : k0_off3 d 0#32 0#32 = ![sendLo 0 0 d, 0] := by revert d; decide +kernel
theorem off3_1 : k0_off3 d 512#32 2#32 = ![sendLo 1 0 d, 0] := by revert d; decide +kernel
theorem off4_0 : k0_off4 d 0#32 0#32 = ![sendLo 0 0 d, 0] := by revert d; decide +kernel
theorem off4_1 : k0_off4 d 512#32 2#32 = ![sendLo 1 0 d, 0] := by revert d; decide +kernel
theorem off5_0 : k0_off5 d 0#32 0#32 = ![keepLo 0 1 d, 0] := by revert d; decide +kernel
theorem off5_1 : k0_off5 d 512#32 2#32 = ![keepLo 1 1 d, 0] := by revert d; decide +kernel
theorem off6_0 : k0_off6 d 0#32 0#32 = ![keepLo 0 1 d, 0] := by revert d; decide +kernel
theorem off6_1 : k0_off6 d 512#32 2#32 = ![keepLo 1 1 d, 0] := by revert d; decide +kernel
theorem off7_0 : k0_off7 d 0#32 0#32 2#32 = ![sendLo 0 1 d, 0] := by revert d; decide +kernel
theorem off7_1 : k0_off7 d 512#32 2#32 0#32 = ![sendLo 1 1 d, 0] := by revert d; decide +kernel
theorem off8_0 : k0_off8 d 0#32 0#32 2#32 = ![keepLo 0 2 d, 0] := by revert d; decide +kernel
theorem off8_1 : k0_off8 d 512#32 2#32 0#32 = ![keepLo 1 2 d, 0] := by revert d; decide +kernel
theorem off9_0 : k0_off9 d 0#32 0#32 2#32 1#32 = ![sendLo 0 2 d, 0] := by revert d; decide +kernel
theorem off9_1 : k0_off9 d 512#32 2#32 0#32 3#32 = ![sendLo 1 2 d, 0] := by revert d; decide +kernel
theorem off10_0 : k0_off10 d 0#32 0#32 2#32 1#32 = ![keepLo 0 3 d, 0] := by revert d; decide +kernel
theorem off10_1 : k0_off10 d 512#32 2#32 0#32 3#32 = ![keepLo 1 3 d, 0] := by revert d; decide +kernel
theorem off11_0 : k0_off11 d 0#32 0#32 2#32 1#32 3#32 = ![sendLo 0 3 d, 0] := by revert d; decide +kernel
theorem off11_1 : k0_off11 d 512#32 2#32 0#32 3#32 1#32 = ![sendLo 1 3 d, 0] := by revert d; decide +kernel
theorem off12_0 : k0_off12 d 0#32 0#32 2#32 1#32 3#32 = ![keepLo 0 4 d, 0] := by revert d; decide +kernel
theorem off12_1 : k0_off12 d 512#32 2#32 0#32 3#32 1#32 = ![keepLo 1 4 d, 0] := by revert d; decide +kernel
theorem off13_0 : k0_off13 d 0#32 0#32 2#32 1#32 3#32 = ![keepLo 0 4 d, 0] := by revert d; decide +kernel
theorem off13_1 : k0_off13 d 512#32 2#32 0#32 3#32 1#32 = ![keepLo 1 4 d, 0] := by revert d; decide +kernel
theorem off14_0 : k0_off14 d 0#32 0#32 2#32 1#32 3#32 3#32 = ![keepLo 0 3 d, 0] := by revert d; decide +kernel
theorem off14_1 : k0_off14 d 512#32 2#32 0#32 3#32 1#32 1#32 = ![keepLo 1 3 d, 0] := by revert d; decide +kernel
theorem off15_0 : k0_off15 d 0#32 0#32 2#32 1#32 3#32 = ![keepLo 0 4 d, 0] := by revert d; decide +kernel
theorem off15_1 : k0_off15 d 512#32 2#32 0#32 3#32 1#32 = ![keepLo 1 4 d, 0] := by revert d; decide +kernel
theorem off16_0 : k0_off16 d 0#32 0#32 2#32 1#32 3#32 3#32 1#32 = ![keepLo 0 2 d, 0] := by revert d; decide +kernel
theorem off16_1 : k0_off16 d 512#32 2#32 0#32 3#32 1#32 1#32 3#32 = ![keepLo 1 2 d, 0] := by revert d; decide +kernel
theorem off17_0 : k0_off17 d 0#32 0#32 2#32 1#32 3#32 3#32 = ![sendLo 0 3 d, 0] := by revert d; decide +kernel
theorem off17_1 : k0_off17 d 512#32 2#32 0#32 3#32 1#32 1#32 = ![sendLo 1 3 d, 0] := by revert d; decide +kernel
theorem off18_0 : k0_off18 d 0#32 0#32 2#32 1#32 3#32 3#32 = ![sendLo 0 3 d, 0] := by revert d; decide +kernel
theorem off18_1 : k0_off18 d 512#32 2#32 0#32 3#32 1#32 1#32 = ![sendLo 1 3 d, 0] := by revert d; decide +kernel
theorem off19_0 : k0_off19 d 0#32 0#32 2#32 1#32 3#32 3#32 1#32 2#32 = ![keepLo 0 1 d, 0] := by revert d; decide +kernel
theorem off19_1 : k0_off19 d 512#32 2#32 0#32 3#32 1#32 1#32 3#32 0#32 = ![keepLo 1 1 d, 0] := by revert d; decide +kernel
theorem off20_0 : k0_off20 d 0#32 0#32 2#32 1#32 3#32 3#32 1#32 = ![sendLo 0 2 d, 0] := by revert d; decide +kernel
theorem off20_1 : k0_off20 d 512#32 2#32 0#32 3#32 1#32 1#32 3#32 = ![sendLo 1 2 d, 0] := by revert d; decide +kernel
theorem off21_0 : k0_off21 d 0#32 0#32 2#32 1#32 3#32 3#32 1#32 = ![sendLo 0 2 d, 0] := by revert d; decide +kernel
theorem off21_1 : k0_off21 d 512#32 2#32 0#32 3#32 1#32 1#32 3#32 = ![sendLo 1 2 d, 0] := by revert d; decide +kernel
theorem off22_0 : k0_off22 d 0#32 0#32 2#32 1#32 3#32 3#32 1#32 2#32 = ![sendLo 0 1 d, 0] := by revert d; decide +kernel
theorem off22_1 : k0_off22 d 512#32 2#32 0#32 3#32 1#32 1#32 3#32 0#32 = ![sendLo 1 1 d, 0] := by revert d; decide +kernel
theorem off23_0 : k0_off23 d 0#32 0#32 2#32 1#32 3#32 3#32 1#32 2#32 = ![sendLo 0 1 d, 0] := by revert d; decide +kernel
theorem off23_1 : k0_off23 d 512#32 2#32 0#32 3#32 1#32 1#32 3#32 0#32 = ![sendLo 1 1 d, 0] := by revert d; decide +kernel
theorem off24_0 : k0_off24 d 0#32 0#32 2#32 1#32 3#32 3#32 1#32 2#32 0#32 = ![sendLo 0 0 d, 0] := by revert d; decide +kernel
theorem off24_1 : k0_off24 d 512#32 2#32 0#32 3#32 1#32 1#32 3#32 0#32 2#32 = ![sendLo 1 0 d, 0] := by revert d; decide +kernel
theorem off25_0 : k0_off25 d 0#32 0#32 2#32 1#32 3#32 3#32 1#32 2#32 0#32 = ![sendLo 0 0 d, 0] := by revert d; decide +kernel
theorem off25_1 : k0_off25 d 512#32 2#32 0#32 3#32 1#32 1#32 3#32 0#32 2#32 = ![sendLo 1 0 d, 0] := by revert d; decide +kernel

theorem offX : k0_off2 d 15#32 0#32 = ![64 * xblk 0 d, 0] ∧ k0_off2 d 7#32 0#32 = ![64 * xblk 1 d, 0]
    ∧ k0_off2 d 7#32 8#32 = ![64 * xblk 2 d, 0] ∧ k0_off2 d 3#32 0#32 = ![64 * xblk 3 d, 0]
    ∧ k0_off2 d 3#32 4#32 = ![64 * xblk 4 d, 0] ∧ k0_off2 d 3#32 8#32 = ![64 * xblk 5 d, 0]
    ∧ k0_off2 d 3#32 12#32 = ![64 * xblk 6 d, 0] ∧ k0_off2 d 1#32 0#32 = ![64 * xblk 7 d, 0]
    ∧ k0_off2 d 1#32 2#32 = ![64 * xblk 8 d, 0] ∧ k0_off2 d 1#32 4#32 = ![64 * xblk 9 d, 0]
    ∧ k0_off2 d 1#32 6#32 = ![64 * xblk 10 d, 0] ∧ k0_off2 d 1#32 8#32 = ![64 * xblk 11 d, 0]
    ∧ k0_off2 d 1#32 10#32 = ![64 * xblk 12 d, 0] ∧ k0_off2 d 1#32 12#32 = ![64 * xblk 13 d, 0]
    ∧ k0_off2 d 1#32 14#32 = ![64 * xblk 14 d, 0] := by revert d; decide +kernel

/-! ## The kernel's device numbers -/

/-- The partner of each exchange of a layer, in the order the exchanges start. -/
def dvOf (d : Dev nD) (i : Fin 16) : Dev nD :=
  peer ⟨i.val % 2, Nat.mod_lt _ (by decide)⟩ (if i.val < 8 then i.val / 2 else 3 - (i.val - 8) / 2) d

theorem dvOf_R (b : Fin 2) (t : ℕ) (h : t < 4) (i : Fin 16) (hi : i.val = 2 * t + b.val) : dvOf d i = peer b t d := by
  have : ∀ b : Fin 2, ∀ t < 4, ∀ i : Fin 16, i.val = 2 * t + b.val → ∀ d, dvOf d i = peer b t d := by decide +kernel
  exact this b t h i hi d
theorem dvOf_A (b : Fin 2) (t : ℕ) (h : t < 4) (i : Fin 16) (hi : i.val = 8 + 2 * (3 - t) + b.val) : dvOf d i = peer b t d := by
  have : ∀ b : Fin 2, ∀ t < 4, ∀ i : Fin 16, i.val = 8 + 2 * (3 - t) + b.val → ∀ d, dvOf d i = peer b t d := by decide +kernel
  exact this b t h i hi d

section
variable [Facts]
theorem dv0_eq : dv0 d = dvOf d := by
  have h : ∀ i, (dv0 d i).val = (dvOf d i).val := by
    revert d; simp only [dv0]; decide +kernel
  exact funext fun i => Fin.ext (h i)
theorem dv1_eq : dv1 d = dvOf d := by
  have h : ∀ i, (dv1 d i).val = (dvOf d i).val := by
    revert d; simp only [dv1]; decide +kernel
  exact funext fun i => Fin.ext (h i)
theorem dv2_eq : dv2 d = dvOf d := by
  have h : ∀ i, (dv2 d i).val = (dvOf d i).val := by
    revert d; simp only [dv2]; decide +kernel
  exact funext fun i => Fin.ext (h i)

theorem devB : k0_dev1 d = (flip 0 d).val ∧ k0_dev2 d = (flip 1 d).val ∧ k0_dev3 d = (flip 2 d).val ∧ k0_dev4 d = (flip 3 d).val := by
  revert d; decide +kernel
theorem devX : k0_dev5 d = (xpeer 0 d).val ∧ k0_dev6 d = (xpeer 1 d).val ∧ k0_dev7 d = (xpeer 2 d).val ∧ k0_dev8 d = (xpeer 3 d).val ∧ k0_dev9 d = (xpeer 4 d).val ∧ k0_dev10 d = (xpeer 5 d).val ∧ k0_dev11 d = (xpeer 6 d).val ∧ k0_dev12 d = (xpeer 7 d).val ∧ k0_dev13 d = (xpeer 8 d).val ∧ k0_dev14 d = (xpeer 9 d).val ∧ k0_dev15 d = (xpeer 10 d).val ∧ k0_dev16 d = (xpeer 11 d).val ∧ k0_dev17 d = (xpeer 12 d).val ∧ k0_dev18 d = (xpeer 13 d).val ∧ k0_dev19 d = (xpeer 14 d).val := by
  revert d; decide +kernel
end

/-! ## How the rows fit together -/

theorem ksz {t : ℕ} (h : t < 4) : 512 >>> t = 2 * hsz t ∧ 512 >>> (t + 1) = hsz t ∧ 0 < hsz t := by
  have : ∀ t < 4, 512 >>> t = 2 * hsz t ∧ 512 >>> (t + 1) = hsz t ∧ 0 < hsz t := by decide
  exact this t h

/-- What is kept and what is sent away are the two halves of what there was. -/
theorem halves (b : Fin 2) {t : ℕ} (h : t < 4) : (keepLo b (t + 1) d = keepLo b t d ∧ sendLo b t d = keepLo b t d + hsz t)
    ∨ (keepLo b (t + 1) d = keepLo b t d + hsz t ∧ sendLo b t d = keepLo b t d) := by
  have : ∀ (b : Fin 2), ∀ t < 4, ∀ d, (keepLo b (t + 1) d = keepLo b t d ∧ sendLo b t d = keepLo b t d + hsz t)
    ∨ (keepLo b (t + 1) d = keepLo b t d + hsz t ∧ sendLo b t d = keepLo b t d) := by decide +kernel
  exact this b t h d

theorem keep_band (b : Fin 2) {t : ℕ} (h : t < 5) : 512 * b.val ≤ keepLo b t d ∧ keepLo b t d + 512 >>> t ≤ 512 * b.val + 512 := by
  have : ∀ (b : Fin 2), ∀ t < 5, ∀ d, 512 * b.val ≤ keepLo b t d ∧ keepLo b t d + 512 >>> t ≤ 512 * b.val + 512 := by decide +kernel
  exact this b t h d

/-- A device's partner keeps what it sends, and sends what it keeps. -/
theorem keep_peer (b : Fin 2) {t : ℕ} (h : t < 4) : keepLo b (t + 1) (peer b t d) = sendLo b t d ∧ sendLo b t (peer b t d) = keepLo b (t + 1) d := by
  have : ∀ (b : Fin 2), ∀ t < 4, ∀ d, keepLo b (t + 1) (peer b t d) = sendLo b t d ∧ sendLo b t (peer b t d) = keepLo b (t + 1) d := by decide +kernel
  exact this b t h d

end Cert.KernelIdeal.Gen

end
-- ==== Proof.Own.lean ====
/- Parts of a buffer held at values that meet a predicate, and the kernel's loads and stores over them. -/
module

public import proofs.«01_k».proof.Proof.Geo
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's, and that of the kernel's own semaphores, of up to four duties a round. -/
abbrev UU : Type := UR sig nD τ × URounds (GSem nD τ sig) (Fin 4)

local notation "𝕄" => MT nD τ sig ℕ (Elt F) ℕ UU ℕ

abbrev EP : Emb (UR sig nD τ) (MT nD τ sig ℕ (Elt F) ℕ UU ℕ) := embL
abbrev ER : Emb (URounds (GSem nD τ sig) (Fin 4)) (MT nD τ sig ℕ (Elt F) ℕ UU ℕ) := embR

abbrev 𝒱₀ : Variants := Variants.none

/-- What a program run on core `c` comes to. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Parts of a buffer -/

section Own
variable {s : Shape} {e : EltTy} (c : Dev nD) (m : Memref sig .tc .vmem s e)

/-- The elements `S` of a buffer, at share `q`, held at values that meet `P`. -/
def Own (q : PosShare TreeShare) (S : Finset s.Idx) (P : s.Idx → Elt F e → Prop) : sProp 𝕄 :=
  iprop(∃ f : Buf (Elt F) (m.view.loc (c : Thread nD τ)), ⌜∀ i ∈ S, P i (m.view.read (Elt F) f i)⌝
    ∗ (m.view.loc (c : Thread nD τ) ↦[m.view.setOn S]{q} f))

instance own_storable (q : PosShare TreeShare) (S : Finset s.Idx) (P : s.Idx → Elt F e → Prop) :
    BI.Storable (upEmb : UEmb _ 𝕄) (Own (F := F) c m q S P) := by unfold Own; infer_instance

variable {c m}
variable {q : PosShare TreeShare} {S I J : Finset s.Idx} {P P' : s.Idx → Elt F e → Prop}

omit [FloatOps F] in
theorem own_mono (h : ∀ i ∈ S, ∀ v, P i v → P' i v) : Own c m q S P ⊢ Own c m q S P' := by
  unfold Own
  iintro ⟨%f, %hf, H⟩
  iexists f
  isplitr; · ipureintro; exact fun i hi => h i hi _ (hf i hi)
  iexact H

omit [FloatOps F] in
theorem own_any : Own c m q S P ⊢ Own c m q S (fun _ _ => True) := own_mono fun _ _ _ _ => trivial

omit [FloatOps F] in
theorem setOn_disj (h : Disjoint I J) : Disjoint (m.view.setOn I) (m.view.setOn J) :=
  (Finset.disjoint_map _).mpr h

omit [FloatOps F] in
theorem own_split (h : Disjoint I J) (hS : S = I ∪ J) : Own c m q S P ⊢ iprop(Own c m q I P ∗ Own c m q J P) := by
  subst hS
  unfold Own
  iintro ⟨%f, %hf, H⟩
  have hU : m.view.setOn (I ∪ J) = m.view.setOn I ∪ m.view.setOn J := Finset.map_union _ _
  ihave H2 := (show (m.view.loc (c : Thread nD τ) ↦[m.view.setOn (I ∪ J)]{q} f : sProp 𝕄) ⊢ _ from
    (Entails.of_eq (by rw [hU])).trans (pointsTo_union (setOn_disj (m := m) h)).1) $$ H
  icases H2 with ⟨H1, H2⟩
  isplitl [H1]
  · iexists f
    isplitr; · ipureintro; exact fun i hi => hf i (Finset.mem_union_left _ hi)
    iexact H1
  · iexists f
    isplitr; · ipureintro; exact fun i hi => hf i (Finset.mem_union_right _ hi)
    iexact H2

omit [FloatOps F] in
theorem own_join (h : Disjoint I J) (hS : S = I ∪ J) : iprop(Own c m q I P ∗ Own c m q J P) ⊢ Own c m q S P := by
  subst hS
  unfold Own
  iintro ⟨⟨%f, %hf, H1⟩, ⟨%g, %hg, H2⟩⟩
  have hU : m.view.setOn (I ∪ J) = m.view.setOn I ∪ m.view.setOn J := Finset.map_union _ _
  ihave H := (pointsTo_join (ℓ := m.view.loc (c : Thread nD τ)) (q := q) (f := f) (g := g) (setOn_disj (m := m) h)) $$ [H1 H2]
  · isplitl [H1] <;> iassumption
  iexists ((m.view.setOn J).piecewise g f)
  isplitr
  · ipureintro
    intro i hi
    by_cases hJ : i ∈ J
    · have := hg i hJ
      rwa [View.read_congr_at (f := (m.view.setOn J).piecewise g f) (g := g) i
        (Finset.piecewise_eq_of_mem _ _ _ ((View.mem_setOn (v := m.view)).mpr hJ))]
    · have hI : i ∈ I := (Finset.mem_union.mp hi).resolve_right hJ
      have := hf i hI
      rwa [View.read_congr_at (f := (m.view.setOn J).piecewise g f) (g := f) i
        (Finset.piecewise_eq_of_notMem _ _ _ (fun hx => hJ ((View.mem_setOn (v := m.view)).mp hx)))]
  · rw [hU]; iexact H

omit [FloatOps F] in
theorem own_halve : Own c m fullShare S P ⊢ iprop(Own c m fullShare.left S P ∗ Own c m fullShare.right S P) := by
  unfold Own
  iintro ⟨%f, %hf, H⟩
  ihave H2 := (pointsTo_share (PosShare.mem_left_op_right fullShare)).1 $$ H
  icases H2 with ⟨H1, H2⟩
  isplitl [H1]
  · iexists f
    isplitr; · ipureintro; exact hf
    iexact H1
  · iexists f
    isplitr; · ipureintro; exact hf
    iexact H2

omit [FloatOps F] in
theorem own_whole : iprop(Own c m fullShare.left S P ∗ Own c m fullShare.right S P') ⊢ Own c m fullShare S P := by
  unfold Own
  iintro ⟨⟨%f, %hf, H1⟩, ⟨%g, %hg, H2⟩⟩
  ihave %hag := (pointsTo_agree (ℓ := m.view.loc (c : Thread nD τ)) (q₁ := fullShare.left) (q₂ := fullShare.right)
    (I := m.view.setOn S) (J := m.view.setOn S) (f := f) (g := g)) $$ [H1 H2]
  · isplitl [H1] <;> iassumption
  iexists f
  isplitr; · ipureintro; exact hf
  iapply (pointsTo_share (PosShare.mem_left_op_right fullShare)).2
  isplitl [H1]; · iexact H1
  rw [pointsTo_congr (f := f) (g := g) fun i hi => (hag i (Finset.mem_inter.mpr ⟨hi, hi⟩)).1]
  iexact H2

/-! ## Loads and stores -/

variable {α : Type} {Φ : α → sProp (MT nD τ sig ℕ (Elt F) ℕ UU ℕ)}

theorem wp_ld {off size : Fin s.rank → ℕ} {inb : ∀ a, off a + size a ≤ s.size a}
    {h : 0 < (Rect.unit (s := s) off size inb).toLoadRect.shape.numel}
    {k : ((⟨s.rank, size⟩ : Shape).Idx → Elt F e) → Prog (TpuEff nD τ sig (Elt F) Λ₀ .tc) α}
    (hS : (Rect.unit (s := s) off size inb).set ⊆ S) :
    Own c m q S P
      ⊢ iprop((∀ v : (⟨s.rank, size⟩ : Shape).Idx → Elt F e, ⌜∀ j, P ((Rect.unit (s := s) off size inb).emb j) (v j)⌝ -∗ Own c m q S P -∗ WP c (k v) Φ)
          -∗ WP c (ld (F := F) m off size inb h >>= k) Φ) := by
  unfold ld Own
  iintro ⟨%f, %hf, H⟩ Hk
  iapply (wp_load 𝒱₀ (c : Thread nD τ) none Set.univ (m := m) (S := m.view.setOn S) (f := f) (q := q)
    (r := (Rect.unit (s := s) off size inb).toLoadRect) (Finset.map_subset_map.mpr hS)) $$ H
  iintro H
  iapply Hk $$ [] [H]
  · ipureintro
    intro j
    exact hf _ (hS ((Rect.unit (s := s) off size inb).toLoadRect.idx_mem j))
  · iexists f
    isplitr; · ipureintro; exact hf
    iexact H

theorem wp_st {off size : Fin s.rank → ℕ} {inb : ∀ a, off a + size a ≤ s.size a}
    {w : (⟨s.rank, size⟩ : Shape).Idx → Elt F e}
    {h : (m.access (Rect.unit (s := s) off size inb)).Stores Finset.univ}
    {k : PUnit → Prog (TpuEff nD τ sig (Elt F) Λ₀ .tc) α}
    (hS : (Rect.unit (s := s) off size inb).set = S)
    (hP : ∀ j, P' ((Rect.unit (s := s) off size inb).emb j) (w j)) :
    Own c m fullShare S P
      ⊢ iprop((Own c m fullShare S P' -∗ WP c (k ⟨⟩) Φ) -∗ WP c (st (F := F) m off size inb w h >>= k) Φ) := by
  unfold st Own
  iintro ⟨%f, %hf, H⟩ Hk
  iapply (wp_store 𝒱₀ (c : Thread nD τ) none Set.univ (m := m) (S := m.view.setOn S) (f := f)
    (r := Rect.unit (s := s) off size inb) (w := w) (Mk := Finset.univ)
    (by rw [View.setOn_univ, View.set_slice, hS]; exact Finset.Subset.refl _)) $$ H
  iintro H
  iapply Hk
  iexists ((m.access (Rect.unit (s := s) off size inb)).write (Elt F) f w Finset.univ)
  isplitr
  · ipureintro
    intro i hi
    rw [← hS] at hi
    obtain ⟨j, rfl⟩ := (Rect.unit (s := s) off size inb).toLoadRect.exists_idx_of_mem hi
    have := View.read_write_univ (v := m.access (Rect.unit (s := s) off size inb)) f w
    have h2 := congrFun this j
    have h3 : m.view.read (Elt F) ((m.access (Rect.unit (s := s) off size inb)).write (Elt F) f w Finset.univ)
        ((Rect.unit (s := s) off size inb).emb j) = w j := h2
    have h4 := hP j
    rw [← h3] at h4
    exact h4
  · iexact H

/-- A store over part of what is held. -/
theorem wp_stIn {off size : Fin s.rank → ℕ} {inb : ∀ a, off a + size a ≤ s.size a}
    {w : (⟨s.rank, size⟩ : Shape).Idx → Elt F e}
    {h : (m.access (Rect.unit (s := s) off size inb)).Stores Finset.univ}
    {k : PUnit → Prog (TpuEff nD τ sig (Elt F) Λ₀ .tc) α}
    (hS : (Rect.unit (s := s) off size inb).set ⊆ S)
    (hP : ∀ j, P' ((Rect.unit (s := s) off size inb).emb j) (w j))
    (hK : ∀ i ∈ S, i ∉ (Rect.unit (s := s) off size inb).set → ∀ v, P i v → P' i v) :
    Own c m fullShare S P
      ⊢ iprop((Own c m fullShare S P' -∗ WP c (k ⟨⟩) Φ) -∗ WP c (st (F := F) m off size inb w h >>= k) Φ) := by
  have hd : Disjoint (Rect.unit (s := s) off size inb).set (S \ (Rect.unit (s := s) off size inb).set) := Finset.disjoint_sdiff
  have hu : S = (Rect.unit (s := s) off size inb).set ∪ (S \ (Rect.unit (s := s) off size inb).set) :=
    (Finset.union_sdiff_of_subset hS).symm
  iintro H Hk
  ihave H2 := (own_split hd hu) $$ H
  icases H2 with ⟨H1, H2⟩
  iapply (wp_st (c := c) (m := m) (P' := P') rfl hP) $$ H1
  iintro H1
  iapply Hk
  iapply (own_join hd hu)
  isplitl [H1]; · iexact H1
  iapply (own_mono (c := c) (m := m) (P := P) fun i hi v hv => by
    rw [Finset.mem_sdiff] at hi; exact hK i hi.1 hi.2 v hv)
  iexact H2

end Own

/-! ## Rows -/

/-- Two-dimensional buffers of 1024 rows. -/
abbrev Tall (w : ℕ) : Shape := ⟨2, ![1024, w]⟩

/-- Rows `lo` to `lo + n`. -/
def rows (w lo n : ℕ) : Finset (Tall w).Idx := Finset.univ.filter fun i => lo ≤ (i 0).val ∧ (i 0).val < lo + n

theorem mem_rows {w lo n : ℕ} {i : (Tall w).Idx} : i ∈ rows w lo n ↔ lo ≤ (i 0).val ∧ (i 0).val < lo + n := by
  simp [rows]

theorem rows_disj {w lo n lo' n' : ℕ} (h : lo + n ≤ lo' ∨ lo' + n' ≤ lo) : Disjoint (rows w lo n) (rows w lo' n') := by
  rw [Finset.disjoint_left]
  intro i hi hj
  rw [mem_rows] at hi hj
  omega

theorem rect_rows {w lo n : ℕ} (inb : ∀ a, (![lo, 0] : Fin 2 → ℕ) a + (⟨2, ![n, w]⟩ : Shape).size a ≤ (Tall w).size a) :
    (Rect.unit (s := Tall w) ![lo, 0] (⟨2, ![n, w]⟩ : Shape).size inb).set = rows w lo n := by
  ext i
  rw [mem_rows, LoadRect.mem_set]
  constructor
  · intro h
    obtain ⟨j, hj, he⟩ := h 0
    have hj' : j < n := hj
    have he' : (i 0).val = lo + 1 * j := he
    omega
  · intro h a
    match a with
    | ⟨0, _⟩ =>
      refine ⟨(i 0).val - lo, ?_, ?_⟩
      · show (i 0).val - lo < n; omega
      · show (i 0).val = lo + 1 * ((i 0).val - lo); omega
    | ⟨1, _⟩ =>
      refine ⟨(i 1).val, (i 1).isLt, ?_⟩
      show (i 1).val = 0 + 1 * (i 1).val; omega

section Rw
variable {w : ℕ} {e : EltTy}

/-- Rows of a buffer held at values that meet a predicate of the row, the column and the value. -/
abbrev Rw (c : Dev nD) (m : Memref sig .tc .vmem (Tall w) e) (q : PosShare TreeShare) (lo n : ℕ)
    (P : ℕ → ℕ → Elt F e → Prop) : sProp 𝕄 :=
  Own c m q (rows w lo n) fun i v => P (i 0).val (i 1).val v

/-- No condition. -/
abbrev Any : ℕ → ℕ → Elt F e → Prop := fun _ _ _ => True

variable {c : Dev nD} {m : Memref sig .tc .vmem (Tall w) e} {q : PosShare TreeShare} {lo n : ℕ} {P P' : ℕ → ℕ → Elt F e → Prop}
variable {α : Type} {Φ : α → sProp (MT nD τ sig ℕ (Elt F) ℕ UU ℕ)}

omit [FloatOps F] in
theorem rw_any : Rw c m q lo n P ⊢ Rw c m q lo n Any := own_any

theorem rows_sub {w lo n lo' n' : ℕ} (h : lo' ≤ lo) (h' : lo + n ≤ lo' + n') : rows w lo n ⊆ rows w lo' n' := by
  intro i hi
  rw [mem_rows] at hi ⊢
  omega

theorem emb_rows {off : Fin 2 → ℕ} {n lo : ℕ} {inb : ∀ a, off a + (⟨2, ![n, w]⟩ : Shape).size a ≤ (Tall w).size a} (ho : off = ![lo, 0])
    (j : (⟨2, ![n, w]⟩ : Shape).Idx) :
    ((Rect.unit (s := Tall w) off (⟨2, ![n, w]⟩ : Shape).size inb).emb j 0).val = lo + (j 0).val
      ∧ ((Rect.unit (s := Tall w) off (⟨2, ![n, w]⟩ : Shape).size inb).emb j 1).val = (j 1).val := by
  subst ho
  constructor
  · show lo + 1 * (j 0).val = _; omega
  · show 0 + 1 * (j 1).val = _; omega

/-- A load of rows of a buffer of which at least those are held, -/
theorem wp_ldRows {LO N : ℕ} {off : Fin 2 → ℕ} {inb : ∀ a, off a + (⟨2, ![n, w]⟩ : Shape).size a ≤ (Tall w).size a}
    {h : 0 < (Rect.unit (s := Tall w) off (⟨2, ![n, w]⟩ : Shape).size inb).toLoadRect.shape.numel}
    {k : ((⟨2, ![n, w]⟩ : Shape).Idx → Elt F e) → Prog (TpuEff nD τ sig (Elt F) Λ₀ .tc) α}
    (ho : off = ![lo, 0]) (h1 : LO ≤ lo) (h2 : lo + n ≤ LO + N) :
    Rw c m q LO N P
      ⊢ iprop((∀ v : (⟨2, ![n, w]⟩ : Shape).Idx → Elt F e, ⌜∀ j, P (lo + (j 0).val) (j 1).val (v j)⌝ -∗ Rw c m q LO N P -∗ WP c (k v) Φ)
          -∗ WP c (ld (F := F) m off (⟨2, ![n, w]⟩ : Shape).size inb h >>= k) Φ) := by
  iintro H Hk
  iapply (wp_ld (c := c) (m := m) (q := q) (S := rows w LO N)
    (by subst ho; rw [rect_rows inb]; exact rows_sub h1 h2)) $$ H
  iintro %v %hv H
  iapply Hk $$ [] H
  ipureintro
  intro j
  have := hv j
  rwa [(emb_rows ho j).1, (emb_rows ho j).2] at this

/-- and a store, -/
theorem wp_stRows {LO N : ℕ} {off : Fin 2 → ℕ} {inb : ∀ a, off a + (⟨2, ![n, w]⟩ : Shape).size a ≤ (Tall w).size a}
    {x : (⟨2, ![n, w]⟩ : Shape).Idx → Elt F e}
    {h : (m.access (Rect.unit (s := Tall w) off (⟨2, ![n, w]⟩ : Shape).size inb)).Stores Finset.univ}
    {k : PUnit → Prog (TpuEff nD τ sig (Elt F) Λ₀ .tc) α}
    (ho : off = ![lo, 0]) (h1 : LO ≤ lo) (h2 : lo + n ≤ LO + N) (hP : ∀ j, P' (lo + (j 0).val) (j 1).val (x j))
    (hK : ∀ r j v, LO ≤ r → r < LO + N → ¬ (lo ≤ r ∧ r < lo + n) → P r j v → P' r j v) :
    Rw c m fullShare LO N P
      ⊢ iprop((Rw c m fullShare LO N P' -∗ WP c (k ⟨⟩) Φ)
          -∗ WP c (st (F := F) m off (⟨2, ![n, w]⟩ : Shape).size inb x h >>= k) Φ) := by
  refine wp_stIn (c := c) (m := m) (S := rows w LO N) (by subst ho; rw [rect_rows inb]; exact rows_sub h1 h2) (fun j => ?_)
    fun i hi hn v hv => ?_
  · rw [(emb_rows ho j).1, (emb_rows ho j).2]
    exact hP j
  · subst ho
    rw [rect_rows, mem_rows] at hn
    rw [mem_rows] at hi
    exact hK _ _ v hi.1 hi.2 hn hv

/-- of all that is held. -/
theorem wp_stAll {off : Fin 2 → ℕ} {inb : ∀ a, off a + (⟨2, ![n, w]⟩ : Shape).size a ≤ (Tall w).size a}
    {x : (⟨2, ![n, w]⟩ : Shape).Idx → Elt F e}
    {h : (m.access (Rect.unit (s := Tall w) off (⟨2, ![n, w]⟩ : Shape).size inb)).Stores Finset.univ}
    {k : PUnit → Prog (TpuEff nD τ sig (Elt F) Λ₀ .tc) α}
    (ho : off = ![lo, 0]) (hP : ∀ j, P' (lo + (j 0).val) (j 1).val (x j)) :
    Rw c m fullShare lo n P
      ⊢ iprop((Rw c m fullShare lo n P' -∗ WP c (k ⟨⟩) Φ)
          -∗ WP c (st (F := F) m off (⟨2, ![n, w]⟩ : Shape).size inb x h >>= k) Φ) :=
  wp_stRows ho le_rfl le_rfl hP fun r j v h1 h2 h3 => absurd ⟨h1, h2⟩ h3

omit [FloatOps F] in
theorem rw_split {lo' n' N : ℕ} (h : lo' = lo + n ∨ lo = lo' + n') (hN : N = n + n') :
    Rw c m q (min lo lo') N P ⊢ iprop(Rw c m q lo n P ∗ Rw c m q lo' n' P) :=
  own_split (rows_disj (by omega)) (by ext i; rw [Finset.mem_union, mem_rows, mem_rows, mem_rows]; omega)
omit [FloatOps F] in
theorem rw_join {lo' n' N : ℕ} (h : lo' = lo + n ∨ lo = lo' + n') (hN : N = n + n') :
    iprop(Rw c m q lo n P ∗ Rw c m q lo' n' P) ⊢ Rw c m q (min lo lo') N P :=
  own_join (rows_disj (by omega)) (by ext i; rw [Finset.mem_union, mem_rows, mem_rows, mem_rows]; omega)

omit [FloatOps F] in
theorem rw_mono (h : ∀ r j v, lo ≤ r → r < lo + n → P r j v → P' r j v) : Rw c m q lo n P ⊢ Rw c m q lo n P' :=
  own_mono fun i hi v hv => by rw [mem_rows] at hi; exact h _ _ v hi.1 hi.2 hv

end Rw

end Cert.KernelIdeal.Gen

end
-- ==== Proof.Sched.lean ====
/- The kernel's own semaphores: who waits on which, who credits it, how much, in which order, and what
   memory changes hands, at which contents. -/
module

public import proofs.«01_k».proof.Proof.Own
public import Mathlib.Tactic.IntervalCases
public import Mathlib.Tactic.FinCases

@[expose] public section

set_option maxRecDepth 65536

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig ℕ (Elt F) ℕ UU ℕ

/-! ## Transfers between devices -/

/-- The transfers between devices: of the exchanges that gather finished rows, of those that add up
    partial products, and of the spreading of the input. Four entries are not used. -/
inductive Slt where
  | A (b : Fin 2) (t : ℕ)
  | R (b : Fin 2) (t : ℕ)
  | X (x : Fin 15)
  | U (i : ℕ)
  deriving DecidableEq

/-- The entry of the semaphore arrays a transfer uses. -/
def ix : Slt → Fin 35
  | .A b t => ⟨(4 * b.val + t) % 35, Nat.mod_lt _ (by decide)⟩
  | .R b t => ⟨(12 + 4 * b.val + t) % 35, Nat.mod_lt _ (by decide)⟩
  | .X x => ⟨(20 + x.val) % 35, Nat.mod_lt _ (by decide)⟩
  | .U i => ⟨(8 + i) % 35, Nat.mod_lt _ (by decide)⟩

/-- The transfer that uses an entry. -/
def dec (k : Fin 35) : Slt :=
  if k.val < 4 then .A 0 k.val else if k.val < 8 then .A 1 (k.val - 4) else if k.val < 12 then .U (k.val - 8)
  else if k.val < 16 then .R 0 (k.val - 12) else if k.val < 20 then .R 1 (k.val - 16) else .X ⟨(k.val - 20) % 15, Nat.mod_lt _ (by decide)⟩

/-- Which transfers there are. -/
def Slt.ok : Slt → Prop
  | .A _ t => t < 4
  | .R _ t => t < 4
  | .X _ => True
  | .U i => i < 4

instance okDec : (s : Slt) → Decidable s.ok
  | .A _ t => inferInstanceAs (Decidable (t < 4))
  | .R _ t => inferInstanceAs (Decidable (t < 4))
  | .X _ => inferInstanceAs (Decidable True)
  | .U i => inferInstanceAs (Decidable (i < 4))

theorem dec_ix (s : Slt) (h : s.ok) : dec (ix s) = s := by
  cases s with
  | A b t => have h : t < 4 := h; revert b; interval_cases t <;> decide
  | R b t => have h : t < 4 := h; revert b; interval_cases t <;> decide
  | X x => revert x; decide
  | U i => have h : i < 4 := h; interval_cases i <;> decide

theorem ix_dec (k : Fin 35) : ix (dec k) = k := by revert k; decide
theorem dec_ok (k : Fin 35) : (dec k).ok := by revert k; decide

/-- How often it is used, -/
def rnds : Slt → ℕ
  | .A _ _ => 3
  | .R _ _ => 3
  | .X _ => 1
  | .U _ => 0
/-- with which partner, -/
def peerS : Slt → Dev nD → Dev nD
  | .A b t, d => peer b t d
  | .R b t, d => peer b t d
  | .X x, d => xpeer x d
  | .U _, d => d
/-- how many rows, -/
def nS : Slt → ℕ
  | .A _ t => hsz t
  | .R _ t => hsz t
  | .X _ => 64
  | .U _ => 32
/-- from which row on, on both sides, when `d` sends, -/
def offS : Slt → Dev nD → ℕ
  | .A b t, d => keepLo b (t + 1) d
  | .R b t, _ => stgLo b t
  | .X x, d => 64 * xblk x d
  | .U _, _ => 0
/-- from which buffer -/
def srcM : Slt → Memref sig .tc .vmem S1024x1024 .bf16
  | .R _ _ => mSend
  | _ => mOut
/-- to which, -/
def dstM : Slt → Memref sig .tc .vmem S1024x1024 .bf16
  | .R _ _ => mStage
  | _ => mOut
/-- and what part of the source stays with the transfer while it runs: half of it where the device goes on reading. -/
def shS : Slt → PosShare TreeShare
  | .A _ _ => fullShare.left
  | _ => fullShare

theorem flip_flip (k : ℕ) (hk : k < 4) (d : Dev nD) : flip k (flip k d) = d := by
  interval_cases k <;> (revert d; decide)

theorem ord_lt (b : Fin 2) (t : ℕ) : ord b t < 4 := by
  unfold ord; split <;> split <;> decide
theorem peer_peer (b : Fin 2) (t : ℕ) (d : Dev nD) : peer b t (peer b t d) = d := flip_flip _ (ord_lt b t) d
theorem xpeer_xpeer (x : Fin 15) (d : Dev nD) : xpeer x (xpeer x d) = d := flip_flip _ (by omega) d
theorem peerS_peerS (s : Slt) (d : Dev nD) : peerS s (peerS s d) = d := by
  cases s
  · exact peer_peer _ _ d
  · exact peer_peer _ _ d
  · exact xpeer_xpeer _ d
  · rfl

/-! ## The cells -/

abbrev gS (s : Slt) (c : Dev nD) : GSem nD τ sig := ((c : Thread nD τ), .dma (sSend (ix s)))
abbrev gR (s : Slt) (c : Dev nD) : GSem nD τ sig := ((c : Thread nD τ), .dma (sRecv (ix s)))
abbrev gC (k : Fin 2) (c : Dev nD) : GSem nD τ sig := ((c : Thread nD τ), .dma (sCopy k))
abbrev gB (c : Dev nD) : GSem nD τ sig := ((c : Thread nD τ), .reg sBar)

/-- What a semaphore of a device is for. -/
inductive Kd where
  | none
  | bar
  | send (s : Slt)
  | recv (s : Slt)
  | copy (k : Fin 2)
  deriving DecidableEq

def kd : SemLoc sig → Kd
  | .reg _ => .bar
  | .dma q => if q.val < 2 then .none
      else if q.val < 37 then .send (dec ⟨(q.val - 2) % 35, Nat.mod_lt _ (by decide)⟩)
      else if q.val < 72 then .recv (dec ⟨(q.val - 37) % 35, Nat.mod_lt _ (by decide)⟩)
      else .copy ⟨(q.val - 72) % 2, Nat.mod_lt _ (by decide)⟩

theorem kd_sSend (k : Fin 35) : kd (.dma (sSend k)) = .send (dec k) := by revert k; decide
theorem kd_sRecv (k : Fin 35) : kd (.dma (sRecv k)) = .recv (dec k) := by revert k; decide
theorem kd_send {s : Slt} (h : s.ok) : kd (.dma (sSend (ix s))) = .send s := by rw [kd_sSend, dec_ix s h]
theorem kd_recv {s : Slt} (h : s.ok) : kd (.dma (sRecv (ix s))) = .recv s := by rw [kd_sRecv, dec_ix s h]
theorem kd_copy (k : Fin 2) : kd (.dma (sCopy k)) = .copy k := by revert k; decide
theorem kd_bar : kd (.reg sBar) = .bar := rfl

/-! ## What the values are -/

variable (m : (ℓ : Loc nD τ sig) → Buf (Elt F) ℓ)

/-- The device's share of each layer's weights. -/
def w1 (l : ℕ) (d : Dev nD) : Vec F S1024x2048 .f32 :=
  if l = 0 then m ((d : Thread nD τ).loc main_arg1) else if l = 1 then m ((d : Thread nD τ).loc main_arg3) else m ((d : Thread nD τ).loc main_arg5)
def w2 (l : ℕ) (d : Dev nD) : Vec F S2048x1024 .f32 :=
  if l = 0 then m ((d : Thread nD τ).loc main_arg2) else if l = 1 then m ((d : Thread nD τ).loc main_arg4) else m ((d : Thread nD τ).loc main_arg6)
/-- The device's rows of the input. -/
def x0 (d : Dev nD) : Vec F S64x1024 .f32 := (win0_0.blk (0 : Fin 1)).view.read (Elt F) (m ((d : Thread nD τ).loc main_arg0))

/-- What is known of the values the kernel goes through: of the gathered input of each layer, of `hact`,
    of the accumulator after each exchange, of what is sent in it, and of the result; each by row and
    column; and that each step of the kernel leads from one to the next. -/
structure Contract where
  X : ℕ → ℕ → ℕ → Elt F .bf16 → Prop
  H : ℕ → Dev nD → ℕ → ℕ → Elt F .bf16 → Prop
  A : ℕ → ℕ → Dev nD → ℕ → ℕ → Elt F .f32 → Prop
  S : ℕ → ℕ → Dev nD → ℕ → ℕ → Elt F .bf16 → Prop
  O : ℕ → ℕ → Elt F .f32 → Prop
  input : ∀ d j, X 0 (64 * d.val + (j 0).val) (j 1).val (k0_pay1 (x0 m d) j)
  head : ∀ d (x : Vec F S1024x1024 .bf16) (w : Vec F S1x1024x1024 .bf16) (o : ℕ),
    (∀ j, X 0 (j 0).val (j 1).val (x j)) →
    (∀ (j : S1x1024x1024.Idx) (k : S1x1024x2048.Idx), (k 1).val = (j 1).val → (k 2).val = o + (j 2).val → w j = k0_pay2 (w1 m 0 d) k) →
    ∀ j, o + 1024 ≤ 2048 → H 0 d (j 0).val (o + (j 1).val) (headV x w j)
  dot : ∀ l < 3, ∀ d lo (v : Vec F (HRows 256) .bf16), (∀ j, H l d (lo + (j 0).val) (j 1).val (v j)) →
    ∀ j, A l 0 d (lo + (j 0).val) (j 1).val (dotV v (k0_pay3 (w2 m l d)) j)
  pack : ∀ l < 3, ∀ t < 4, ∀ d lo n (v : Vec F (Rows n) .f32), (∀ j, A l t d (lo + (j 0).val) (j 1).val (v j)) →
    ∀ j, S l t d (lo + (j 0).val) (j 1).val (truncV n v j)
  add : ∀ l < 3, ∀ (b : Fin 2), ∀ t < 4, ∀ d (v : Vec F (Rows (hsz t)) .f32) (w : Vec F (Rows (hsz t)) .bf16),
    (∀ j, A l t d (keepLo b (t + 1) d + (j 0).val) (j 1).val (v j)) →
    (∀ j, S l t (peer b t d) (keepLo b (t + 1) d + (j 0).val) (j 1).val (w j)) →
    ∀ j, A l (t + 1) d (keepLo b (t + 1) d + (j 0).val) (j 1).val (addV (hsz t) v w j)
  done : ∀ l < 3, ∀ (b : Fin 2) d (v : Vec F (Rows 32) .f32), (∀ j, A l 4 d (keepLo b 4 d + (j 0).val) (j 1).val (v j)) →
    ∀ j, X (l + 1) (keepLo b 4 d + (j 0).val) (j 1).val (truncV 32 v j)
  cons : ∀ l < 2, ∀ d lo n (v : Vec F (Rows n) .bf16), (∀ j, X (l + 1) (lo + (j 0).val) (j 1).val (v j)) →
    ∀ j, H (l + 1) d (lo + (j 0).val) (j 1).val (consV n v (k0_pay2 (w1 m (l + 1) d)) j)
  out : ∀ lo n (v : Vec F (Rows n) .bf16), (∀ j, X 3 (lo + (j 0).val) (j 1).val (v j)) →
    ∀ j, O (lo + (j 0).val) (j 1).val (extV n v j)

variable {m}
variable (𝒞 : Contract (F := F) m)

/-- What a transfer carries in its round `r` when `d` sends. -/
def valS (s : Slt) (r : ℕ) (d : Dev nD) : ℕ → ℕ → Elt F .bf16 → Prop :=
  match s with
  | .A _ _ => 𝒞.X (r + 1)
  | .R b t => fun i j v => 𝒞.S r t d (i - stgLo b t + sendLo b t d) j v
  | .X _ => 𝒞.X 0
  | .U _ => Any

/-- What the sender `d` hands over besides: the exchanges of a layer lend each other the buffers of the
    exchange that comes next. -/
def extra (s : Slt) (r : ℕ) (d : Dev nD) : sProp 𝕄 :=
  match s with
  | .A b t => if r < 2 then iprop(Rw d mStage fullShare (stgLo b t) (hsz t) Any ∗ reached ER (gR (.R b t) d) (r + 1)) else iprop(emp)
  | .R b t => iprop(Rw d mOut fullShare (sendLo b t d) (hsz t) Any ∗ reached ER (gR (.A b t) d) r)
  | .X _ => iprop(emp)
  | .U _ => iprop(emp)

def sendPay (s : Slt) (r : ℕ) (d : Dev nD) : sProp 𝕄 := Rw d (srcM s) (shS s) (offS s d) (nS s) (valS 𝒞 s r d)
/-- What `d` receives when `p` sends. -/
def landPay (s : Slt) (r : ℕ) (d p : Dev nD) : sProp 𝕄 :=
  iprop(Rw d (dstM s) fullShare (offS s p) (nS s) (valS 𝒞 s r p) ∗ extra s r p)
def recvPay (s : Slt) (r : ℕ) (d : Dev nD) : sProp 𝕄 := landPay 𝒞 s r d (peerS s d)

/-- The blocks of 64 rows that `d` sends its partner across bit `k`. -/
def blksTo (k : ℕ) (d : Dev nD) : Finset ℕ := (Finset.univ.filter fun x : Fin 15 => hop x = 3 - k).image fun x => xblk x d

/-- The rows of some blocks of 64. -/
def blks (B : Finset ℕ) : Finset (Tall 1024).Idx := Finset.univ.filter fun i => (i 0).val / 64 ∈ B

/-- The exchange of band `b` across bit `k`. -/
def ordInv (b : Fin 2) (k : ℕ) : ℕ :=
  if b = 0 then (match k with | 0 => 0 | 1 => 2 | 2 => 1 | _ => 3) else (match k with | 0 => 1 | 1 => 3 | 2 => 0 | _ => 2)

/-- What the neighbour `p` of `d` across bit `k` hands `d` in the barrier: what `d` writes of its buffers first. -/
def barPay (k : Fin 4) (d p : Dev nD) : sProp 𝕄 :=
  iprop(Rw p mStage fullShare (stgLo 0 (ordInv 0 k)) (hsz (ordInv 0 k)) Any
    ∗ Rw p mStage fullShare (stgLo 1 (ordInv 1 k)) (hsz (ordInv 1 k)) Any
    ∗ Own p mOut fullShare (blks (blksTo k d)) (fun _ _ => True))

/-- The arguments a layer's weights are loaded from, -/
abbrev wRef (k : Fin 2) (r : ℕ) : Ref sig .tc :=
  if k = 0 then (if r = 0 then main_arg1 else if r = 1 then main_arg3 else main_arg5)
  else (if r = 0 then main_arg2 else if r = 1 then main_arg4 else main_arg6)

/-- and what a load of them gives back: the argument, unchanged, and its copy. -/
def copyPay (k : Fin 2) (r : ℕ) (d : Dev nD) : sProp 𝕄 :=
  iprop((((d : Thread nD τ).loc (wRef k r)) ↦{fullShare} m ((d : Thread nD τ).loc (wRef k r)))
    ∗ (if k = 0 then Own d mWst fullShare Finset.univ (fun i v => v = w1 m r d i)
        else Own d mOst fullShare Finset.univ (fun i v => v = w2 m r d i)))

/-- The credit of a transfer. -/
def NS (s : Slt) : ℕ := sig.dmaCredit .tc (Kind.tc.table .vmem) mOut.view.buf (Rows (nS s)) .bf16
def NC (k : Fin 2) : ℕ := if k = 0 then mWst.view.dmaCredit else mOst.view.dmaCredit

theorem hsz_pos {t : ℕ} (h : t < 4) : 0 < hsz t := by interval_cases t <;> decide
theorem nS_pos {s : Slt} (h : s.ok) : 0 < nS s := by
  cases s
  · exact hsz_pos h
  · exact hsz_pos h
  · exact (by decide : 0 < 64)
  · exact (by decide : 0 < 32)
theorem rows_pos {n : ℕ} (h : 0 < n) : 0 < (Rows n).numel :=
  Shape.numel_pos fun a => by fin_cases a; exact h; exact (by decide : 0 < 1024)
theorem NS_pos {s : Slt} (h : s.ok) : 0 < NS s := sig.dmaCredit_pos _ _ _ _ _ (rows_pos (nS_pos h))
theorem kd_ok {g : SemLoc sig} {s : Slt} (h : kd g = .send s ∨ kd g = .recv s) : s.ok := by
  unfold kd at h
  split at h
  · simp at h
  · split at h; · simp at h
    split at h
    · simp at h; rw [← h]; exact dec_ok _
    split at h
    · simp at h; rw [← h]; exact dec_ok _
    · simp at h
theorem NC_pos (k : Fin 2) : 0 < NC k := by
  unfold NC; split <;> exact View.dmaCredit_pos _ (by decide)

/-! ## The schedule -/

def duK : Kd → ℕ → Finset (Fin 4)
  | .none, _ => ∅
  | .bar, r => if r = 0 then Finset.univ else ∅
  | .send s, r => if r < rnds s then {0} else ∅
  | .recv s, r => if r < rnds s then {0} else ∅
  | .copy _, r => if r < 3 then {0} else ∅
def amK : Kd → ℕ
  | .none => 1
  | .bar => 1
  | .send s => NS s
  | .recv s => NS s
  | .copy k => NC k
def payK (κ : Kd) (r : ℕ) (k : Fin 4) (d : Dev nD) : sProp 𝕄 :=
  match κ with
  | .none => iprop(emp)
  | .bar => barPay k d (flip k d)
  | .send s => sendPay 𝒞 s r d
  | .recv s => recvPay 𝒞 s r d
  | .copy k => copyPay (m := m) k r d

def Rd : Rounds.Schedule (GSem nD τ sig) (Fin 4) 𝕄 where
  duties g r := if g.1.2 = .tc then duK (kd g.2) r else ∅
  unitless _ := False
  amount g _ _ := amK (kd g.2)
  payload g r k := payK 𝒞 (kd g.2) r k g.1.1
  amount_pos g _ _ _ := by
    cases h : kd g.2 <;> simp only [amK]
    · exact Nat.one_pos
    · exact Nat.one_pos
    · exact NS_pos (kd_ok (.inl h))
    · exact NS_pos (kd_ok (.inr h))
    · exact NC_pos _

instance payload_storable (g : GSem nD τ sig) (r : ℕ) (k : Fin 4) : BI.Storable (upEmb : UEmb _ 𝕄) ((Rd 𝒞).payload g r k) := by
  show BI.Storable upEmb (payK 𝒞 (kd g.2) r k g.1.1)
  unfold payK
  split
  · infer_instance
  · unfold barPay; infer_instance
  · unfold sendPay; infer_instance
  · unfold recvPay landPay extra
    split
    · split <;> infer_instance
    · infer_instance
    · infer_instance
    · infer_instance
  · unfold copyPay; split <;> infer_instance

section Tables
variable {s : Slt} {r : ℕ} (c : Dev nD)

theorem duties_S (h : s.ok) : (Rd 𝒞).duties (gS s c) r = if r < rnds s then {0} else ∅ := by
  show (if (gS s c).1.2 = .tc then duK (kd (.dma (sSend (ix s)))) r else ∅) = _
  rw [if_pos rfl, kd_send h]; rfl
theorem duties_R (h : s.ok) : (Rd 𝒞).duties (gR s c) r = if r < rnds s then {0} else ∅ := by
  show (if (gR s c).1.2 = .tc then duK (kd (.dma (sRecv (ix s)))) r else ∅) = _
  rw [if_pos rfl, kd_recv h]; rfl
theorem duties_C (k : Fin 2) : (Rd 𝒞).duties (gC k c) r = if r < 3 then {0} else ∅ := by
  show (if (gC k c).1.2 = .tc then duK (kd (.dma (sCopy k))) r else ∅) = _
  rw [if_pos rfl, kd_copy]; rfl
theorem duties_B : (Rd 𝒞).duties (gB c) r = if r = 0 then Finset.univ else ∅ := rfl
theorem amount_S (h : s.ok) (k : Fin 4) : (Rd 𝒞).amount (gS s c) r k = NS s := by
  show amK (kd (.dma (sSend (ix s)))) = _
  rw [kd_send h]; rfl
theorem amount_R (h : s.ok) (k : Fin 4) : (Rd 𝒞).amount (gR s c) r k = NS s := by
  show amK (kd (.dma (sRecv (ix s)))) = _
  rw [kd_recv h]; rfl
theorem amount_C (k : Fin 2) (d : Fin 4) : (Rd 𝒞).amount (gC k c) r d = NC k := by
  show amK (kd (.dma (sCopy k))) = _
  rw [kd_copy]; rfl
theorem amount_B (k : Fin 4) : (Rd 𝒞).amount (gB c) r k = 1 := rfl
theorem payload_S (h : s.ok) (k : Fin 4) : (Rd 𝒞).payload (gS s c) r k = sendPay 𝒞 s r c := by
  show payK 𝒞 (kd (.dma (sSend (ix s)))) r k c = _
  rw [kd_send h]; rfl
theorem payload_R (h : s.ok) (k : Fin 4) : (Rd 𝒞).payload (gR s c) r k = recvPay 𝒞 s r c := by
  show payK 𝒞 (kd (.dma (sRecv (ix s)))) r k c = _
  rw [kd_recv h]; rfl
theorem payload_C (k : Fin 2) (d : Fin 4) : (Rd 𝒞).payload (gC k c) r d = copyPay (m := m) k r c := by
  show payK 𝒞 (kd (.dma (sCopy k))) r d c = _
  rw [kd_copy]; rfl
theorem payload_B (k : Fin 4) : (Rd 𝒞).payload (gB c) r k = barPay k c (flip k c) := rfl

theorem expect_S (h : s.ok) (hr : r < rnds s) : (Rd 𝒞).expect (gS s c) r = NS s := by
  unfold Schedule.expect Schedule.amountOf; rw [duties_S 𝒞 c h, if_pos hr, Finset.sum_singleton, amount_S 𝒞 c h]
theorem expect_R (h : s.ok) (hr : r < rnds s) : (Rd 𝒞).expect (gR s c) r = NS s := by
  unfold Schedule.expect Schedule.amountOf; rw [duties_R 𝒞 c h, if_pos hr, Finset.sum_singleton, amount_R 𝒞 c h]
theorem expect_C (k : Fin 2) (hr : r < 3) : (Rd 𝒞).expect (gC k c) r = NC k := by
  unfold Schedule.expect Schedule.amountOf; rw [duties_C, if_pos hr, Finset.sum_singleton, amount_C]
theorem expect_B : (Rd 𝒞).expect (gB c) 0 = 4 := by
  unfold Schedule.expect Schedule.amountOf; rw [duties_B, if_pos rfl, Finset.sum_congr rfl fun k _ => amount_B 𝒞 c k]; rfl

theorem rest_S (h : s.ok) (hr : r < rnds s) :
    bigSep ((Rd 𝒞).duties (gS s c) r \ ∅) (fun k => (Rd 𝒞).payload (gS s c) r k) = sendPay 𝒞 s r c := by
  rw [Finset.sdiff_empty, duties_S 𝒞 c h, if_pos hr, bigSep_singleton, payload_S 𝒞 c h]
theorem rest_R (h : s.ok) (hr : r < rnds s) :
    bigSep ((Rd 𝒞).duties (gR s c) r \ ∅) (fun k => (Rd 𝒞).payload (gR s c) r k) = recvPay 𝒞 s r c := by
  rw [Finset.sdiff_empty, duties_R 𝒞 c h, if_pos hr, bigSep_singleton, payload_R 𝒞 c h]
theorem rest_C (k : Fin 2) (hr : r < 3) :
    bigSep ((Rd 𝒞).duties (gC k c) r \ ∅) (fun d => (Rd 𝒞).payload (gC k c) r d) = copyPay (m := m) k r c := by
  rw [Finset.sdiff_empty, duties_C, if_pos hr, bigSep_singleton, payload_C]
theorem rest_B :
    bigSep ((Rd 𝒞).duties (gB c) 0 \ ∅) (fun k => (Rd 𝒞).payload (gB c) 0 k) = bigSep Finset.univ fun k : Fin 4 => barPay k c (flip k c) := by
  rw [Finset.sdiff_empty, duties_B, if_pos rfl]; rfl

end Tables

/-! ## What a device owes, and the order of the waits -/

def evL (l : ℕ) : List (Slt × ℕ) :=
  [(.R 0 0, l), (.R 1 0, l), (.R 0 1, l), (.R 1 1, l), (.R 0 2, l), (.R 1 2, l), (.R 0 3, l), (.R 1 3, l),
   (.A 0 3, l), (.A 1 3, l), (.A 0 2, l), (.A 1 2, l), (.A 0 1, l), (.A 1 1, l), (.A 0 0, l), (.A 1 0, l)]
/-- A device's transfers, in the order they start. -/
def evAll : List (Slt × ℕ) := [(.X 0, 0), (.X 1, 0), (.X 2, 0), (.X 3, 0), (.X 4, 0), (.X 5, 0), (.X 6, 0), (.X 7, 0), (.X 8, 0), (.X 9, 0), (.X 10, 0), (.X 11, 0), (.X 12, 0), (.X 13, 0), (.X 14, 0)]
  ++ evL 0 ++ evL 1 ++ evL 2
abbrev evs (n : ℕ) : List (Slt × ℕ) := evAll.drop n

def tally (c : Dev nD) (L : List (Slt × ℕ)) : CellTallies nD τ sig ℕ :=
  L.foldr (fun e acc => acc + tallyAt (gR e.1 (peerS e.1 c)) e.2 (NS e.1)) 0

/-- What each device owes at launch: every transfer it makes, and the four units of the barrier. -/
def O₀ (c : Dev nD) : CellTallies nD τ sig ℕ :=
  tally c evAll + tallyAt (gB (flip 3 c)) 0 1 + tallyAt (gB (flip 2 c)) 0 1 + tallyAt (gB (flip 1 c)) 0 1 + tallyAt (gB (flip 0 c)) 0 1

def L (g : GSem nD τ sig) : Finset ℕ := if g.1.2 = .tc then Finset.range 3 else ∅
def lvS : Slt → ℕ → ℕ
  | .X x, _ => 2 + hop x
  | .R _ t, r => 6 + 8 * r + t
  | .A _ t, r => 6 + 8 * r + 4 + (3 - t)
  | .U _, _ => 0
def lvK : Kd → ℕ → ℕ
  | .none, _ => 0
  | .bar, _ => 1
  | .send s, r => lvS s r
  | .recv s, r => lvS s r
  | .copy _, _ => 0
def lv (g : GSem nD τ sig) (r : ℕ) : ℕ := lvK (kd g.2) r

theorem evAll_ok : ∀ e ∈ evAll, e.1.ok ∧ e.2 < rnds e.1 ∧ 2 ≤ lvS e.1 e.2 := by decide +kernel

theorem tally_pos {c : Dev nD} {E : List (Slt × ℕ)} {g : GSem nD τ sig} {i : ℕ} (h : 0 < tally c E g i) :
    ∃ e ∈ E, g = gR e.1 (peerS e.1 c) ∧ i = e.2 := by
  induction E with
  | nil => exact absurd h (Nat.lt_irrefl 0)
  | cons e E ih =>
    have h' : 0 < (tally c E + tallyAt (gR e.1 (peerS e.1 c)) e.2 (NS e.1)) g i := h
    rw [Pi.add_apply, Finsupp.add_apply, tallyAt_apply] at h'
    by_cases hc : g = gR e.1 (peerS e.1 c) ∧ i = e.2
    · exact ⟨e, List.mem_cons_self, hc⟩
    · rw [if_neg hc] at h'
      obtain ⟨e', he', h2⟩ := ih (by simpa using h')
      exact ⟨e', List.mem_cons_of_mem _ he', h2⟩

end Cert.KernelIdeal.Gen

end
-- ==== Proof.Steps.lean ====
/- The transfers between devices, as steps of a proof: the start of one, and the wait for it. -/
module

public import proofs.«01_k».proof.Proof.Sched

@[expose] public section

set_option maxRecDepth 65536

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig ℕ (Elt F) ℕ UU ℕ

variable {m : (ℓ : Loc nD τ sig) → Buf (Elt F) ℓ} (𝒞 : Contract (F := F) m)

/-! ## What every device knows -/

/-- The semaphores of a device that are under the schedule: its own, and the barrier's last. -/
def osem (i : Fin 72) : SemLoc sig := .dma ⟨2 + i.val, by have := i.isLt; show 2 + i.val < 74; omega⟩
def ksem (i : Fin 73) : SemLoc sig := if h : i.val < 72 then osem ⟨i.val, h⟩ else .reg sBar
abbrev kcell (ck : Dev nD × Fin 73) : GSem nD τ sig := ((ck.1 : Thread nD τ), ksem ck.2)

theorem ksem_S (k : Fin 35) : ksem ⟨k.val, by omega⟩ = .dma (sSend k) := by revert k; decide
theorem ksem_R (k : Fin 35) : ksem ⟨35 + k.val, by omega⟩ = .dma (sRecv k) := by revert k; decide
theorem ksem_C (k : Fin 2) : ksem ⟨70 + k.val, by omega⟩ = .dma (sCopy k) := by revert k; decide

/-- A cell is under the schedule, and its first round is open. -/
def Known (g : GSem nD τ sig) : sProp 𝕄 := iprop((∃ κ : ℕ, cellInv ER (Rd 𝒞) κ g) ∗ reached ER g 0)
instance known_persistent (g : GSem nD τ sig) : BI.Persistent (Known 𝒞 g) := by unfold Known; infer_instance

def Recs : sProp 𝕄 := iprop((bigSep Finset.univ fun ck : Dev nD × Fin 73 => Known 𝒞 (kcell ck)) ∗ levAts L lv)
instance recs_persistent : BI.Persistent (Recs 𝒞) := by unfold Recs; infer_instance

theorem recs_at (ck : Dev nD × Fin 73) : Recs 𝒞 ⊢ Known 𝒞 (kcell ck) := by
  unfold Recs
  iintro ⟨#H, -⟩
  iapply (show (bigSep Finset.univ fun ck : Dev nD × Fin 73 => Known 𝒞 (kcell ck)) ⊢ Known 𝒞 (kcell ck) from bigSep_elim (Finset.mem_univ ck)); iexact H
theorem recs_S (s : Slt) (c : Dev nD) : Recs 𝒞 ⊢ Known 𝒞 (gS s c) := by
  have h := recs_at 𝒞 (c, ⟨(ix s).val, by omega⟩)
  rwa [show kcell (c, ⟨(ix s).val, by omega⟩) = gS s c from by unfold kcell; rw [ksem_S]] at h
theorem recs_R (s : Slt) (c : Dev nD) : Recs 𝒞 ⊢ Known 𝒞 (gR s c) := by
  have h := recs_at 𝒞 (c, ⟨35 + (ix s).val, by omega⟩)
  rwa [show kcell (c, ⟨35 + (ix s).val, by omega⟩) = gR s c from by unfold kcell; rw [ksem_R]] at h
theorem recs_C (k : Fin 2) (c : Dev nD) : Recs 𝒞 ⊢ Known 𝒞 (gC k c) := by
  have h := recs_at 𝒞 (c, ⟨70 + k.val, by omega⟩)
  rwa [show kcell (c, ⟨70 + k.val, by omega⟩) = gC k c from by unfold kcell; rw [ksem_C]] at h
theorem recs_B (c : Dev nD) : Recs 𝒞 ⊢ Known 𝒞 (gB c) := recs_at 𝒞 (c, ⟨72, by decide⟩)
theorem recs_lev : Recs 𝒞 ⊢ (levAts L lv : sProp 𝕄) := by
  unfold Recs
  iintro ⟨-, #H⟩
  iexact H

theorem rnds_le (s : Slt) : rnds s ≤ 3 := by cases s <;> simp [rnds]

/-! ## A transfer's state -/

/-- What `c` needs of transfer `s` from round `r` on: the right to make it, and the credit it waits with. -/
def Toks (s : Slt) (r : ℕ) (c : Dev nD) : sProp 𝕄 :=
  bigSep (Finset.Ico r (rnds s)) fun i =>
    iprop(dutyTok ER (gS s c) i 0 ∗ dutyTok ER (gR s (peerS s c)) i 0 ∗ cred (tallyAt (gR s c) i (NS s)))

/-- Between rounds, -/
def Sl (s : Slt) (r : ℕ) (c : Dev nD) : sProp 𝕄 :=
  iprop((atPos ER (gS s c) r ∅ 0 ∗ atPos ER (gR s c) r ∅ 0) ∗ (reached ER (gS s c) r ∗ reached ER (gR s c) r) ∗ Toks s r c)
/-- and while round `r` runs. -/
def Fly (s : Slt) (r : ℕ) (c : Dev nD) : sProp 𝕄 :=
  iprop((atPos ER (gS s c) r ∅ 0 ∗ atPos ER (gR s c) r ∅ 0)
    ∗ (cred (tallyAt (gS s c) r (NS s)) ∗ cred (tallyAt (gR s c) r (NS s))) ∗ Toks s (r + 1) c)

/-- What is still owed before event `n`. -/
def Owe (c : Dev nD) (n : ℕ) : sProp 𝕄 := iprop(∃ W, owes (c : Thread nD τ) (tally c (evs n)) W)

omit [FloatOps F] in
theorem sl_reached {s : Slt} {r : ℕ} {c : Dev nD} : (Sl s r c : sProp 𝕄) ⊢ reached ER (gR s c) r := by
  unfold Sl
  iintro ⟨-, ⟨-, #H⟩, -⟩
  iexact H

omit [FloatOps F] in
theorem toks_step {s : Slt} {r : ℕ} {c : Dev nD} (hr : r < rnds s) :
    (Toks s r c : sProp 𝕄) ⊢ iprop((dutyTok ER (gS s c) r 0 ∗ dutyTok ER (gR s (peerS s c)) r 0 ∗ cred (tallyAt (gR s c) r (NS s)))
      ∗ Toks s (r + 1) c) := by
  unfold Toks
  rw [show Finset.Ico r (rnds s) = insert r (Finset.Ico (r + 1) (rnds s)) from by
    ext i; simp only [Finset.mem_Ico, Finset.mem_insert]; omega,
    bigSep_insert (by simp)]
  exact BI.Entails.refl _

/-- The row slices of a whole buffer, at rows `lo` to `lo + n`. -/
theorem rowSl_set {mm : Memref sig .tc .vmem S1024x1024 .bf16} {n lo : ℕ} {inb} :
    (rowSl mm n ![lo, 0] inb).view.set = mm.view.setOn (rows 1024 lo n) :=
  (View.set_slice (v := mm.view) _).trans (congrArg (Finset.map mm.view.emb) (rect_rows inb))

theorem rowSl_emb {n lo : ℕ} {inb : ∀ a, (![lo, 0] : Fin 2 → ℕ) a + (Rows n).size a ≤ S1024x1024.size a}
    (j : (Rows n).Idx) : ((Rect.unit (s := S1024x1024) ![lo, 0] (Rows n).size inb).emb j 0).val = lo + (j 0).val
      ∧ ((Rect.unit (s := S1024x1024) ![lo, 0] (Rows n).size inb).emb j 1).val = (j 1).val := by
  constructor
  · show lo + 1 * (j 0).val = _; omega
  · show 0 + 1 * (j 1).val = _; omega

variable {α : Type} {Φ : α → sProp (MT nD τ sig ℕ (Elt F) ℕ UU ℕ)}

set_option maxHeartbeats 1000000 in
/-- A transfer starts. -/
theorem wp_sendS {s : Slt} {r n : ℕ} {c : Dev nD} (hs : s.ok) (hr : r < rnds s) (he : evs n = (s, r) :: evs (n + 1))
    {N : ℕ} {src dst : Memref sig .tc .vmem S1024x1024 .bf16} {κ : Fin 35} {d' : Dev nD} {os : Fin 2 → ℕ}
    {is : ∀ a, os a + (Rows N).size a ≤ S1024x1024.size a}
    {hsx : (rowSl src N os is).view.WordExact} {hdx : (rowSl dst N os is).view.WordExact}
    (hN : N = nS s) (hsrc : src = srcM s) (hdst : dst = dstM s) (hκ : κ = ix s) (hd : d' = peerS s c) (ho : os = ![offS s c, 0])
    {k : PUnit → Prog (TpuEff nD τ sig (Elt F) Λ₀ .tc) α} :
    iprop(Recs 𝒞 ∗ Sl s r c ∗ sendPay 𝒞 s r c ∗ Rw (peerS s c) (dstM s) fullShare (offS s c) (nS s) Any ∗ extra s r c
        ∗ reached ER (gR s (peerS s c)) r ∗ Owe c n)
      ⊢ iprop(((Fly s r c ∗ Owe c (n + 1)) -∗ WP c (k ⟨⟩) Φ) -∗ WP c (sendPiece (F := F) N src dst κ d' os is hsx hdx >>= k) Φ) := by
  subst hN hsrc hdst hκ hd ho
  unfold sendPiece sendPay Owe Sl Rw Own
  iintro ⟨#HR, ⟨⟨HaS, HaR⟩, ⟨#HrS, #HrR⟩, Htok⟩, ⟨%fs, %hfs, Hsrc⟩, ⟨%fd, -, Hdst⟩, Hex, #HrP, ⟨%W, Ho⟩⟩ Hk
  ihave Ht := (toks_step hr) $$ Htok
  icases Ht with ⟨⟨HtS, HtR, HcR⟩, Htok⟩
  ihave HkS := (recs_S 𝒞 s c) $$ HR
  ihave HkR := (recs_R 𝒞 s (peerS s c)) $$ HR
  unfold Known
  icases HkS with ⟨⟨%κ₁, #HiS⟩, -⟩
  icases HkR with ⟨⟨%κ₂, #HiR⟩, -⟩
  have h0S : (0 : Fin 4) ∈ (Rd 𝒞).duties (gS s c) r := by rw [duties_S 𝒞 c hs, if_pos hr]; exact Finset.mem_singleton_self _
  have h0R : (0 : Fin 4) ∈ (Rd 𝒞).duties (gR s (peerS s c)) r := by rw [duties_R 𝒞 _ hs, if_pos hr]; exact Finset.mem_singleton_self _
  rw [show tally c (evs n) = tally c (evs (n + 1)) + tallyAt (gR s (peerS s c)) r (NS s) from by rw [he]; rfl]
  iapply (wp_send_pointsTo_with 𝒱₀ ER (Rd 𝒞) (c : Thread nD τ) none (κ₁ := κ₁) (κ₂ := κ₂)
    (src := rowSl (srcM s) (nS s) ![offS s c, 0] is) (dst := rowSl (dstM s) (nS s) ![offS s c, 0] is)
    (c' := ((peerS s c : Dev nD) : Thread nD τ)) (q := shS s) (F := extra s r c) (fs := fs) (fd := fd)
    (r₁ := r) (r₂ := r) (d₁ := 0) (d₂ := 0) h0S h0R r r (NS s)
    (show _ = _ by cases s <;> rfl) (amount_S 𝒞 c hs 0) (amount_R 𝒞 _ hs 0) (tally c (evs (n + 1))) rfl (W := W)
    (by
      rw [payload_S 𝒞 c hs, rowSl_set]
      unfold sendPay Rw Own
      iintro H
      iexists fs
      isplitr; · ipureintro; exact hfs
      iexact H)
    (by
      rw [payload_R 𝒞 _ hs]
      unfold recvPay landPay Rw Own
      rw [peerS_peerS, rowSl_set]
      iintro ⟨H, Hex⟩
      isplitl [H]
      · iexists _
        isplitr [H]
        · ipureintro
          intro i hi
          rw [← rect_rows is] at hi
          obtain ⟨j, rfl⟩ := (Rect.unit (s := S1024x1024) ![offS s c, 0] (Rows (nS s)).size is).toLoadRect.exists_idx_of_mem hi
          have h2 : (dstM s).view.read (Elt F) ((rowSl (dstM s) (nS s) ![offS s c, 0] is).view.write (Elt F) fd
              ((rowSl (srcM s) (nS s) ![offS s c, 0] is).view.read (Elt F) fs) Finset.univ)
              ((Rect.unit (s := S1024x1024) ![offS s c, 0] (Rows (nS s)).size is).emb j)
              = (rowSl (srcM s) (nS s) ![offS s c, 0] is).view.read (Elt F) fs j :=
            congrFun (View.read_write_univ (v := (rowSl (dstM s) (nS s) ![offS s c, 0] is).view) fd _) j
          have h3 := hfs ((Rect.unit (s := S1024x1024) ![offS s c, 0] (Rows (nS s)).size is).emb j)
            (by rw [← rect_rows is]; exact hi)
          show valS 𝒞 s r c _ _ ((dstM s).view.read (Elt F) _ ((Rect.unit (s := S1024x1024) ![offS s c, 0] (Rows (nS s)).size is).emb j))
          rw [h2]
          exact h3
        · iexact H
      · iexact Hex)) $$ [Hsrc Hdst Hex Ho HtS HtR]
  · isplitr; · iexact HiS
    isplitr; · iexact HiR
    isplitl [Hsrc]; · rw [rowSl_set]; iexact Hsrc
    isplitl [Hdst Hex]
    · isplitl [Hdst]; · rw [rowSl_set]; iexact Hdst
      iexact Hex
    isplitl [Ho]; · iexact Ho
    isplitl [HtS]; · iexact HtS
    isplitr; · iexact HrS
    isplitl [HtR]; · iexact HtR
    iexact HrP
  iintro ⟨HcS, Ho⟩
  iapply Hk
  unfold Fly
  isplitr [Ho]
  · isplitl [HaS HaR]
    · isplitl [HaS] <;> iassumption
    isplitl [HcS HcR]
    · isplitl [HcS] <;> iassumption
    iexact Htok
  · iexists W; iexact Ho

/-- Everything still owed comes later in the order than round `r` of `s`. -/
def Below (s : Slt) (r n : ℕ) : Prop := ∀ e ∈ evs n, lvS s r < lvS e.1 e.2

theorem mayWait_tally {c : Dev nD} {n lvl : ℕ} (sm : SemLoc sig) (ι : ℕ) (hι : ι < 3) (hl : lvK (kd sm) ι = lvl)
    (h : ∀ e ∈ evs n, lvl < lvS e.1 e.2) :
    (levAts L lv : sProp 𝕄) ⊢ MayWait (c : Thread nD τ) sm ι (tally c (evs n)) :=
  Pipeline.mayWait_of_levAts (by show ι ∈ L _; unfold L; rw [if_pos rfl]; exact Finset.mem_range.mpr hι) fun g i hg => by
    obtain ⟨e, he, rfl, rfl⟩ := tally_pos hg
    obtain ⟨ho, hr, -⟩ := evAll_ok e (List.mem_of_mem_drop he)
    refine ⟨?_, ?_⟩
    · unfold L; rw [if_pos rfl]
      refine Finset.mem_range.mpr (lt_of_lt_of_le hr ?_)
      exact rnds_le _
    · show lvK (kd sm) ι < lvK (kd (.dma (sRecv (ix e.1)))) e.2
      rw [kd_recv ho, hl]; exact h e he

set_option maxHeartbeats 1000000 in
/-- A device waits for a transfer: its own rows come back, and its partner's arrive. -/
theorem wp_waitS {s : Slt} {r n : ℕ} {c : Dev nD} (hs : s.ok) (hr : r < rnds s) (hb : Below s r n)
    {N : ℕ} {src dst : Memref sig .tc .vmem S1024x1024 .bf16} {κ : Fin 35} {os : Fin 2 → ℕ}
    {is : ∀ a, os a + (Rows N).size a ≤ S1024x1024.size a}
    {hsx : (rowSl src N os is).view.WordExact} {hdx : (rowSl dst N os is).view.WordExact}
    (hN : N = nS s) (hsrc : src = srcM s) (hdst : dst = dstM s) (hκ : κ = ix s)
    {k : PUnit → Prog (TpuEff nD τ sig (Elt F) Λ₀ .tc) α} :
    iprop(Recs 𝒞 ∗ Fly s r c ∗ Owe c n)
      ⊢ iprop(((Sl s (r + 1) c ∗ sendPay 𝒞 s r c ∗ recvPay 𝒞 s r c ∗ Owe c n) -∗ WP c (k ⟨⟩) Φ)
          -∗ WP c (waitPiece (F := F) N src dst κ os is hsx hdx >>= k) Φ) := by
  subst hN hsrc hdst hκ
  unfold waitPiece Fly Owe
  iintro ⟨#HR, ⟨⟨HaS, HaR⟩, ⟨HcS, HcR⟩, Htok⟩, ⟨%W, Ho⟩⟩ Hk
  ihave HkS := (recs_S 𝒞 s c) $$ HR
  ihave HkR := (recs_R 𝒞 s c) $$ HR
  ihave #Hlev := (recs_lev 𝒞) $$ HR
  unfold Known
  icases HkS with ⟨⟨%κ₁, #HiS⟩, -⟩
  icases HkR with ⟨⟨%κ₂, #HiR⟩, -⟩
  have h3 : r < 3 := lt_of_lt_of_le hr (rnds_le s)
  simp only [Prog.lift, Prog.bind_op, Prog.bind_ret]
  iapply (wp_wait_rest_token 𝒱₀ ER (Rd 𝒞) (c : Thread nD τ) none (κ := κ₁)
      (wpE_waitDma2_eq 𝒱₀ (c : Thread nD τ) none Set.univ) (Set.mem_univ _) r (O := tally c (evs n)) (W := W) (R := r) (m := 0) (T := ∅)
      (by rw [Nat.zero_add, expect_S 𝒞 c hs hr]; cases s <;> rfl)) $$ [HcS Ho HaS]
  · isplitr; · iexact HiS
    isplitl [HcS]
    · rw [show (rowSl (srcM s) (nS s) os is).view.dmaCredit = NS s from by cases s <;> rfl]; iexact HcS
    isplitl [Ho]; · iexact Ho
    isplitr
    · iapply (mayWait_tally (.dma (sSend (ix s))) r h3 (lvl := lvS s r) (by rw [kd_send hs]; rfl) hb); iexact Hlev
    iexact HaS
  iintro ⟨Ho, HaS, #HrS, Hpay⟩
  ihave Hsrc := (Entails.of_eq (rest_S 𝒞 c hs hr)) $$ Hpay
  iapply (wp_wait_rest_token 𝒱₀ ER (Rd 𝒞) (c : Thread nD τ) none (κ := κ₂)
      (wpE_waitDma2_eq 𝒱₀ (c : Thread nD τ) none Set.univ) (Set.mem_univ _) r (O := tally c (evs n)) (R := r) (m := 0) (T := ∅)
      (by rw [Nat.zero_add, expect_R 𝒞 c hs hr]; cases s <;> rfl)) $$ [HcR Ho HaR]
  · isplitr; · iexact HiR
    isplitl [HcR]
    · rw [show (rowSl (dstM s) (nS s) os is).view.dmaCredit = NS s from by cases s <;> rfl]; iexact HcR
    isplitl [Ho]; · iexact Ho
    isplitr
    · iapply (mayWait_tally (.dma (sRecv (ix s))) r h3 (lvl := lvS s r) (by rw [kd_recv hs]; rfl) hb); iexact Hlev
    iexact HaR
  iintro ⟨Ho, HaR, #HrR, Hpay⟩
  ihave Hdst := (Entails.of_eq (rest_R 𝒞 c hs hr)) $$ Hpay
  iapply Hk
  unfold Sl
  isplitl [HaS HaR Htok]
  · isplitl [HaS HaR]
    · isplitl [HaS] <;> iassumption
    isplitr
    · isplitr <;> iassumption
    iexact Htok
  isplitl [Hsrc]; · iexact Hsrc
  isplitl [Hdst]; · iexact Hdst
  iexists _; iexact Ho

end Cert.KernelIdeal.Gen

end
-- ==== Proof.Local.lean ====
/- The steps of the kernel that stay on one device: what they read, and what they leave. -/
module

public import proofs.«01_k».proof.Proof.Steps

@[expose] public section

set_option maxRecDepth 65536

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig ℕ (Elt F) ℕ UU ℕ

variable {m : (ℓ : Loc nD τ sig) → Buf (Elt F) ℓ} (𝒞 : Contract (F := F) m)

/-! ## A layer's weights -/

/-- Plane `p` of a buffer of two. -/
def plane (a b p : ℕ) : Finset (⟨3, ![2, a, b]⟩ : Shape).Idx := Finset.univ.filter fun i => (i 0).val = p

theorem mem_plane {a b p : ℕ} {i : (⟨3, ![2, a, b]⟩ : Shape).Idx} : i ∈ plane a b p ↔ (i 0).val = p := by simp [plane]

theorem rect_plane {a b p : ℕ} (inb : ∀ x, (![p, 0, 0] : Fin 3 → ℕ) x + (⟨3, ![1, a, b]⟩ : Shape).size x ≤ (⟨3, ![2, a, b]⟩ : Shape).size x) :
    (Rect.unit (s := ⟨3, ![2, a, b]⟩) ![p, 0, 0] (⟨3, ![1, a, b]⟩ : Shape).size inb).set = plane a b p := by
  ext i
  rw [mem_plane, LoadRect.mem_set]
  constructor
  · intro h
    obtain ⟨j, hj, he⟩ := h 0
    have hj' : j < 1 := hj
    have he' : (i 0).val = p + 1 * j := he
    omega
  · intro h x
    match x with
    | ⟨0, _⟩ => exact ⟨0, Nat.one_pos, by show (i 0).val = p + 1 * 0; omega⟩
    | ⟨1, _⟩ => exact ⟨(i 1).val, (i 1).isLt, by show (i 1).val = 0 + 1 * (i 1).val; omega⟩
    | ⟨2, _⟩ => exact ⟨(i 2).val, (i 2).isLt, by show (i 2).val = 0 + 1 * (i 2).val; omega⟩

/-- Plane `p` holds `w`. -/
abbrev Pl {a b : ℕ} {e : EltTy} (c : Dev nD) (mm : Memref sig .tc .vmem ⟨3, ![2, a, b]⟩ e) (p : ℕ)
    (w : (⟨3, ![1, a, b]⟩ : Shape).Idx → Elt F e) : sProp 𝕄 :=
  Own c mm fullShare (plane a b p) fun i v => ∀ k : (⟨3, ![1, a, b]⟩ : Shape).Idx, (k 1).val = (i 1).val → (k 2).val = (i 2).val → v = w k
/-- Plane `p` holds something. -/
abbrev PlAny {a b : ℕ} {e : EltTy} (c : Dev nD) (mm : Memref sig .tc .vmem ⟨3, ![2, a, b]⟩ e) (p : ℕ) : sProp 𝕄 :=
  Own (F := F) c mm fullShare (plane a b p) fun _ _ => True

variable {α : Type} {Φ : α → sProp (MT nD τ sig ℕ (Elt F) ℕ UU ℕ)} {c : Dev nD}

theorem wp_ldPl {a b : ℕ} {e : EltTy} {mm : Memref sig .tc .vmem ⟨3, ![2, a, b]⟩ e} {p : ℕ}
    {w : (⟨3, ![1, a, b]⟩ : Shape).Idx → Elt F e} {off : Fin 3 → ℕ}
    {inb : ∀ x, off x + (⟨3, ![1, a, b]⟩ : Shape).size x ≤ (⟨3, ![2, a, b]⟩ : Shape).size x}
    {h : 0 < (Rect.unit (s := ⟨3, ![2, a, b]⟩) off (⟨3, ![1, a, b]⟩ : Shape).size inb).toLoadRect.shape.numel}
    {k : ((⟨3, ![1, a, b]⟩ : Shape).Idx → Elt F e) → Prog (TpuEff nD τ sig (Elt F) Λ₀ .tc) α} (ho : off = ![p, 0, 0]) :
    Pl c mm p w ⊢ iprop((Pl c mm p w -∗ WP c (k w) Φ) -∗ WP c (ld (F := F) mm off (⟨3, ![1, a, b]⟩ : Shape).size inb h >>= k) Φ) := by
  subst ho
  iintro H Hk
  iapply (wp_ld (c := c) (m := mm) (S := plane a b p) (rect_plane inb).subset) $$ H
  iintro %v %hv H
  have hvw : v = w := funext fun j => hv j j
    (show (j 1).val = 0 + 1 * (j 1).val by omega) (show (j 2).val = 0 + 1 * (j 2).val by omega)
  subst hvw
  iapply Hk; iexact H

/-! ## The pieces of a layer -/

variable {LO N lo : ℕ} {q : PosShare TreeShare} {P P' : ℕ → ℕ → Elt F .f32 → Prop}

/-- A product of rows of `hact` with the layer's second weight. -/
theorem wp_dot {l : ℕ} (hl : l < 3) {p LO' N' : ℕ} {oh : Fin 2 → ℕ} {ih} {ow : Fin 3 → ℕ} {iw} {oa : Fin 2 → ℕ} {ia}
    (hoh : oh = ![lo, 0]) (how : ow = ![p, 0, 0]) (hoa : oa = ![lo, 0])
    (h1 : LO ≤ lo) (h2 : lo + 256 ≤ LO + N) (h1' : LO' ≤ lo) (h2' : lo + 256 ≤ LO' + N')
    (hnew : ∀ r j v, lo ≤ r → 𝒞.A l 0 c r j v → P' r j v)
    (hold : ∀ r j v, LO ≤ r → r < LO + N → ¬ (lo ≤ r ∧ r < lo + 256) → P r j v → P' r j v)
    {k : PUnit → Prog (TpuEff nD τ sig (Elt F) Λ₀ .tc) α} :
    iprop(Rw c mHact q LO' N' (𝒞.H l c) ∗ Pl c mWout p (k0_pay3 (w2 m l c)) ∗ Rw c mAcc fullShare LO N P)
      ⊢ iprop(((Rw c mHact q LO' N' (𝒞.H l c) ∗ Pl c mWout p (k0_pay3 (w2 m l c)) ∗ Rw c mAcc fullShare LO N P') -∗ WP c (k ⟨⟩) Φ)
          -∗ WP c (dotPiece (F := F) oh ih ow iw oa ia >>= k) Φ) := by
  unfold dotPiece
  simp only [bind_assoc]
  iintro ⟨Hh, Hw, Ha⟩ Hk
  iapply (wp_ldRows (c := c) (m := mHact) (LO := LO') (N := N') hoh h1' h2') $$ Hh
  iintro %v %hv Hh
  iapply (wp_ldPl (c := c) (mm := mWout) how) $$ Hw
  iintro Hw
  iapply (wp_ldRows (c := c) (m := mAcc) hoa h1 h2) $$ Ha
  iintro %_ %_ Ha
  iapply (wp_stRows (c := c) (m := mAcc) (P' := P') hoa h1 h2
    (fun j => hnew _ _ _ (Nat.le_add_right _ _) (𝒞.dot l hl c lo v hv j)) hold) $$ Ha
  iintro Ha
  iapply Hk
  isplitl [Hh]; · iexact Hh
  isplitl [Hw] <;> iassumption

/-- Rounding rows of the accumulator for the partner. -/
theorem wp_pack {l t n sl : ℕ} (hl : l < 3) (ht : t < 4) {h : 0 < (Rows n).numel} {oa : Fin 2 → ℕ} {ia} {os : Fin 2 → ℕ} {is} {pk}
    {Q Q' : ℕ → ℕ → Elt F .bf16 → Prop}
    (hoa : oa = ![lo, 0]) (hos : os = ![sl, 0]) (h1 : LO ≤ lo) (h2 : lo + n ≤ LO + N)
    (hP : ∀ r j v, lo ≤ r → r < lo + n → P r j v → 𝒞.A l t c r j v)
    (hQ : ∀ i j v, 𝒞.S l t c (lo + i) j v → Q' (sl + i) j v)
    {k : PUnit → Prog (TpuEff nD τ sig (Elt F) Λ₀ .tc) α} :
    iprop(Rw c mAcc q LO N P ∗ Rw c mSend fullShare sl n Q)
      ⊢ iprop(((Rw c mAcc q LO N P ∗ Rw c mSend fullShare sl n Q') -∗ WP c (k ⟨⟩) Φ)
          -∗ WP c (packPiece (F := F) n h oa ia os is pk >>= k) Φ) := by
  unfold packPiece
  simp only [bind_assoc]
  iintro ⟨Ha, Hs⟩ Hk
  iapply (wp_ldRows (c := c) (m := mAcc) hoa h1 h2) $$ Ha
  iintro %v %hv Ha
  iapply (wp_ldRows (c := c) (m := mSend) hos le_rfl le_rfl) $$ Hs
  iintro %_ %_ Hs
  iapply (wp_stAll (c := c) (m := mSend) (P' := Q') hos
    (fun j => hQ _ _ _ (𝒞.pack l hl t ht c lo n v (fun j => hP _ _ _ (Nat.le_add_right _ _) (Nat.add_lt_add_left (j 0).isLt _) (hv j)) j))) $$ Hs
  iintro Hs
  iapply Hk
  isplitl [Ha] <;> iassumption

/-- Adding what the partner sent. -/
theorem wp_add {l t n sl : ℕ} (hl : l < 3) {b : Fin 2} (ht : t < 4) {h : 0 < (Rows n).numel} {oa : Fin 2 → ℕ} {ia} {os : Fin 2 → ℕ} {is}
    {Q : ℕ → ℕ → Elt F .bf16 → Prop} (hn : n = hsz t)
    (hoa : oa = ![keepLo b (t + 1) c, 0]) (hos : os = ![sl, 0]) (h1 : LO ≤ keepLo b (t + 1) c) (h2 : keepLo b (t + 1) c + hsz t ≤ LO + N)
    (hP : ∀ r j v, keepLo b (t + 1) c ≤ r → r < keepLo b (t + 1) c + hsz t → P r j v → 𝒞.A l t c r j v)
    (hQ : ∀ i j v, Q (sl + i) j v → 𝒞.S l t (peer b t c) (keepLo b (t + 1) c + i) j v)
    (hnew : ∀ r j v, 𝒞.A l (t + 1) c r j v → P' r j v)
    (hold : ∀ r j v, LO ≤ r → r < LO + N → ¬ (keepLo b (t + 1) c ≤ r ∧ r < keepLo b (t + 1) c + hsz t) → P r j v → P' r j v)
    {k : PUnit → Prog (TpuEff nD τ sig (Elt F) Λ₀ .tc) α} :
    iprop(Rw c mAcc fullShare LO N P ∗ Rw c mStage q sl (hsz t) Q)
      ⊢ iprop(((Rw c mAcc fullShare LO N P' ∗ Rw c mStage q sl (hsz t) Q) -∗ WP c (k ⟨⟩) Φ)
          -∗ WP c (addPiece (F := F) n h oa ia os is >>= k) Φ) := by
  subst hn
  unfold addPiece
  simp only [bind_assoc]
  iintro ⟨Ha, Hs⟩ Hk
  iapply (wp_ldRows (c := c) (m := mAcc) hoa h1 h2) $$ Ha
  iintro %v %hv Ha
  iapply (wp_ldRows (c := c) (m := mStage) hos le_rfl le_rfl) $$ Hs
  iintro %w %hw Hs
  iapply (wp_ldRows (c := c) (m := mAcc) hoa h1 h2) $$ Ha
  iintro %_ %_ Ha
  iapply (wp_stRows (c := c) (m := mAcc) (P' := P') hoa h1 h2
    (fun j => hnew _ _ _ (𝒞.add l hl b t ht c v w
      (fun j => hP _ _ _ (Nat.le_add_right _ _) (Nat.add_lt_add_left (j 0).isLt _) (hv j)) (fun j => hQ _ _ _ (hw j)) j)) hold) $$ Ha
  iintro Ha
  iapply Hk
  isplitl [Ha] <;> iassumption

/-- Rounding the finished rows. -/
theorem wp_done {l : ℕ} (hl : l < 3) {b : Fin 2} {oa : Fin 2 → ℕ} {ia} {pk} {Q : ℕ → ℕ → Elt F .bf16 → Prop}
    (hoa : oa = ![keepLo b 4 c, 0]) (h1 : LO ≤ keepLo b 4 c) (h2 : keepLo b 4 c + 32 ≤ LO + N)
    (hP : ∀ r j v, keepLo b 4 c ≤ r → r < keepLo b 4 c + 32 → P r j v → 𝒞.A l 4 c r j v)
    {k : PUnit → Prog (TpuEff nD τ sig (Elt F) Λ₀ .tc) α} :
    iprop(Rw c mAcc q LO N P ∗ Rw c mOut fullShare (keepLo b 4 c) 32 Q)
      ⊢ iprop(((Rw c mAcc q LO N P ∗ Rw c mOut fullShare (keepLo b 4 c) 32 (𝒞.X (l + 1))) -∗ WP c (k ⟨⟩) Φ)
          -∗ WP c (donePiece (F := F) oa ia pk >>= k) Φ) := by
  unfold donePiece
  simp only [bind_assoc]
  iintro ⟨Ha, Hs⟩ Hk
  iapply (wp_ldRows (c := c) (m := mAcc) hoa h1 h2) $$ Ha
  iintro %v %hv Ha
  iapply (wp_ldRows (c := c) (m := mOut) hoa le_rfl le_rfl) $$ Hs
  iintro %_ %_ Hs
  iapply (wp_stAll (c := c) (m := mOut) (P' := 𝒞.X (l + 1)) hoa
    (fun j => 𝒞.done l hl b c v (fun j => hP _ _ _ (Nat.le_add_right _ _) (Nat.add_lt_add_left (j 0).isLt _) (hv j)) j)) $$ Hs
  iintro Hs
  iapply Hk
  isplitl [Ha] <;> iassumption

/-- Gathered rows through the next layer's first weight. -/
theorem wp_cons {l : ℕ} (hl : l < 2) {p n LO' N' : ℕ} {h : 0 < (Rows n).numel} {h' : 0 < (HRows n).numel}
    {ox : Fin 2 → ℕ} {ix} {ow : Fin 3 → ℕ} {iw} {oh : Fin 2 → ℕ} {ih} {pk} {Q Q' : ℕ → ℕ → Elt F .bf16 → Prop}
    (hox : ox = ![lo, 0]) (how : ow = ![p, 0, 0]) (hoh : oh = ![lo, 0])
    (h1 : LO ≤ lo) (h2 : lo + n ≤ LO + N) (h1' : LO' ≤ lo) (h2' : lo + n ≤ LO' + N')
    (hnew : ∀ r j v, 𝒞.H (l + 1) c r j v → Q' r j v)
    (hold : ∀ r j v, LO' ≤ r → r < LO' + N' → ¬ (lo ≤ r ∧ r < lo + n) → Q r j v → Q' r j v)
    {k : PUnit → Prog (TpuEff nD τ sig (Elt F) Λ₀ .tc) α} :
    iprop(Rw c mOut q LO N (𝒞.X (l + 1)) ∗ Pl c mWin p (k0_pay2 (w1 m (l + 1) c)) ∗ Rw c mHact fullShare LO' N' Q)
      ⊢ iprop(((Rw c mOut q LO N (𝒞.X (l + 1)) ∗ Pl c mWin p (k0_pay2 (w1 m (l + 1) c)) ∗ Rw c mHact fullShare LO' N' Q') -∗ WP c (k ⟨⟩) Φ)
          -∗ WP c (consPiece (F := F) n h h' ox ix ow iw oh ih pk >>= k) Φ) := by
  unfold consPiece
  simp only [bind_assoc]
  iintro ⟨Hx, Hw, Hh⟩ Hk
  iapply (wp_ldRows (c := c) (m := mOut) hox h1 h2) $$ Hx
  iintro %v %hv Hx
  iapply (wp_ldPl (c := c) (mm := mWin) how) $$ Hw
  iintro Hw
  iapply (wp_ldRows (c := c) (m := mHact) hoh h1' h2') $$ Hh
  iintro %_ %_ Hh
  iapply (wp_stRows (c := c) (m := mHact) (P' := Q') hoh h1' h2'
    (fun j => hnew _ _ _ (𝒞.cons l hl c lo n v hv j)) hold) $$ Hh
  iintro Hh
  iapply Hk
  isplitl [Hx]; · iexact Hx
  isplitl [Hw] <;> iassumption

/-- Gathered rows of the last layer into the result. -/
theorem wp_out {n LO' N' : ℕ} {h : 0 < (Rows n).numel} {ox : Fin 2 → ℕ} {ix}
    (hox : ox = ![lo, 0]) (h1 : LO ≤ lo) (h2 : lo + n ≤ LO + N) (h1' : LO' ≤ lo) (h2' : lo + n ≤ LO' + N')
    (hnew : ∀ r j v, 𝒞.O r j v → P' r j v)
    (hold : ∀ r j v, LO' ≤ r → r < LO' + N' → ¬ (lo ≤ r ∧ r < lo + n) → P r j v → P' r j v)
    {k : PUnit → Prog (TpuEff nD τ sig (Elt F) Λ₀ .tc) α} :
    iprop(Rw c mOut q LO N (𝒞.X 3) ∗ Rw c mO fullShare LO' N' P)
      ⊢ iprop(((Rw c mOut q LO N (𝒞.X 3) ∗ Rw c mO fullShare LO' N' P') -∗ WP c (k ⟨⟩) Φ)
          -∗ WP c (outPiece (F := F) n h ox ix >>= k) Φ) := by
  unfold outPiece
  simp only [bind_assoc]
  iintro ⟨Hx, Hh⟩ Hk
  iapply (wp_ldRows (c := c) (m := mOut) hox h1 h2) $$ Hx
  iintro %v %hv Hx
  iapply (wp_ldRows (c := c) (m := mO) hox h1' h2') $$ Hh
  iintro %_ %_ Hh
  iapply (wp_stRows (c := c) (m := mO) (P' := P') hox h1' h2'
    (fun j => hnew _ _ _ (𝒞.out lo n v hv j)) hold) $$ Hh
  iintro Hh
  iapply Hk
  isplitl [Hx] <;> iassumption

end Cert.KernelIdeal.Gen

end
-- ==== Proof.Layer.lean ====
/- One exchange of a layer: the partial products that go out and come in, and the finished rows that do. -/
module

public import proofs.«01_k».proof.Proof.Local

@[expose] public section

set_option maxRecDepth 65536

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig ℕ (Elt F) ℕ UU ℕ

variable {m : (ℓ : Loc nD τ sig) → Buf (Elt F) ℓ} (𝒞 : Contract (F := F) m)
variable {α : Type} {Φ : α → sProp (MT nD τ sig ℕ (Elt F) ℕ UU ℕ)} {c : Dev nD}

/-! ## What is kept, halved and put together -/

section Keep
variable {w : ℕ} {e : EltTy} {mm : Memref sig .tc .vmem (Tall w) e} {q : PosShare TreeShare} {P : ℕ → ℕ → Elt F e → Prop} (b : Fin 2) {t : ℕ}

omit [FloatOps F] in
theorem keep_split (ht : t < 4) : Rw c mm q (keepLo b t c) (512 >>> t) P
    ⊢ iprop(Rw c mm q (keepLo b (t + 1) c) (hsz t) P ∗ Rw c mm q (sendLo b t c) (hsz t) P) := by
  have h := halves c b ht
  have hk := ksz ht
  have hmin : min (keepLo b (t + 1) c) (sendLo b t c) = keepLo b t c := by omega
  have h1 : sendLo b t c = keepLo b (t + 1) c + hsz t ∨ keepLo b (t + 1) c = sendLo b t c + hsz t := by omega
  have h2 : 512 >>> t = hsz t + hsz t := by omega
  rw [← hmin]
  exact rw_split h1 h2
omit [FloatOps F] in
theorem keep_join (ht : t < 4) : iprop(Rw c mm q (keepLo b (t + 1) c) (hsz t) P ∗ Rw c mm q (sendLo b t c) (hsz t) P)
    ⊢ Rw c mm q (keepLo b t c) (512 >>> t) P := by
  have h := halves c b ht
  have hk := ksz ht
  have hmin : min (keepLo b (t + 1) c) (sendLo b t c) = keepLo b t c := by omega
  have h1 : sendLo b t c = keepLo b (t + 1) c + hsz t ∨ keepLo b (t + 1) c = sendLo b t c + hsz t := by omega
  have h2 : 512 >>> t = hsz t + hsz t := by omega
  rw [← hmin]
  exact rw_join h1 h2
end Keep

/-! ## The state of an exchange -/

/-- Between layers: its transfers may be made in layer `l`, the rows it sends from are at hand, and (until the
    last layer is over) those of its partner that it sends to. -/
def RSst (b : Fin 2) (t l : ℕ) (c : Dev nD) : sProp 𝕄 :=
  iprop(Sl (.R b t) l c ∗ Sl (.A b t) l c ∗ Rw c mSend fullShare (stgLo b t) (hsz t) Any
    ∗ (if l < 3 then iprop(Rw (peer b t c) mStage fullShare (stgLo b t) (hsz t) Any ∗ reached ER (gR (.R b t) (peer b t c)) l)
        else Rw c mStage fullShare (stgLo b t) (hsz t) Any))
/-- The partial products are on their way. -/
def RSfly (b : Fin 2) (t l : ℕ) (c : Dev nD) : sProp 𝕄 := iprop(Fly (.R b t) l c ∗ Sl (.A b t) l c)
/-- They have arrived: the rows they came in may be lent out, and the partner has lent those that it gave away. -/
def Mid (b : Fin 2) (t l : ℕ) (c : Dev nD) : sProp 𝕄 :=
  iprop(Sl (.R b t) (l + 1) c ∗ Sl (.A b t) l c ∗ Rw c mSend fullShare (stgLo b t) (hsz t) Any
    ∗ Rw c mStage fullShare (stgLo b t) (hsz t) Any
    ∗ Rw (peer b t c) mOut fullShare (keepLo b (t + 1) c) (hsz t) Any ∗ reached ER (gR (.A b t) (peer b t c)) l)
/-- The finished rows are on their way. -/
def AGfly (b : Fin 2) (t l : ℕ) (c : Dev nD) : sProp 𝕄 :=
  iprop(Fly (.A b t) l c ∗ Sl (.R b t) (l + 1) c ∗ Rw c mSend fullShare (stgLo b t) (hsz t) Any
    ∗ (if l < 2 then iprop(emp) else Rw c mStage fullShare (stgLo b t) (hsz t) Any))

/-- The accumulator of band `b` before exchange `t`. -/
def accP (l : ℕ) (b : Fin 2) (t : ℕ) (c : Dev nD) : ℕ → ℕ → Elt F .f32 → Prop :=
  fun r j v => keepLo b t c ≤ r → r < keepLo b t c + 512 >>> t → 𝒞.A l t c r j v

variable {b : Fin 2} {t l n N : ℕ}

/-- Partial products rounded and sent. -/
theorem wp_redStart (hl : l < 3) (ht : t < 4) (he : evs n = (.R b t, l) :: evs (n + 1))
    {h : 0 < (Rows N).numel} {oa : Fin 2 → ℕ} {ia} {os : Fin 2 → ℕ} {is is'} {pk} {src dst : Memref sig .tc .vmem S1024x1024 .bf16} {κ : Fin 35} {d' : Dev nD}
    {hsx : (rowSl src N os is').view.WordExact} {hdx : (rowSl dst N os is').view.WordExact}
    (hN : N = hsz t) (hsrc : src = mSend) (hdst : dst = mStage) (hκ : κ = ix (.R b t)) (hd : d' = peer b t c)
    (hoa : oa = ![sendLo b t c, 0]) (hos : os = ![stgLo b t, 0]) {P : ℕ → ℕ → Elt F .f32 → Prop}
    (hP : ∀ r j v, sendLo b t c ≤ r → r < sendLo b t c + hsz t → P r j v → 𝒞.A l t c r j v)
    {k : PUnit → Prog (TpuEff nD τ sig (Elt F) Λ₀ .tc) α} :
    iprop(Recs 𝒞 ∗ Rw c mAcc fullShare (512 * b.val) 512 P ∗ Rw c mOut fullShare (keepLo b t c) (512 >>> t) Any ∗ RSst b t l c ∗ Owe c n)
      ⊢ iprop(((Rw c mAcc fullShare (512 * b.val) 512 P ∗ Rw c mOut fullShare (keepLo b (t + 1) c) (512 >>> (t + 1)) Any ∗ RSfly b t l c ∗ Owe c (n + 1))
            -∗ WP c (k ⟨⟩) Φ)
          -∗ WP c (packPiece (F := F) N h oa ia os is pk >>= fun _ => sendPiece (F := F) N src dst κ d' os is' hsx hdx >>= k) Φ) := by
  subst hN
  have hh := halves c b ht
  have hk := ksz ht
  have hb := keep_band c b (t := t) (by omega)
  unfold RSst
  rw [if_pos hl, hk.2.1]
  iintro ⟨#HR, Ha, Ho, ⟨HsR, HsA, Hsend, Hst, #Hre⟩, Howe⟩ Hk
  iapply (wp_pack 𝒞 (c := c) (l := l) (t := t) (n := hsz t) (lo := sendLo b t c) (LO := 512 * b.val) (N := 512) (P := P)
    (Q' := valS 𝒞 (.R b t) l c) hl ht hoa hos
    (by omega) (by omega) hP (fun i j v hv => by
      show 𝒞.S l t c (stgLo b t + i - stgLo b t + sendLo b t c) j v
      rwa [show stgLo b t + i - stgLo b t + sendLo b t c = sendLo b t c + i by omega])) $$ [Ha Hsend]
  · isplitl [Ha] <;> iassumption
  iintro ⟨Ha, Hsend⟩
  ihave Ho2 := (keep_split (c := c) b ht) $$ Ho
  icases Ho2 with ⟨Hkeep, Hgive⟩
  ihave #HrA := (sl_reached (s := .A b t)) $$ HsA
  iapply (wp_sendS 𝒞 (s := .R b t) ht hl he rfl hsrc hdst hκ hd hos) $$ [HsR Hsend Hst Hgive Howe]
  · isplitr; · iexact HR
    isplitl [HsR]; · iexact HsR
    isplitl [Hsend]; · unfold sendPay; iexact Hsend
    isplitl [Hst]; · iexact Hst
    isplitl [Hgive]
    · unfold extra; dsimp only
      isplitl [Hgive]; · iexact Hgive
      iexact HrA
    isplitr; · iexact Hre
    iexact Howe
  iintro ⟨Hf, Howe⟩
  iapply Hk
  isplitl [Ha]; · iexact Ha
  isplitl [Hkeep]; · iexact Hkeep
  isplitl [Hf HsA]
  · unfold RSfly
    isplitl [Hf] <;> iassumption
  iexact Howe

/-- Partial products received and added. -/
theorem wp_redEnd (hl : l < 3) (ht : t < 4) (hb : Below (.R b t) l n)
    {h : 0 < (Rows N).numel} {oa : Fin 2 → ℕ} {ia} {os : Fin 2 → ℕ} {is is'} {src dst : Memref sig .tc .vmem S1024x1024 .bf16} {κ : Fin 35}
    {hsx : (rowSl src N os is').view.WordExact} {hdx : (rowSl dst N os is').view.WordExact}
    (hN : N = hsz t) (hsrc : src = mSend) (hdst : dst = mStage) (hκ : κ = ix (.R b t))
    (hoa : oa = ![keepLo b (t + 1) c, 0]) (hos : os = ![stgLo b t, 0]) {P : ℕ → ℕ → Elt F .f32 → Prop}
    (hP : ∀ r j v, keepLo b (t + 1) c ≤ r → r < keepLo b (t + 1) c + hsz t → P r j v → 𝒞.A l t c r j v)
    {k : PUnit → Prog (TpuEff nD τ sig (Elt F) Λ₀ .tc) α} :
    iprop(Recs 𝒞 ∗ Rw c mAcc fullShare (512 * b.val) 512 P ∗ RSfly b t l c ∗ Owe c n)
      ⊢ iprop(((Rw c mAcc fullShare (512 * b.val) 512 (accP 𝒞 l b (t + 1) c) ∗ Mid b t l c ∗ Owe c n) -∗ WP c (k ⟨⟩) Φ)
          -∗ WP c (waitPiece (F := F) N src dst κ os is' hsx hdx >>= fun _ => addPiece (F := F) N h oa ia os is >>= k) Φ) := by
  have hh := halves c b ht
  have hk := ksz ht
  have hbd := keep_band c b (t := t + 1) (by omega)
  unfold RSfly
  iintro ⟨#HR, Ha, ⟨Hf, HsA⟩, Howe⟩ Hk
  iapply (wp_waitS 𝒞 (s := .R b t) ht hl hb hN hsrc hdst hκ) $$ [Hf Howe]
  · isplitr; · iexact HR
    isplitl [Hf] <;> iassumption
  unfold sendPay recvPay landPay extra
  dsimp only [offS, srcM, dstM, nS, shS, peerS]
  iintro ⟨HsR, Hsend, ⟨Hst, Hlent, #HrA⟩, Howe⟩
  iapply (wp_add 𝒞 (c := c) (l := l) (t := t) (b := b) (n := N) (LO := 512 * b.val) (N := 512) (P := P)
    (Q := valS 𝒞 (.R b t) l (peer b t c)) (P' := accP 𝒞 l b (t + 1) c) hl ht hN hoa hos (by omega) (by omega) hP (fun i j v hv => by
      have hv' : 𝒞.S l t (peer b t c) (stgLo b t + i - stgLo b t + sendLo b t (peer b t c)) j v := hv
      rwa [show stgLo b t + i - stgLo b t + sendLo b t (peer b t c) = keepLo b (t + 1) c + i by rw [(keep_peer c b ht).2]; omega] at hv')
    (fun r j v hv _ _ => hv) (fun r j v _ _ hn _ h1 h2 => absurd ⟨h1, by omega⟩ hn)) $$ [Ha Hst]
  · isplitl [Ha] <;> iassumption
  iintro ⟨Ha, Hst⟩
  iapply Hk
  isplitl [Ha]; · iexact Ha
  isplitr [Howe]
  · unfold Mid
    isplitl [HsR]; · iexact HsR
    isplitl [HsA]; · iexact HsA
    isplitl [Hsend]; · iapply (rw_any (c := c)); iexact Hsend
    isplitl [Hst]; · iapply (rw_any (c := c)); iexact Hst
    isplitl [Hlent]; · rw [(keep_peer c b ht).2]; iexact Hlent
    iexact HrA
  iexact Howe

/-- Finished rows sent; half of them stay readable. -/
theorem wp_gathStart (hl : l < 3) (ht : t < 4) (he : evs n = (.A b t, l) :: evs (n + 1))
    {os : Fin 2 → ℕ} {is} {src dst : Memref sig .tc .vmem S1024x1024 .bf16} {κ : Fin 35} {d' : Dev nD}
    {hsx : (rowSl src N os is).view.WordExact} {hdx : (rowSl dst N os is).view.WordExact}
    (hN : N = hsz t) (hsrc : src = mOut) (hdst : dst = mOut) (hκ : κ = ix (.A b t)) (hd : d' = peer b t c)
    (hos : os = ![keepLo b (t + 1) c, 0])
    {k : PUnit → Prog (TpuEff nD τ sig (Elt F) Λ₀ .tc) α} :
    iprop(Recs 𝒞 ∗ Rw c mOut fullShare (keepLo b (t + 1) c) (512 >>> (t + 1)) (𝒞.X (l + 1)) ∗ Mid b t l c ∗ Owe c n)
      ⊢ iprop(((Rw c mOut fullShare.right (keepLo b (t + 1) c) (512 >>> (t + 1)) (𝒞.X (l + 1)) ∗ AGfly b t l c ∗ Owe c (n + 1)) -∗ WP c (k ⟨⟩) Φ)
          -∗ WP c (sendPiece (F := F) N src dst κ d' os is hsx hdx >>= k) Φ) := by
  unfold Mid
  rw [(ksz ht).2.1]
  iintro ⟨#HR, Ho, ⟨HsR, HsA, Hsend, Hst, Hlent, #Hre⟩, Howe⟩ Hk
  ihave Ho2 := (own_halve (c := c)) $$ Ho
  icases Ho2 with ⟨Hl, Hr⟩
  ihave #HrR := (sl_reached (s := .R b t)) $$ HsR
  by_cases h2 : l < 2
  · iapply (wp_sendS 𝒞 (s := .A b t) ht hl he hN hsrc hdst hκ hd hos) $$ [HsA Hl Hst Hlent Howe]
    · isplitr; · iexact HR
      isplitl [HsA]; · iexact HsA
      isplitl [Hl]; · unfold sendPay; iexact Hl
      isplitl [Hlent]; · iexact Hlent
      isplitl [Hst]
      · unfold extra; dsimp only; rw [if_pos h2]
        isplitl [Hst]; · iexact Hst
        iexact HrR
      isplitr; · iexact Hre
      iexact Howe
    iintro ⟨Hf, Howe⟩
    iapply Hk
    isplitl [Hr]; · iexact Hr
    isplitr [Howe]
    · unfold AGfly
      rw [if_pos h2]
      isplitl [Hf]; · iexact Hf
      isplitl [HsR]; · iexact HsR
      isplitl [Hsend]; · iexact Hsend
      iempintro
    iexact Howe
  · iapply (wp_sendS 𝒞 (s := .A b t) ht hl he hN hsrc hdst hκ hd hos) $$ [HsA Hl Hlent Howe]
    · isplitr; · iexact HR
      isplitl [HsA]; · iexact HsA
      isplitl [Hl]; · unfold sendPay; iexact Hl
      isplitl [Hlent]; · iexact Hlent
      isplitr
      · unfold extra; dsimp only; rw [if_neg h2]
        iempintro
      isplitr; · iexact Hre
      iexact Howe
    iintro ⟨Hf, Howe⟩
    iapply Hk
    isplitl [Hr]; · iexact Hr
    isplitr [Howe]
    · unfold AGfly
      rw [if_neg h2]
      isplitl [Hf]; · iexact Hf
      isplitl [HsR]; · iexact HsR
      isplitl [Hsend]; · iexact Hsend
      iexact Hst
    iexact Howe

/-- Finished rows received. -/
theorem wp_gathEnd (hl : l < 3) (ht : t < 4) (hb : Below (.A b t) l n)
    {os : Fin 2 → ℕ} {is} {src dst : Memref sig .tc .vmem S1024x1024 .bf16} {κ : Fin 35}
    {hsx : (rowSl src N os is).view.WordExact} {hdx : (rowSl dst N os is).view.WordExact}
    (hN : N = hsz t) (hsrc : src = mOut) (hdst : dst = mOut) (hκ : κ = ix (.A b t))
    {k : PUnit → Prog (TpuEff nD τ sig (Elt F) Λ₀ .tc) α} :
    iprop(Recs 𝒞 ∗ Rw c mOut fullShare.right (keepLo b (t + 1) c) (512 >>> (t + 1)) (𝒞.X (l + 1)) ∗ AGfly b t l c ∗ Owe c n)
      ⊢ iprop(((Rw c mOut fullShare (keepLo b t c) (512 >>> t) (𝒞.X (l + 1)) ∗ RSst b t (l + 1) c ∗ Owe c n) -∗ WP c (k ⟨⟩) Φ)
          -∗ WP c (waitPiece (F := F) N src dst κ os is hsx hdx >>= k) Φ) := by
  unfold AGfly
  rw [(ksz ht).2.1]
  iintro ⟨#HR, Hr, ⟨Hf, HsR, Hsend, Hst⟩, Howe⟩ Hk
  iapply (wp_waitS 𝒞 (s := .A b t) ht hl hb hN hsrc hdst hκ) $$ [Hf Howe]
  · isplitr; · iexact HR
    isplitl [Hf] <;> iassumption
  unfold sendPay recvPay landPay extra
  dsimp only [offS, srcM, dstM, nS, shS, peerS]
  rw [(keep_peer c b ht).1]
  iintro ⟨HsA, Hl, ⟨Hg, Hex⟩, Howe⟩
  ihave Hw := (own_whole (c := c) (m := mOut) (S := rows 1024 (keepLo b (t + 1) c) (hsz t))
    (P := fun i v => 𝒞.X (l + 1) (i 0).val (i 1).val v) (P' := fun i v => 𝒞.X (l + 1) (i 0).val (i 1).val v)) $$ [Hl Hr]
  · isplitl [Hl]; · iexact Hl
    iexact Hr
  iapply Hk
  isplitl [Hw Hg]
  · iapply (keep_join (c := c) b ht)
    isplitl [Hw]; · iexact Hw
    iexact Hg
  isplitr [Howe]
  · unfold RSst
    isplitl [HsR]; · iexact HsR
    isplitl [HsA]; · iexact HsA
    isplitl [Hsend]; · iexact Hsend
    by_cases h2 : l < 2
    · rw [if_pos (show l + 1 < 3 by omega)]; simp only [if_pos h2]
      iexact Hex
    · rw [if_neg (show ¬ l + 1 < 3 by omega)]; simp only [if_neg h2]
      iexact Hst
  iexact Howe

/-! ## An exchange's end with the next one's start -/

/-- Partial products received, added, and the next half sent. -/
theorem wp_redStep (hl : l < 3) (ht : t < 3) (hb : Below (.R b t) l n) (he : evs n = (.R b (t + 1), l) :: evs (n + 1))
    {h : 0 < (Rows N).numel} {oa : Fin 2 → ℕ} {ia} {os : Fin 2 → ℕ} {is is'} {κ : Fin 35}
    {hsx : (rowSl mSend N os is').view.WordExact} {hdx : (rowSl mStage N os is').view.WordExact}
    {N' : ℕ} {h2 : 0 < (Rows N').numel} {oa' : Fin 2 → ℕ} {ia'} {os' : Fin 2 → ℕ} {iz iz'} {pk} {κ' : Fin 35} {d' : Dev nD}
    {hsx' : (rowSl mSend N' os' iz').view.WordExact} {hdx' : (rowSl mStage N' os' iz').view.WordExact}
    (hN : N = hsz t) (hκ : κ = ix (.R b t)) (hoa : oa = ![keepLo b (t + 1) c, 0]) (hos : os = ![stgLo b t, 0])
    (hN' : N' = hsz (t + 1)) (hκ' : κ' = ix (.R b (t + 1))) (hd : d' = peer b (t + 1) c)
    (hoa' : oa' = ![sendLo b (t + 1) c, 0]) (hos' : os' = ![stgLo b (t + 1), 0])
    {k : PUnit → Prog (TpuEff nD τ sig (Elt F) Λ₀ .tc) α} :
    iprop(Recs 𝒞 ∗ Rw c mAcc fullShare (512 * b.val) 512 (accP 𝒞 l b t c) ∗ Rw c mOut fullShare (keepLo b (t + 1) c) (512 >>> (t + 1)) Any
        ∗ RSfly b t l c ∗ RSst b (t + 1) l c ∗ Owe c n)
      ⊢ iprop(((Rw c mAcc fullShare (512 * b.val) 512 (accP 𝒞 l b (t + 1) c) ∗ Rw c mOut fullShare (keepLo b (t + 2) c) (512 >>> (t + 2)) Any
            ∗ Mid b t l c ∗ RSfly b (t + 1) l c ∗ Owe c (n + 1)) -∗ WP c (k ⟨⟩) Φ)
          -∗ WP c (waitPiece (F := F) N mSend mStage κ os is' hsx hdx >>= fun _ => addPiece (F := F) N h oa ia os is >>= fun _ =>
              packPiece (F := F) N' h2 oa' ia' os' iz pk >>= fun _ => sendPiece (F := F) N' mSend mStage κ' d' os' iz' hsx' hdx' >>= k) Φ) := by
  have h0 := halves c b (t := t) (by omega)
  have h1 := halves c b (t := t + 1) (by omega)
  have hk0 := ksz (t := t) (by omega)
  have hk1 := ksz (t := t + 1) (by omega)
  iintro ⟨#HR, Ha, Ho, Hf, Hst, Howe⟩ Hk
  iapply (wp_redEnd 𝒞 (b := b) (t := t) (l := l) (P := accP 𝒞 l b t c) hl (by omega) hb hN rfl rfl hκ hoa hos
    (fun r j v h2 h3 hv => hv (by omega) (by omega))) $$ [Ha Hf Howe]
  · isplitr; · iexact HR
    isplitl [Ha]; · iexact Ha
    isplitl [Hf] <;> iassumption
  iintro ⟨Ha, Hm, Howe⟩
  iapply (wp_redStart 𝒞 (b := b) (t := t + 1) (l := l) (P := accP 𝒞 l b (t + 1) c) hl (by omega) he hN' rfl rfl hκ' hd hoa' hos'
    (fun r j v h2 h3 hv => hv (by omega) (by omega))) $$ [Ha Ho Hst Howe]
  · isplitr; · iexact HR
    isplitl [Ha]; · iexact Ha
    isplitl [Ho]; · iexact Ho
    isplitl [Hst] <;> iassumption
  iintro ⟨Ha, Ho, Hf, Howe⟩
  iapply Hk
  isplitl [Ha]; · iexact Ha
  isplitl [Ho]; · iexact Ho
  isplitl [Hm]; · iexact Hm
  isplitl [Hf] <;> iassumption

/-- Finished rows received, and sent on with those at hand. -/
theorem wp_gathStep (hl : l < 3) (ht : t < 3) (hb : Below (.A b (t + 1)) l n) (he : evs n = (.A b t, l) :: evs (n + 1))
    {os : Fin 2 → ℕ} {is} {κ : Fin 35}
    {hsx : (rowSl mOut N os is).view.WordExact} {hdx : (rowSl mOut N os is).view.WordExact}
    {N' : ℕ} {os' : Fin 2 → ℕ} {is'} {κ' : Fin 35} {d' : Dev nD}
    {hsx' : (rowSl mOut N' os' is').view.WordExact} {hdx' : (rowSl mOut N' os' is').view.WordExact}
    (hN : N = hsz (t + 1)) (hκ : κ = ix (.A b (t + 1)))
    (hN' : N' = hsz t) (hκ' : κ' = ix (.A b t)) (hd : d' = peer b t c) (hos' : os' = ![keepLo b (t + 1) c, 0])
    {k : PUnit → Prog (TpuEff nD τ sig (Elt F) Λ₀ .tc) α} :
    iprop(Recs 𝒞 ∗ Rw c mOut fullShare.right (keepLo b (t + 2) c) (512 >>> (t + 2)) (𝒞.X (l + 1)) ∗ AGfly b (t + 1) l c ∗ Mid b t l c ∗ Owe c n)
      ⊢ iprop(((Rw c mOut fullShare.right (keepLo b (t + 1) c) (512 >>> (t + 1)) (𝒞.X (l + 1)) ∗ RSst b (t + 1) (l + 1) c ∗ AGfly b t l c
            ∗ Owe c (n + 1)) -∗ WP c (k ⟨⟩) Φ)
          -∗ WP c (waitPiece (F := F) N mOut mOut κ os is hsx hdx >>= fun _ => sendPiece (F := F) N' mOut mOut κ' d' os' is' hsx' hdx' >>= k) Φ) := by
  iintro ⟨#HR, Hr, Hf, Hm, Howe⟩ Hk
  iapply (wp_gathEnd 𝒞 (b := b) (t := t + 1) (l := l) hl (by omega) hb hN rfl rfl hκ) $$ [Hr Hf Howe]
  · isplitr; · iexact HR
    isplitl [Hr]; · iexact Hr
    isplitl [Hf] <;> iassumption
  iintro ⟨Ho, Hst, Howe⟩
  iapply (wp_gathStart 𝒞 (b := b) (t := t) (l := l) hl (by omega) he hN' rfl rfl hκ' hd hos') $$ [Ho Hm Howe]
  · isplitr; · iexact HR
    isplitl [Ho]; · iexact Ho
    isplitl [Hm] <;> iassumption
  iintro ⟨Hr, Hf, Howe⟩
  iapply Hk
  isplitl [Hr]; · iexact Hr
  isplitl [Hst]; · iexact Hst
  isplitl [Hf] <;> iassumption

end Cert.KernelIdeal.Gen

end
-- ==== Proof.Layers.lean ====
/- A whole layer: its products, the exchanges that add them up, and those that gather the finished rows. -/
module

public import proofs.«01_k».proof.Proof.Layer
public import proofs.«01_k».proof.Proof.Program

@[expose] public section

set_option maxRecDepth 65536

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig ℕ (Elt F) ℕ UU ℕ

variable {m : (ℓ : Loc nD τ sig) → Buf (Elt F) ℓ} (𝒞 : Contract (F := F) m)
variable {α : Type} {Φ : α → sProp (MT nD τ sig ℕ (Elt F) ℕ UU ℕ)} {c : Dev nD} {l : ℕ}

/-! ## The order of a layer's events -/

theorem ev (hl : l < 3) (i : ℕ) (hi : i < 16) : evs (15 + 16 * l + i) = (evL l).get ⟨i, hi⟩ :: evs (15 + 16 * l + i + 1) := by
  have : ∀ l < 3, ∀ i, ∀ hi : i < 16, evs (15 + 16 * l + i) = (evL l).get ⟨i, hi⟩ :: evs (15 + 16 * l + i + 1) := by decide +kernel
  exact this l hl i hi

/-- How many of a layer's transfers have started when one of them is waited for. -/
def waits : List (Slt × ℕ) :=
  [(.R 0 0, 2), (.R 1 0, 3), (.R 0 1, 4), (.R 1 1, 5), (.R 0 2, 6), (.R 1 2, 7), (.R 0 3, 8), (.R 1 3, 8),
   (.A 0 3, 10), (.A 1 3, 11), (.A 0 2, 12), (.A 1 2, 13), (.A 0 1, 14), (.A 1 1, 15), (.A 0 0, 16), (.A 1 0, 16)]
theorem bel (hl : l < 3) (i : Fin 16) : Below (waits.get i).1 l (15 + 16 * l + (waits.get i).2) := by
  have : ∀ l < 3, ∀ i : Fin 16, ∀ e ∈ evs (15 + 16 * l + (waits.get i).2), lvS (waits.get i).1 l < lvS e.1 e.2 := by decide +kernel
  exact this l hl i

/-! ## The products -/

/-- The accumulator once the half of a band that is sent first is done. -/
def accD (l : ℕ) (b : Fin 2) (c : Dev nD) : ℕ → ℕ → Elt F .f32 → Prop :=
  fun r j v => sendLo b 0 c ≤ r → r < sendLo b 0 c + hsz 0 → 𝒞.A l 0 c r j v

theorem band0 (b : Fin 2) (c : Dev nD) : 512 * b.val ≤ sendLo b 0 c ∧ sendLo b 0 c + 256 ≤ 512 * b.val + 512
    ∧ 512 * b.val ≤ keepLo b 1 c ∧ keepLo b 1 c + 256 ≤ 512 * b.val + 512 := by
  revert b c; decide +kernel

/-- The first product of a band, rounded and sent, -/
theorem wp_dotFirst (hl : l < 3) {b : Fin 2} {n p : ℕ} (he : evs n = (.R b 0, l) :: evs (n + 1))
    {oh : Fin 2 → ℕ} {ih} {ow : Fin 3 → ℕ} {iw} {oa : Fin 2 → ℕ} {ia}
    {h : 0 < (Rows 256).numel} {os : Fin 2 → ℕ} {is is'} {pk} {κ : Fin 35} {d' : Dev nD}
    {hsx : (rowSl mSend 256 os is').view.WordExact} {hdx : (rowSl mStage 256 os is').view.WordExact}
    (hoh : oh = ![sendLo b 0 c, 0]) (how : ow = ![p, 0, 0]) (hoa : oa = ![sendLo b 0 c, 0])
    (hκ : κ = ix (.R b 0)) (hd : d' = peer b 0 c) (hos : os = ![stgLo b 0, 0])
    {k : PUnit → Prog (TpuEff nD τ sig (Elt F) Λ₀ .tc) α} :
    iprop(Recs 𝒞 ∗ Rw c mHact fullShare (512 * b.val) 512 (𝒞.H l c) ∗ Pl c mWout p (k0_pay3 (w2 m l c))
        ∗ Rw c mAcc fullShare (512 * b.val) 512 Any ∗ Rw c mOut fullShare (keepLo b 0 c) (512 >>> 0) Any ∗ RSst b 0 l c ∗ Owe c n)
      ⊢ iprop(((Rw c mHact fullShare (512 * b.val) 512 (𝒞.H l c) ∗ Pl c mWout p (k0_pay3 (w2 m l c))
            ∗ Rw c mAcc fullShare (512 * b.val) 512 (accD 𝒞 l b c) ∗ Rw c mOut fullShare (keepLo b 1 c) (512 >>> 1) Any
            ∗ RSfly b 0 l c ∗ Owe c (n + 1)) -∗ WP c (k ⟨⟩) Φ)
          -∗ WP c (dotPiece (F := F) oh ih ow iw oa ia >>= fun _ => packPiece (F := F) 256 h oa ia os is pk >>= fun _ =>
              sendPiece (F := F) 256 mSend mStage κ d' os is' hsx hdx >>= k) Φ) := by
  have hb := band0 b c
  iintro ⟨#HR, Hh, Hw, Ha, Ho, Hst, Howe⟩ Hk
  iapply (wp_dot 𝒞 (c := c) (LO := 512 * b.val) (N := 512) (LO' := 512 * b.val) (N' := 512) (P := Any) (P' := accD 𝒞 l b c) hl hoh how hoa
    hb.1 hb.2.1 hb.1 hb.2.1 (fun r j v _ hv _ _ => hv) (fun r j v _ _ hn _ h1 h2 => absurd ⟨h1, h2⟩ hn)) $$ [$Hh $Hw $Ha]
  iintro ⟨Hh, Hw, Ha⟩
  iapply (wp_redStart 𝒞 (b := b) (t := 0) (l := l) (P := accD 𝒞 l b c) hl (by decide) he rfl rfl rfl hκ hd hoa hos
    (fun r j v h2 h3 hv => hv h2 h3)) $$ [$HR $Ha $Ho $Hst $Howe]
  iintro ⟨Ha, Ho, Hf, Howe⟩
  iapply Hk
  iframe Hh Hw Ha Ho Hf Howe

/-- and the second. -/
theorem wp_dotSecond (hl : l < 3) {b : Fin 2} {p : ℕ}
    {oh : Fin 2 → ℕ} {ih} {ow : Fin 3 → ℕ} {iw} {oa : Fin 2 → ℕ} {ia}
    (hoh : oh = ![keepLo b 1 c, 0]) (how : ow = ![p, 0, 0]) (hoa : oa = ![keepLo b 1 c, 0])
    {k : PUnit → Prog (TpuEff nD τ sig (Elt F) Λ₀ .tc) α} :
    iprop(Rw c mHact fullShare (512 * b.val) 512 (𝒞.H l c) ∗ Pl c mWout p (k0_pay3 (w2 m l c))
        ∗ Rw c mAcc fullShare (512 * b.val) 512 (accD 𝒞 l b c))
      ⊢ iprop(((Rw c mHact fullShare (512 * b.val) 512 (𝒞.H l c) ∗ Pl c mWout p (k0_pay3 (w2 m l c))
            ∗ Rw c mAcc fullShare (512 * b.val) 512 (accP 𝒞 l b 0 c)) -∗ WP c (k ⟨⟩) Φ)
          -∗ WP c (dotPiece (F := F) oh ih ow iw oa ia >>= k) Φ) := by
  have hb := band0 b c
  have h0 : (keepLo b 1 c = keepLo b 0 c ∧ sendLo b 0 c = keepLo b 0 c + hsz 0)
    ∨ (keepLo b 1 c = keepLo b 0 c + hsz 0 ∧ sendLo b 0 c = keepLo b 0 c) := halves c b (by decide)
  have h2 : hsz 0 = 256 := rfl
  have h3 : keepLo b 0 c = 512 * b.val := rfl
  exact wp_dot 𝒞 (c := c) (LO := 512 * b.val) (N := 512) (LO' := 512 * b.val) (N' := 512) (P := accD 𝒞 l b c) (P' := accP 𝒞 l b 0 c) hl hoh how hoa
    hb.2.2.1 hb.2.2.2 hb.2.2.1 hb.2.2.2 (fun r j v _ hv _ _ => hv)
    (fun r j v hr hr' hn hv _ _ => hv (by omega) (by omega))

/-- The state of band `b` of a layer once its first exchange runs. -/
def Run (l : ℕ) (b : Fin 2) (c : Dev nD) : sProp 𝕄 :=
  iprop(Rw c mAcc fullShare (512 * b.val) 512 (accP 𝒞 l b 0 c) ∗ Rw c mOut fullShare (keepLo b 1 c) (512 >>> 1) Any
    ∗ RSfly b 0 l c ∗ RSst b 1 l c ∗ RSst b 2 l c ∗ RSst b 3 l c)
/-- The state of band `b` between layers, apart from `hact`. -/
def Idle (l : ℕ) (b : Fin 2) (c : Dev nD) : sProp 𝕄 :=
  iprop(Rw c mAcc fullShare (512 * b.val) 512 Any ∗ Rw c mOut fullShare (keepLo b 0 c) (512 >>> 0) Any
    ∗ RSst b 0 l c ∗ RSst b 1 l c ∗ RSst b 2 l c ∗ RSst b 3 l c)
/-- The state of band `b` when its rows are finished. -/
def Red (l : ℕ) (b : Fin 2) (c : Dev nD) : sProp 𝕄 :=
  iprop(Rw c mAcc fullShare (512 * b.val) 512 (accP 𝒞 l b 4 c) ∗ Rw c mOut fullShare (keepLo b 4 c) (512 >>> 4) Any
    ∗ Mid b 0 l c ∗ Mid b 1 l c ∗ Mid b 2 l c ∗ Mid b 3 l c)

theorem wp_layerDot (hl : l < 3) {p : ℕ} {ow : Fin 3 → ℕ} {iw} (how : ow = ![p, 0, 0])
    {k : PUnit → Prog (TpuEff nD τ sig (Elt F) Λ₀ .tc) α} :
    iprop(Recs 𝒞 ∗ Rw c mHact fullShare (512 * (0 : Fin 2).val) 512 (𝒞.H l c) ∗ Rw c mHact fullShare (512 * (1 : Fin 2).val) 512 (𝒞.H l c)
        ∗ Pl c mWout p (k0_pay3 (w2 m l c)) ∗ Idle l 0 c ∗ Idle l 1 c ∗ Owe c (15 + 16 * l))
      ⊢ iprop(((Rw c mHact fullShare (512 * (0 : Fin 2).val) 512 (𝒞.H l c) ∗ Rw c mHact fullShare (512 * (1 : Fin 2).val) 512 (𝒞.H l c)
            ∗ Pl c mWout p (k0_pay3 (w2 m l c)) ∗ Run 𝒞 l 0 c ∗ Run 𝒞 l 1 c ∗ Owe c (15 + 16 * l + 2)) -∗ WP c (k ⟨⟩) Φ)
          -∗ WP c (layerDot (F := F) c (dvOf c) ow iw >>= k) Φ) := by
  unfold layerDot Idle Run
  simp only [bind_assoc]
  iintro ⟨#HR, Hh0, Hh1, Hw, ⟨Ha0, Ho0, Hs0, Hr0⟩, ⟨Ha1, Ho1, Hs1, Hr1⟩, Howe⟩ Hk
  iapply (wp_dotFirst 𝒞 (b := 0) hl (ev hl 0 (by decide)) (off3_0 c) how (off4_0 c) rfl (dvOf_R c 0 0 (by decide) 0 rfl) rfl)
    $$ [$HR $Hh0 $Hw $Ha0 $Ho0 $Hs0 $Howe]
  iintro ⟨Hh0, Hw, Ha0, Ho0, Hf0, Howe⟩
  iapply (wp_dotFirst 𝒞 (b := 1) hl (ev hl 1 (by decide)) (off3_1 c) how (off4_1 c) rfl (dvOf_R c 1 0 (by decide) 1 rfl) rfl)
    $$ [$HR $Hh1 $Hw $Ha1 $Ho1 $Hs1 $Howe]
  iintro ⟨Hh1, Hw, Ha1, Ho1, Hf1, Howe⟩
  iapply (wp_dotSecond 𝒞 (b := 0) hl (off5_0 c) how (off6_0 c)) $$ [$Hh0 $Hw $Ha0]
  iintro ⟨Hh0, Hw, Ha0⟩
  iapply (wp_dotSecond 𝒞 (b := 1) hl (off5_1 c) how (off6_1 c)) $$ [$Hh1 $Hw $Ha1]
  iintro ⟨Hh1, Hw, Ha1⟩
  iapply Hk
  iframe Hh0 Hh1 Hw Ha0 Ho0 Hf0 Hr0 Ha1 Ho1 Hf1 Hr1 Howe

/-! ## Adding up -/

theorem wp_layerReduce (hl : l < 3) {k : PUnit → Prog (TpuEff nD τ sig (Elt F) Λ₀ .tc) α} :
    iprop(Recs 𝒞 ∗ Run 𝒞 l 0 c ∗ Run 𝒞 l 1 c ∗ Owe c (15 + 16 * l + 2))
      ⊢ iprop(((Red 𝒞 l 0 c ∗ Red 𝒞 l 1 c ∗ Owe c (15 + 16 * l + 8)) -∗ WP c (k ⟨⟩) Φ)
          -∗ WP c (layerReduce (F := F) c (dvOf c) >>= k) Φ) := by
  unfold layerReduce Run Red
  simp only [bind_assoc]
  iintro ⟨#HR, ⟨Ha0, Ho0, Hf0, Hs01, Hs02, Hs03⟩, ⟨Ha1, Ho1, Hf1, Hs11, Hs12, Hs13⟩, Howe⟩ Hk
  iapply (wp_redStep 𝒞 (b := 0) (t := 0) hl (by decide) (bel hl 0) (ev hl 2 (by decide)) rfl rfl (off6_0 c) rfl
    rfl rfl (dvOf_R c 0 1 (by decide) 2 rfl) (off7_0 c) rfl) $$ [$HR $Ha0 $Ho0 $Hf0 $Hs01 $Howe]
  iintro ⟨Ha0, Ho0, Hm00, Hf0, Howe⟩
  iapply (wp_redStep 𝒞 (b := 1) (t := 0) hl (by decide) (bel hl 1) (ev hl 3 (by decide)) rfl rfl (off6_1 c) rfl
    rfl rfl (dvOf_R c 1 1 (by decide) 3 rfl) (off7_1 c) rfl) $$ [$HR $Ha1 $Ho1 $Hf1 $Hs11 $Howe]
  iintro ⟨Ha1, Ho1, Hm10, Hf1, Howe⟩
  iapply (wp_redStep 𝒞 (b := 0) (t := 1) hl (by decide) (bel hl 2) (ev hl 4 (by decide)) rfl rfl (off8_0 c) rfl
    rfl rfl (dvOf_R c 0 2 (by decide) 4 rfl) (off9_0 c) rfl) $$ [$HR $Ha0 $Ho0 $Hf0 $Hs02 $Howe]
  iintro ⟨Ha0, Ho0, Hm01, Hf0, Howe⟩
  iapply (wp_redStep 𝒞 (b := 1) (t := 1) hl (by decide) (bel hl 3) (ev hl 5 (by decide)) rfl rfl (off8_1 c) rfl
    rfl rfl (dvOf_R c 1 2 (by decide) 5 rfl) (off9_1 c) rfl) $$ [$HR $Ha1 $Ho1 $Hf1 $Hs12 $Howe]
  iintro ⟨Ha1, Ho1, Hm11, Hf1, Howe⟩
  iapply (wp_redStep 𝒞 (b := 0) (t := 2) hl (by decide) (bel hl 4) (ev hl 6 (by decide)) rfl rfl (off10_0 c) rfl
    rfl rfl (dvOf_R c 0 3 (by decide) 6 rfl) (off11_0 c) rfl) $$ [$HR $Ha0 $Ho0 $Hf0 $Hs03 $Howe]
  iintro ⟨Ha0, Ho0, Hm02, Hf0, Howe⟩
  iapply (wp_redStep 𝒞 (b := 1) (t := 2) hl (by decide) (bel hl 5) (ev hl 7 (by decide)) rfl rfl (off10_1 c) rfl
    rfl rfl (dvOf_R c 1 3 (by decide) 7 rfl) (off11_1 c) rfl) $$ [$HR $Ha1 $Ho1 $Hf1 $Hs13 $Howe]
  iintro ⟨Ha1, Ho1, Hm12, Hf1, Howe⟩
  have last : ∀ (b : Fin 2), ∀ r, ∀ j v, keepLo b 4 c ≤ r → r < keepLo b 4 c + hsz 3 → accP 𝒞 l b 3 c r j v → 𝒞.A l 3 c r j v := by
    intro b r j v h1 h2 hv
    have h3 : (keepLo b 4 c = keepLo b 3 c ∧ sendLo b 3 c = keepLo b 3 c + hsz 3)
      ∨ (keepLo b 4 c = keepLo b 3 c + hsz 3 ∧ sendLo b 3 c = keepLo b 3 c) := halves c b (by decide)
    have h4 : hsz 3 = 32 := rfl
    have h5 : 512 >>> 3 = 64 := rfl
    exact hv (by omega) (by omega)
  iapply (wp_redEnd 𝒞 (b := 0) (t := 3) (P := accP 𝒞 l 0 3 c) hl (by decide) (bel hl 6) rfl rfl rfl rfl (off12_0 c) rfl (last 0)) $$ [$HR $Ha0 $Hf0 $Howe]
  iintro ⟨Ha0, Hm03, Howe⟩
  iapply (wp_redEnd 𝒞 (b := 1) (t := 3) (P := accP 𝒞 l 1 3 c) hl (by decide) (bel hl 7) rfl rfl rfl rfl (off12_1 c) rfl (last 1)) $$ [$HR $Ha1 $Hf1 $Howe]
  iintro ⟨Ha1, Hm13, Howe⟩
  iapply Hk
  iframe Ha0 Ho0 Hm00 Hm01 Hm02 Hm03 Ha1 Ho1 Hm10 Hm11 Hm12 Hm13 Howe

/-! ## Gathering -/

/-- Where the rows of a piece of what has been gathered start, and how many they are. -/
def pcLo (c : Dev nD) : Fin 10 → ℕ
  | 0 => keepLo 0 4 c
  | 1 => keepLo 1 4 c
  | 2 => sendLo 0 3 c
  | 3 => sendLo 1 3 c
  | 4 => sendLo 0 2 c
  | 5 => sendLo 1 2 c
  | 6 => sendLo 0 1 c
  | 7 => sendLo 1 1 c
  | 8 => sendLo 0 0 c
  | _ => sendLo 1 0 c
def pcN : Fin 10 → ℕ
  | 0 => 32
  | 1 => 32
  | 2 => 32
  | 3 => 32
  | 4 => 64
  | 5 => 64
  | 6 => 128
  | 7 => 128
  | 8 => 256
  | _ => 256

theorem pc_in (c : Dev nD) : ∀ i : Fin 10, ∀ t, t < 5 → t + i.val / 2 ≤ 4 →
    keepLo ⟨i.val % 2, Nat.mod_lt _ (by decide)⟩ t c ≤ pcLo c i ∧ pcLo c i + pcN i ≤ keepLo ⟨i.val % 2, Nat.mod_lt _ (by decide)⟩ t c + 512 >>> t := by
  have : ∀ c, ∀ i : Fin 10, ∀ t < 5, t + i.val / 2 ≤ 4 →
    keepLo ⟨i.val % 2, Nat.mod_lt _ (by decide)⟩ t c ≤ pcLo c i ∧ pcLo c i + pcN i ≤ keepLo ⟨i.val % 2, Nat.mod_lt _ (by decide)⟩ t c + 512 >>> t := by
    decide +kernel
  exact this c

theorem wp_layerGather (hl : l < 3) {cs : Fin 10 → Prog (TpuEff nD τ sig (Elt F) Λ₀ .tc) PUnit} {W : sProp 𝕄} {T : Fin 2 → ℕ → sProp 𝕄}
    (hc : ∀ (i : Fin 10) (q : PosShare TreeShare) (LO N : ℕ) (k : PUnit → Prog (TpuEff nD τ sig (Elt F) Λ₀ .tc) α),
      LO ≤ pcLo c i → pcLo c i + pcN i ≤ LO + N →
      iprop(Rw c mOut q LO N (𝒞.X (l + 1)) ∗ W ∗ T ⟨i.val % 2, Nat.mod_lt _ (by decide)⟩ (i.val / 2))
        ⊢ iprop(((Rw c mOut q LO N (𝒞.X (l + 1)) ∗ W ∗ T ⟨i.val % 2, Nat.mod_lt _ (by decide)⟩ (i.val / 2 + 1)) -∗ WP c (k ⟨⟩) Φ)
            -∗ WP c (cs i >>= k) Φ))
    {k : PUnit → Prog (TpuEff nD τ sig (Elt F) Λ₀ .tc) α} :
    iprop(Recs 𝒞 ∗ Red 𝒞 l 0 c ∗ Red 𝒞 l 1 c ∗ W ∗ T 0 0 ∗ T 1 0 ∗ Owe c (15 + 16 * l + 8))
      ⊢ iprop(((Idle (l + 1) 0 c ∗ Idle (l + 1) 1 c ∗ W ∗ T 0 5 ∗ T 1 5 ∗ Owe c (15 + 16 * l + 16)) -∗ WP c (k ⟨⟩) Φ)
          -∗ WP c (layerGather (F := F) c (dvOf c) cs >>= k) Φ) := by
  unfold layerGather Red Idle
  simp only [bind_assoc]
  have done : ∀ b : Fin 2, 512 * b.val ≤ keepLo b 4 c ∧ keepLo b 4 c + 32 ≤ 512 * b.val + 512 := fun b => keep_band c b (t := 4) (by decide)
  have use : ∀ i : Fin 10, ∀ t, t < 5 → t + i.val / 2 ≤ 4 → _ := pc_in c
  iintro ⟨#HR, ⟨Ha0, Ho0, Hm00, Hm01, Hm02, Hm03⟩, ⟨Ha1, Ho1, Hm10, Hm11, Hm12, Hm13⟩, HW, HT0, HT1, Howe⟩ Hk
  iapply (wp_done 𝒞 (b := 0) (LO := 512 * (0 : Fin 2).val) (N := 512) (P := accP 𝒞 l 0 4 c) (Q := Any) hl (off12_0 c) (done 0).1 (done 0).2
    (fun r j v h1 h2 hv => hv h1 h2)) $$ [$Ha0 $Ho0]
  iintro ⟨Ha0, Ho0⟩
  iapply (wp_gathStart 𝒞 (b := 0) (t := 3) hl (by decide) (ev hl 8 (by decide)) rfl rfl rfl rfl (dvOf_A c 0 3 (by decide) 8 rfl) (off13_0 c)) $$ [$HR $Ho0 $Hm03 $Howe]
  iintro ⟨Ho0, Hf0, Howe⟩
  iapply (wp_done 𝒞 (b := 1) (LO := 512 * (1 : Fin 2).val) (N := 512) (P := accP 𝒞 l 1 4 c) (Q := Any) hl (off12_1 c) (done 1).1 (done 1).2
    (fun r j v h1 h2 hv => hv h1 h2)) $$ [$Ha1 $Ho1]
  iintro ⟨Ha1, Ho1⟩
  iapply (wp_gathStart 𝒞 (b := 1) (t := 3) hl (by decide) (ev hl 9 (by decide)) rfl rfl rfl rfl (dvOf_A c 1 3 (by decide) 9 rfl) (off13_1 c)) $$ [$HR $Ho1 $Hm13 $Howe]
  iintro ⟨Ho1, Hf1, Howe⟩
  iapply (wp_gathStep 𝒞 (b := 0) (t := 2) hl (by decide) (bel hl 8) (ev hl 10 (by decide)) rfl rfl rfl rfl (dvOf_A c 0 2 (by decide) 10 rfl) (off14_0 c)) $$ [$HR $Ho0 $Hf0 $Hm02 $Howe]
  iintro ⟨Ho0, Hs03, Hf0, Howe⟩
  iapply (wp_gathStep 𝒞 (b := 1) (t := 2) hl (by decide) (bel hl 9) (ev hl 11 (by decide)) rfl rfl rfl rfl (dvOf_A c 1 2 (by decide) 11 rfl) (off14_1 c)) $$ [$HR $Ho1 $Hf1 $Hm12 $Howe]
  iintro ⟨Ho1, Hs13, Hf1, Howe⟩
  iapply (hc 0 fullShare.right _ _ _ (use 0 3 (by decide) (by decide)).1 (use 0 3 (by decide) (by decide)).2) $$ [$Ho0 $HW $HT0]
  iintro ⟨Ho0, HW, HT0⟩
  iapply (hc 1 fullShare.right _ _ _ (use 1 3 (by decide) (by decide)).1 (use 1 3 (by decide) (by decide)).2) $$ [$Ho1 $HW $HT1]
  iintro ⟨Ho1, HW, HT1⟩
  iapply (wp_gathStep 𝒞 (b := 0) (t := 1) hl (by decide) (bel hl 10) (ev hl 12 (by decide)) rfl rfl rfl rfl (dvOf_A c 0 1 (by decide) 12 rfl) (off16_0 c)) $$ [$HR $Ho0 $Hf0 $Hm01 $Howe]
  iintro ⟨Ho0, Hs02, Hf0, Howe⟩
  iapply (wp_gathStep 𝒞 (b := 1) (t := 1) hl (by decide) (bel hl 11) (ev hl 13 (by decide)) rfl rfl rfl rfl (dvOf_A c 1 1 (by decide) 13 rfl) (off16_1 c)) $$ [$HR $Ho1 $Hf1 $Hm11 $Howe]
  iintro ⟨Ho1, Hs12, Hf1, Howe⟩
  iapply (hc 2 fullShare.right _ _ _ (use 2 2 (by decide) (by decide)).1 (use 2 2 (by decide) (by decide)).2) $$ [$Ho0 $HW $HT0]
  iintro ⟨Ho0, HW, HT0⟩
  iapply (hc 3 fullShare.right _ _ _ (use 3 2 (by decide) (by decide)).1 (use 3 2 (by decide) (by decide)).2) $$ [$Ho1 $HW $HT1]
  iintro ⟨Ho1, HW, HT1⟩
  iapply (wp_gathStep 𝒞 (b := 0) (t := 0) hl (by decide) (bel hl 12) (ev hl 14 (by decide)) rfl rfl rfl rfl (dvOf_A c 0 0 (by decide) 14 rfl) (off19_0 c)) $$ [$HR $Ho0 $Hf0 $Hm00 $Howe]
  iintro ⟨Ho0, Hs01, Hf0, Howe⟩
  iapply (wp_gathStep 𝒞 (b := 1) (t := 0) hl (by decide) (bel hl 13) (ev hl 15 (by decide)) rfl rfl rfl rfl (dvOf_A c 1 0 (by decide) 15 rfl) (off19_1 c)) $$ [$HR $Ho1 $Hf1 $Hm10 $Howe]
  iintro ⟨Ho1, Hs11, Hf1, Howe⟩
  iapply (hc 4 fullShare.right _ _ _ (use 4 1 (by decide) (by decide)).1 (use 4 1 (by decide) (by decide)).2) $$ [$Ho0 $HW $HT0]
  iintro ⟨Ho0, HW, HT0⟩
  iapply (hc 5 fullShare.right _ _ _ (use 5 1 (by decide) (by decide)).1 (use 5 1 (by decide) (by decide)).2) $$ [$Ho1 $HW $HT1]
  iintro ⟨Ho1, HW, HT1⟩
  iapply (wp_gathEnd 𝒞 (b := 0) (t := 0) hl (by decide) (bel hl 14) rfl rfl rfl rfl) $$ [$HR $Ho0 $Hf0 $Howe]
  iintro ⟨Ho0, Hs00, Howe⟩
  iapply (wp_gathEnd 𝒞 (b := 1) (t := 0) hl (by decide) (bel hl 15) rfl rfl rfl rfl) $$ [$HR $Ho1 $Hf1 $Howe]
  iintro ⟨Ho1, Hs10, Howe⟩
  iapply (hc 6 fullShare _ _ _ (use 6 0 (by decide) (by decide)).1 (use 6 0 (by decide) (by decide)).2) $$ [$Ho0 $HW $HT0]
  iintro ⟨Ho0, HW, HT0⟩
  iapply (hc 7 fullShare _ _ _ (use 7 0 (by decide) (by decide)).1 (use 7 0 (by decide) (by decide)).2) $$ [$Ho1 $HW $HT1]
  iintro ⟨Ho1, HW, HT1⟩
  iapply (hc 8 fullShare _ _ _ (use 8 0 (by decide) (by decide)).1 (use 8 0 (by decide) (by decide)).2) $$ [$Ho0 $HW $HT0]
  iintro ⟨Ho0, HW, HT0⟩
  iapply (hc 9 fullShare _ _ _ (use 9 0 (by decide) (by decide)).1 (use 9 0 (by decide) (by decide)).2) $$ [$Ho1 $HW $HT1]
  iintro ⟨Ho1, HW, HT1⟩
  iapply Hk
  ihave Ha0 := (rw_any (c := c)) $$ Ha0
  ihave Ha1 := (rw_any (c := c)) $$ Ha1
  ihave Ho0 := (rw_any (c := c)) $$ Ho0
  ihave Ho1 := (rw_any (c := c)) $$ Ho1
  iframe Ha0 Ho0 Hs00 Hs01 Hs02 Hs03 Ha1 Ho1 Hs10 Hs11 Hs12 Hs13 HW HT0 HT1 Howe

end Cert.KernelIdeal.Gen

end
-- ==== Proof.Use.lean ====
/- What is done with the gathered rows: the next layer's `hact`, or the result. -/
module

public import proofs.«01_k».proof.Proof.Layers

@[expose] public section

set_option maxRecDepth 65536

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig ℕ (Elt F) ℕ UU ℕ

variable {m : (ℓ : Loc nD τ sig) → Buf (Elt F) ℓ} (𝒞 : Contract (F := F) m)
variable {α : Type} {Φ : α → sProp (MT nD τ sig ℕ (Elt F) ℕ UU ℕ)} {c : Dev nD}

/-- The band a piece is in. -/
abbrev pcB (i : Fin 10) : Fin 2 := ⟨i.val % 2, Nat.mod_lt _ (by decide)⟩

/-- Of band `b`, the rows of the first `i` pieces meet `P`. -/
def seenP {e : EltTy} (P : ℕ → ℕ → Elt F e → Prop) (c : Dev nD) (b : Fin 2) (i : ℕ) : ℕ → ℕ → Elt F e → Prop :=
  fun r j v => i ≠ 0 → keepLo b (5 - i) c ≤ r → r < keepLo b (5 - i) c + 512 >>> (5 - i) → P r j v

theorem pc_geo (c : Dev nD) (i : Fin 10) : 512 * (pcB i).val ≤ pcLo c i ∧ pcLo c i + pcN i ≤ 512 * (pcB i).val + 512 := by
  revert c i; decide +kernel

theorem pc_next (c : Dev nD) (i : Fin 10) (r : ℕ) (hn : ¬ (pcLo c i ≤ r ∧ r < pcLo c i + pcN i))
    (h1 : keepLo (pcB i) (5 - (i.val / 2 + 1)) c ≤ r) (h2 : r < keepLo (pcB i) (5 - (i.val / 2 + 1)) c + 512 >>> (5 - (i.val / 2 + 1))) :
    i.val / 2 ≠ 0 ∧ keepLo (pcB i) (5 - i.val / 2) c ≤ r ∧ r < keepLo (pcB i) (5 - i.val / 2) c + 512 >>> (5 - i.val / 2) := by
  have : ∀ (c : Dev nD) (i : Fin 10), (i.val / 2 = 0 ∧ keepLo (pcB i) (5 - (i.val / 2 + 1)) c = pcLo c i ∧ 512 >>> (5 - (i.val / 2 + 1)) = pcN i)
      ∨ (i.val / 2 ≠ 0 ∧ 512 >>> (5 - i.val / 2) = pcN i ∧ 512 >>> (5 - (i.val / 2 + 1)) = pcN i + pcN i ∧
        ((keepLo (pcB i) (5 - i.val / 2) c = keepLo (pcB i) (5 - (i.val / 2 + 1)) c ∧ pcLo c i = keepLo (pcB i) (5 - (i.val / 2 + 1)) c + pcN i)
          ∨ (keepLo (pcB i) (5 - i.val / 2) c = keepLo (pcB i) (5 - (i.val / 2 + 1)) c + pcN i ∧ pcLo c i = keepLo (pcB i) (5 - (i.val / 2 + 1)) c))) := by
    decide +kernel
  rcases this c i with ⟨h3, h4, h5⟩ | ⟨h3, h4, h5, h6⟩
  · rw [h4] at h1 h2; rw [h5] at h2; exact absurd ⟨h1, h2⟩ hn
  · rw [h5] at h2
    refine ⟨h3, ?_⟩
    rw [h4]
    omega

variable {l : ℕ}

/-- A piece of the gathered rows goes into the next layer's `hact`. -/
theorem use_hact (hl : l < 2) {p : ℕ} {ow : Fin 3 → ℕ} {iw} (how : ow = ![p, 0, 0])
    (i : Fin 10) (q : PosShare TreeShare) (LO N : ℕ) (k : PUnit → Prog (TpuEff nD τ sig (Elt F) Λ₀ .tc) α)
    (h1 : LO ≤ pcLo c i) (h2 : pcLo c i + pcN i ≤ LO + N) :
    iprop(Rw c mOut q LO N (𝒞.X (l + 1)) ∗ Pl c mWin p (k0_pay2 (w1 m (l + 1) c))
        ∗ Rw c mHact fullShare (512 * (pcB i).val) 512 (seenP (𝒞.H (l + 1) c) c (pcB i) (i.val / 2)))
      ⊢ iprop(((Rw c mOut q LO N (𝒞.X (l + 1)) ∗ Pl c mWin p (k0_pay2 (w1 m (l + 1) c))
            ∗ Rw c mHact fullShare (512 * (pcB i).val) 512 (seenP (𝒞.H (l + 1) c) c (pcB i) (i.val / 2 + 1))) -∗ WP c (k ⟨⟩) Φ)
          -∗ WP c (toHact (F := F) c ow iw i >>= k) Φ) := by
  have hg := pc_geo c i
  have hnew : ∀ r j v, 𝒞.H (l + 1) c r j v → seenP (𝒞.H (l + 1) c) c (pcB i) (i.val / 2 + 1) r j v := fun r j v hv _ _ _ => hv
  have hold : ∀ r j v, 512 * (pcB i).val ≤ r → r < 512 * (pcB i).val + 512 → ¬ (pcLo c i ≤ r ∧ r < pcLo c i + pcN i) →
      seenP (𝒞.H (l + 1) c) c (pcB i) (i.val / 2) r j v → seenP (𝒞.H (l + 1) c) c (pcB i) (i.val / 2 + 1) r j v := fun r j v _ _ hn hv _ h3 h4 => by
    obtain ⟨h5, h6, h7⟩ := pc_next c i r hn h3 h4
    exact hv h5 h6 h7
  match i, h1, h2, hg, hnew, hold with
  | 0, h1, h2, hg, hnew, hold => exact wp_cons 𝒞 hl (n := 32) (pk := (Memref.isWhole_whole _).storeExact_slice rfl _ (k0_off15_packedbf16 c 0)) (off12_0 c) how (off15_0 c) h1 h2 hg.1 hg.2 hnew hold
  | 1, h1, h2, hg, hnew, hold => exact wp_cons 𝒞 hl (n := 32) (pk := (Memref.isWhole_whole _).storeExact_slice rfl _ (k0_off15_packedbf16 c 1)) (off12_1 c) how (off15_1 c) h1 h2 hg.1 hg.2 hnew hold
  | 2, h1, h2, hg, hnew, hold => exact wp_cons 𝒞 hl (n := 32) (pk := (Memref.isWhole_whole _).storeExact_slice rfl _ (k0_off18_packedbf16 c 0)) (off17_0 c) how (off18_0 c) h1 h2 hg.1 hg.2 hnew hold
  | 3, h1, h2, hg, hnew, hold => exact wp_cons 𝒞 hl (n := 32) (pk := (Memref.isWhole_whole _).storeExact_slice rfl _ (k0_off18_packedbf16 c 1)) (off17_1 c) how (off18_1 c) h1 h2 hg.1 hg.2 hnew hold
  | 4, h1, h2, hg, hnew, hold => exact wp_cons 𝒞 hl (n := 64) (pk := (Memref.isWhole_whole _).storeExact_slice rfl _ (k0_off21_packedbf16 c 0)) (off20_0 c) how (off21_0 c) h1 h2 hg.1 hg.2 hnew hold
  | 5, h1, h2, hg, hnew, hold => exact wp_cons 𝒞 hl (n := 64) (pk := (Memref.isWhole_whole _).storeExact_slice rfl _ (k0_off21_packedbf16 c 1)) (off20_1 c) how (off21_1 c) h1 h2 hg.1 hg.2 hnew hold
  | 6, h1, h2, hg, hnew, hold => exact wp_cons 𝒞 hl (n := 128) (pk := (Memref.isWhole_whole _).storeExact_slice rfl _ (k0_off23_packedbf16 c 0)) (off22_0 c) how (off23_0 c) h1 h2 hg.1 hg.2 hnew hold
  | 7, h1, h2, hg, hnew, hold => exact wp_cons 𝒞 hl (n := 128) (pk := (Memref.isWhole_whole _).storeExact_slice rfl _ (k0_off23_packedbf16 c 1)) (off22_1 c) how (off23_1 c) h1 h2 hg.1 hg.2 hnew hold
  | 8, h1, h2, hg, hnew, hold => exact wp_cons 𝒞 hl (n := 256) (pk := (Memref.isWhole_whole _).storeExact_slice rfl _ (k0_off25_packedbf16 c 0)) (off24_0 c) how (off25_0 c) h1 h2 hg.1 hg.2 hnew hold
  | 9, h1, h2, hg, hnew, hold => exact wp_cons 𝒞 hl (n := 256) (pk := (Memref.isWhole_whole _).storeExact_slice rfl _ (k0_off25_packedbf16 c 1)) (off24_1 c) how (off25_1 c) h1 h2 hg.1 hg.2 hnew hold

/-- A piece of the gathered rows of the last layer goes into the result. -/
theorem use_out (i : Fin 10) (q : PosShare TreeShare) (LO N : ℕ) (k : PUnit → Prog (TpuEff nD τ sig (Elt F) Λ₀ .tc) α)
    (h1 : LO ≤ pcLo c i) (h2 : pcLo c i + pcN i ≤ LO + N) :
    iprop(Rw c mOut q LO N (𝒞.X (2 + 1)) ∗ iprop(emp) ∗ Rw c mO fullShare (512 * (pcB i).val) 512 (seenP 𝒞.O c (pcB i) (i.val / 2)))
      ⊢ iprop(((Rw c mOut q LO N (𝒞.X (2 + 1)) ∗ iprop(emp) ∗ Rw c mO fullShare (512 * (pcB i).val) 512 (seenP 𝒞.O c (pcB i) (i.val / 2 + 1)))
            -∗ WP c (k ⟨⟩) Φ)
          -∗ WP c (toOut (F := F) c i >>= k) Φ) := by
  have hg := pc_geo c i
  have hnew : ∀ r j v, 𝒞.O r j v → seenP 𝒞.O c (pcB i) (i.val / 2 + 1) r j v := fun r j v hv _ _ _ => hv
  have hold : ∀ r j v, 512 * (pcB i).val ≤ r → r < 512 * (pcB i).val + 512 → ¬ (pcLo c i ≤ r ∧ r < pcLo c i + pcN i) →
      seenP 𝒞.O c (pcB i) (i.val / 2) r j v → seenP 𝒞.O c (pcB i) (i.val / 2 + 1) r j v := fun r j v _ _ hn hv _ h3 h4 => by
    obtain ⟨h5, h6, h7⟩ := pc_next c i r hn h3 h4
    exact hv h5 h6 h7
  have key : iprop(Rw c mOut q LO N (𝒞.X 3) ∗ Rw c mO fullShare (512 * (pcB i).val) 512 (seenP 𝒞.O c (pcB i) (i.val / 2)))
      ⊢ iprop(((Rw c mOut q LO N (𝒞.X 3) ∗ Rw c mO fullShare (512 * (pcB i).val) 512 (seenP 𝒞.O c (pcB i) (i.val / 2 + 1)))
            -∗ WP c (k ⟨⟩) Φ)
          -∗ WP c (toOut (F := F) c i >>= k) Φ) := by
    match i, h1, h2, hg, hnew, hold with
    | 0, h1, h2, hg, hnew, hold => exact wp_out 𝒞 (n := 32) (off12_0 c) h1 h2 hg.1 hg.2 hnew hold
    | 1, h1, h2, hg, hnew, hold => exact wp_out 𝒞 (n := 32) (off12_1 c) h1 h2 hg.1 hg.2 hnew hold
    | 2, h1, h2, hg, hnew, hold => exact wp_out 𝒞 (n := 32) (off17_0 c) h1 h2 hg.1 hg.2 hnew hold
    | 3, h1, h2, hg, hnew, hold => exact wp_out 𝒞 (n := 32) (off17_1 c) h1 h2 hg.1 hg.2 hnew hold
    | 4, h1, h2, hg, hnew, hold => exact wp_out 𝒞 (n := 64) (off20_0 c) h1 h2 hg.1 hg.2 hnew hold
    | 5, h1, h2, hg, hnew, hold => exact wp_out 𝒞 (n := 64) (off20_1 c) h1 h2 hg.1 hg.2 hnew hold
    | 6, h1, h2, hg, hnew, hold => exact wp_out 𝒞 (n := 128) (off22_0 c) h1 h2 hg.1 hg.2 hnew hold
    | 7, h1, h2, hg, hnew, hold => exact wp_out 𝒞 (n := 128) (off22_1 c) h1 h2 hg.1 hg.2 hnew hold
    | 8, h1, h2, hg, hnew, hold => exact wp_out 𝒞 (n := 256) (off24_0 c) h1 h2 hg.1 hg.2 hnew hold
    | 9, h1, h2, hg, hnew, hold => exact wp_out 𝒞 (n := 256) (off24_1 c) h1 h2 hg.1 hg.2 hnew hold
  iintro ⟨Hx, -, Ho⟩ Hk
  iapply key $$ [$Hx $Ho]
  iintro ⟨Hx, Ho⟩
  iapply Hk
  iframe Hx Ho

/-! ## A layer from `hact` to the next, and to the result -/

omit [FloatOps F] in
theorem seen_start {w : ℕ} {e : EltTy} {mm : Memref sig .tc .vmem (Tall w) e} {P P' : ℕ → ℕ → Elt F e → Prop} {b : Fin 2} :
    Rw c mm fullShare (512 * b.val) 512 P' ⊢ Rw c mm fullShare (512 * b.val) 512 (seenP P c b 0) :=
  rw_mono fun r j v _ _ _ h => absurd rfl h
omit [FloatOps F] in
theorem seen_end {w : ℕ} {e : EltTy} {mm : Memref sig .tc .vmem (Tall w) e} {P : ℕ → ℕ → Elt F e → Prop} {b : Fin 2} :
    Rw c mm fullShare (512 * b.val) 512 (seenP P c b 5) ⊢ Rw c mm fullShare (512 * b.val) 512 P :=
  rw_mono fun r j v h1 h2 h => h (by decide) h1 h2

theorem wp_gatherHact (hl : l < 2) {p : ℕ} {ow : Fin 3 → ℕ} {iw} (how : ow = ![p, 0, 0])
    {k : PUnit → Prog (TpuEff nD τ sig (Elt F) Λ₀ .tc) α} :
    iprop(Recs 𝒞 ∗ Red 𝒞 l 0 c ∗ Red 𝒞 l 1 c ∗ Pl c mWin p (k0_pay2 (w1 m (l + 1) c))
        ∗ Rw c mHact fullShare (512 * (0 : Fin 2).val) 512 (𝒞.H l c) ∗ Rw c mHact fullShare (512 * (1 : Fin 2).val) 512 (𝒞.H l c)
        ∗ Owe c (15 + 16 * l + 8))
      ⊢ iprop(((Idle (l + 1) 0 c ∗ Idle (l + 1) 1 c ∗ Pl c mWin p (k0_pay2 (w1 m (l + 1) c))
            ∗ Rw c mHact fullShare (512 * (0 : Fin 2).val) 512 (𝒞.H (l + 1) c) ∗ Rw c mHact fullShare (512 * (1 : Fin 2).val) 512 (𝒞.H (l + 1) c)
            ∗ Owe c (15 + 16 * (l + 1))) -∗ WP c (k ⟨⟩) Φ)
          -∗ WP c (layerGather (F := F) c (dvOf c) (toHact (F := F) c ow iw) >>= k) Φ) := by
  iintro ⟨#HR, H0, H1, HW, HT0, HT1, Howe⟩ Hk
  ihave HT0 := (seen_start (P := 𝒞.H (l + 1) c)) $$ HT0
  ihave HT1 := (seen_start (P := 𝒞.H (l + 1) c)) $$ HT1
  iapply (wp_layerGather 𝒞 (l := l) (by omega) (W := Pl c mWin p (k0_pay2 (w1 m (l + 1) c)))
    (T := fun b i => Rw c mHact fullShare (512 * b.val) 512 (seenP (𝒞.H (l + 1) c) c b i))
    (fun i q LO N k h1 h2 => use_hact 𝒞 hl how i q LO N k h1 h2)) $$ [$HR $H0 $H1 $HW $HT0 $HT1 $Howe]
  iintro ⟨H0, H1, HW, HT0, HT1, Howe⟩
  iapply Hk
  ihave HT0 := (seen_end (P := 𝒞.H (l + 1) c)) $$ HT0
  ihave HT1 := (seen_end (P := 𝒞.H (l + 1) c)) $$ HT1
  rw [show 15 + 16 * (l + 1) = 15 + 16 * l + 16 by omega]
  iframe H0 H1 HW HT0 HT1 Howe

theorem wp_gatherOut {P : ℕ → ℕ → Elt F .f32 → Prop} {k : PUnit → Prog (TpuEff nD τ sig (Elt F) Λ₀ .tc) α} :
    iprop(Recs 𝒞 ∗ Red 𝒞 2 0 c ∗ Red 𝒞 2 1 c
        ∗ Rw c mO fullShare (512 * (0 : Fin 2).val) 512 P ∗ Rw c mO fullShare (512 * (1 : Fin 2).val) 512 P
        ∗ Owe c (15 + 16 * 2 + 8))
      ⊢ iprop(((Idle 3 0 c ∗ Idle 3 1 c
            ∗ Rw c mO fullShare (512 * (0 : Fin 2).val) 512 𝒞.O ∗ Rw c mO fullShare (512 * (1 : Fin 2).val) 512 𝒞.O
            ∗ Owe c 63) -∗ WP c (k ⟨⟩) Φ)
          -∗ WP c (layerGather (F := F) c (dvOf c) (toOut (F := F) c) >>= k) Φ) := by
  iintro ⟨#HR, H0, H1, HT0, HT1, Howe⟩ Hk
  ihave HT0 := (seen_start (P := 𝒞.O)) $$ HT0
  ihave HT1 := (seen_start (P := 𝒞.O)) $$ HT1
  iapply (wp_layerGather 𝒞 (l := 2) (by decide) (W := iprop(emp))
    (T := fun b i => Rw c mO fullShare (512 * b.val) 512 (seenP 𝒞.O c b i))
    (fun i q LO N k h1 h2 => use_out 𝒞 i q LO N k h1 h2)) $$ [$HR $H0 $H1 $HT0 $HT1 $Howe]
  iintro ⟨H0, H1, -, HT0, HT1, Howe⟩
  iapply Hk
  ihave HT0 := (seen_end (P := 𝒞.O)) $$ HT0
  ihave HT1 := (seen_end (P := 𝒞.O)) $$ HT1
  iframe H0 H1 HT0 HT1 Howe

end Cert.KernelIdeal.Gen

end
-- ==== Proof.Weights.lean ====
/- A layer's weights: the copies that bring them in, and their rounding into the layer's buffers. -/
module

public import proofs.«01_k».proof.Proof.Local

@[expose] public section

set_option maxRecDepth 65536

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig ℕ (Elt F) ℕ UU ℕ

variable {m : (ℓ : Loc nD τ sig) → Buf (Elt F) ℓ} (𝒞 : Contract (F := F) m)
variable {α : Type} {Φ : α → sProp (MT nD τ sig ℕ (Elt F) ℕ UU ℕ)} {c : Dev nD}

/-! ## The copies' cells -/

/-- Between rounds, -/
def CSl (k : Fin 2) (r : ℕ) (c : Dev nD) : sProp 𝕄 :=
  iprop(atPos ER (gC k c) r ∅ 0 ∗ reached ER (gC k c) r ∗ bigSep (Finset.Ico r 3) fun i => dutyTok ER (gC k c) i 0)
/-- and while round `r` runs. -/
def CFly (k : Fin 2) (r : ℕ) (c : Dev nD) : sProp 𝕄 :=
  iprop(atPos ER (gC k c) r ∅ 0 ∗ cred (tallyAt (gC k c) r (NC k)) ∗ bigSep (Finset.Ico (r + 1) 3) fun i => dutyTok ER (gC k c) i 0)

/-- An argument, at the contents it has at launch. -/
abbrev argAt (k : Fin 2) (r : ℕ) (c : Dev nD) : sProp 𝕄 :=
  iprop(((c : Thread nD τ).loc (wRef k r)) ↦{fullShare} m ((c : Thread nD τ).loc (wRef k r)))

omit [FloatOps F] in
theorem ctoks_step {k : Fin 2} {r : ℕ} (hr : r < 3) : (bigSep (Finset.Ico r 3) fun i => (dutyTok ER (gC k c) i 0 : sProp 𝕄))
    ⊢ iprop(dutyTok ER (gC k c) r 0 ∗ bigSep (Finset.Ico (r + 1) 3) fun i => dutyTok ER (gC k c) i 0) := by
  rw [show Finset.Ico r 3 = insert r (Finset.Ico (r + 1) 3) from by
      ext i; simp only [Finset.mem_Ico, Finset.mem_insert]; omega, bigSep_insert (by simp)]
  exact BI.Entails.refl _

/-- A copy starts. -/
theorem wp_copyC {κ : Fin 2} {r : ℕ} (hr : r < 3) {s : Shape} {e : EltTy} {src : Memref sig .tc .hbm s e} {dst : Memref sig .tc .vmem s e}
    {hs : src.view.WordExact} {hd : dst.view.WordExact} {ht} {fs : Buf (Elt F) (src.view.loc (c : Thread nD τ))}
    (hN : dst.view.amount (.dma (sCopy κ)) = NC κ)
    (hsrc : (argAt (m := m) κ r c : sProp 𝕄) ⊢ (src.view.loc (c : Thread nD τ) ↦[src.view.set]{fullShare} fs))
    (hpay : ∀ fd, iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ copyPay (m := m) κ r c)
    {k : PUnit → Prog (TpuEff nD τ sig (Elt F) Λ₀ .tc) α} :
    iprop(Recs 𝒞 ∗ CSl κ r c ∗ argAt (m := m) κ r c ∗ Own c dst fullShare Finset.univ (fun _ _ => True))
      ⊢ iprop((CFly κ r c -∗ WP c (k ⟨⟩) Φ)
          -∗ WP c (.op (.enqueueDma src (.here dst) (.dma (sCopy κ)) hs hd ht) k) Φ) := by
  unfold CSl CFly Own
  iintro ⟨#HR, ⟨Hat, #Hr, Ht⟩, Harg, ⟨%fd, -, Hdst⟩⟩ Hk
  ihave HkC := (recs_C 𝒞 κ c) $$ HR
  unfold Known
  icases HkC with ⟨⟨%κ₁, #Hi⟩, -⟩
  ihave Hsrc := hsrc $$ Harg
  ihave Ht2 := (ctoks_step hr) $$ Ht
  icases Ht2 with ⟨Ht1, Ht⟩
  have h0 : (0 : Fin 4) ∈ (Rd 𝒞).duties (gC κ c) r := by rw [duties_C, if_pos hr]; exact Finset.mem_singleton_self _
  iapply (wp_copy_pointsTo 𝒱₀ ER (Rd 𝒞) (c : Thread nD τ) none (κ := κ₁) (fs := fs) (fd := fd) h0 r (NC κ) hN (amount_C 𝒞 c κ 0)
    ((hpay fd).trans (Entails.of_eq (payload_C 𝒞 c κ 0).symm))) $$ [Hsrc Hdst Ht1]
  · isplitr; · iexact Hi
    isplitl [Hsrc]; · iexact Hsrc
    isplitl [Hdst]; · iexact Hdst
    isplitl [Ht1]; · iexact Ht1
    iexact Hr
  iintro Hc
  iapply Hk
  iframe Hat Hc Ht

/-- A copy has come in. -/
theorem wp_waitC {κ : Fin 2} {r n : ℕ} (hr : r < 3) {sp : Space} {s : Shape} {e : EltTy} {src : Memref sig .tc sp s e} {dst : Memref sig .tc .vmem s e}
    {hs : src.view.WordExact} {hd : dst.view.WordExact}
    (hN : dst.view.dmaCredit = NC κ)
    {k : PUnit → Prog (TpuEff nD τ sig (Elt F) Λ₀ .tc) α} :
    iprop(Recs 𝒞 ∗ CFly κ r c ∗ Owe c n)
      ⊢ iprop(((CSl κ (r + 1) c ∗ copyPay (m := m) κ r c ∗ Owe c n) -∗ WP c (k ⟨⟩) Φ)
          -∗ WP c (.op (.waitDma2 (sCopy κ) src dst hs hd) k) Φ) := by
  unfold CSl CFly Owe
  iintro ⟨#HR, ⟨Hat, Hc, Ht⟩, ⟨%W, Ho⟩⟩ Hk
  ihave HkC := (recs_C 𝒞 κ c) $$ HR
  ihave #Hlev := (recs_lev 𝒞) $$ HR
  unfold Known
  icases HkC with ⟨⟨%κ₁, #Hi⟩, -⟩
  iapply (wp_wait_rest_token 𝒱₀ ER (Rd 𝒞) (c : Thread nD τ) none (κ := κ₁)
      (wpE_waitDma2_eq 𝒱₀ (c : Thread nD τ) none Set.univ) (Set.mem_univ _) r (O := tally c (evs n)) (W := W) (R := r) (m := 0) (T := ∅)
      (by rw [Nat.zero_add, expect_C 𝒞 c κ hr, hN])) $$ [Hc Ho Hat]
  · isplitr; · iexact Hi
    isplitl [Hc]
    · rw [hN]; iexact Hc
    isplitl [Ho]; · iexact Ho
    isplitr
    · iapply (mayWait_tally (.dma (sCopy κ)) r hr (lvl := 0) (by rw [kd_copy]; rfl)
        (fun e he => lt_of_lt_of_le (by decide) (evAll_ok e (List.mem_of_mem_drop he)).2.2)); iexact Hlev
    iexact Hat
  iintro ⟨Ho, Hat, #Hr, Hpay⟩
  ihave Hpay := (Entails.of_eq (rest_C 𝒞 c κ hr)) $$ Hpay
  iapply Hk
  isplitl [Hat Ht]
  · isplitl [Hat]; · iexact Hat
    isplitr; · iexact Hr
    iexact Ht
  isplitl [Hpay]; · iexact Hpay
  iexists _; iexact Ho

/-! ## The loads of a layer -/

/-- The copies of layer `r` start. -/
theorem wp_loadPiece {r : ℕ} (hr : r < 3) {a : Memref sig .tc .hbm S1024x2048 .f32} {ha : a.view.WordExact}
    {b : Memref sig .tc .hbm S2048x1024 .f32} {hb : b.view.WordExact}
    {fa : Buf (Elt F) (a.view.loc (c : Thread nD τ))} {fb : Buf (Elt F) (b.view.loc (c : Thread nD τ))}
    (ea : (argAt (m := m) 0 r c : sProp 𝕄) = (a.view.loc (c : Thread nD τ) ↦[a.view.set]{fullShare} fa))
    (eb : (argAt (m := m) 1 r c : sProp 𝕄) = (b.view.loc (c : Thread nD τ) ↦[b.view.set]{fullShare} fb))
    (va : a.view.read (Elt F) fa = w1 m r c) (vb : b.view.read (Elt F) fb = w2 m r c)
    {k : PUnit → Prog (TpuEff nD τ sig (Elt F) Λ₀ .tc) α} :
    iprop(Recs 𝒞 ∗ CSl 0 r c ∗ CSl 1 r c ∗ argAt (m := m) 0 r c ∗ argAt (m := m) 1 r c
        ∗ Own c mWst fullShare Finset.univ (fun _ _ => True) ∗ Own c mOst fullShare Finset.univ (fun _ _ => True))
      ⊢ iprop(((CFly 0 r c ∗ CFly 1 r c) -∗ WP c (k ⟨⟩) Φ) -∗ WP c (loadPiece (F := F) a ha b hb >>= k) Φ) := by
  unfold loadPiece
  simp only [bind_assoc, Prog.lift, Prog.bind_op, Prog.bind_ret]
  iintro ⟨#HR, HC0, HC1, Ha, Hb, Hw, Ho⟩ Hk
  iapply (wp_copyC 𝒞 (κ := 0) hr (fs := fa) (src := a) (dst := mWst) rfl (Entails.of_eq ea) (fun fd => by
    rw [← ea, va]
    unfold copyPay Own
    rw [if_pos rfl]
    iintro ⟨Hd, Hs⟩
    isplitl [Hs]; · iexact Hs
    iexists _
    isplitr [Hd]
    · ipureintro
      intro i _
      exact congrFun (View.read_write_univ (v := mWst.view) fd (w1 m r c)) i
    iexact Hd)) $$ [$HR $HC0 $Ha $Hw]
  iintro HC0
  iapply (wp_copyC 𝒞 (κ := 1) hr (fs := fb) (src := b) (dst := mOst) rfl (Entails.of_eq eb) (fun fd => by
    rw [← eb, vb]
    unfold copyPay Own
    rw [if_neg (by decide)]
    iintro ⟨Hd, Hs⟩
    isplitl [Hs]; · iexact Hs
    iexists _
    isplitr [Hd]
    · ipureintro
      intro i _
      exact congrFun (View.read_write_univ (v := mOst.view) fd (w2 m r c)) i
    iexact Hd)) $$ [$HR $HC1 $Hb $Ho]
  iintro HC1
  iapply Hk
  iframe HC0 HC1

theorem arg_pts {κ : Fin 2} {r : ℕ} (b : Ref sig .tc) (h : wRef κ r = b) :
    (argAt (m := m) κ r c : sProp 𝕄) = ((Memref.whole b).view.loc (c : Thread nD τ) ↦[(Memref.whole b).view.set]{fullShare} m ((c : Thread nD τ).loc b)) := by
  subst h
  exact congrArg (fun I => (((c : Thread nD τ).loc (wRef κ r)) ↦[I]{fullShare} m ((c : Thread nD τ).loc (wRef κ r)) : sProp 𝕄)) (View.set_whole _).symm

/-! ## Their rounding -/

/-- A store of a plane. -/
theorem wp_stPl {a b : ℕ} {e : EltTy} {mm : Memref sig .tc .vmem ⟨3, ![2, a, b]⟩ e} {p : ℕ}
    {w : (⟨3, ![1, a, b]⟩ : Shape).Idx → Elt F e} {off : Fin 3 → ℕ}
    {inb : ∀ x, off x + (⟨3, ![1, a, b]⟩ : Shape).size x ≤ (⟨3, ![2, a, b]⟩ : Shape).size x}
    {h : (mm.access (Rect.unit (s := ⟨3, ![2, a, b]⟩) off (⟨3, ![1, a, b]⟩ : Shape).size inb)).Stores Finset.univ}
    {k : PUnit → Prog (TpuEff nD τ sig (Elt F) Λ₀ .tc) α} (ho : off = ![p, 0, 0]) :
    PlAny c mm p ⊢ iprop((Pl c mm p w -∗ WP c (k ⟨⟩) Φ) -∗ WP c (st (F := F) mm off (⟨3, ![1, a, b]⟩ : Shape).size inb w h >>= k) Φ) := by
  subst ho
  refine wp_st (c := c) (m := mm) (S := plane a b p) (rect_plane inb) fun j => ?_
  intro k' h1 h2
  have h1' : (k' 1).val = 0 + 1 * (j 1).val := h1
  have h2' : (k' 2).val = 0 + 1 * (j 2).val := h2
  refine congrArg w (funext fun x => Fin.ext ?_)
  match x with
  | ⟨0, _⟩ =>
    have hj : (j 0).val < 1 := (j 0).isLt
    have hk : (k' 0).val < 1 := (k' 0).isLt
    show (j 0).val = (k' 0).val
    omega
  | ⟨1, _⟩ => show (j 1).val = (k' 1).val; omega
  | ⟨2, _⟩ => show (j 2).val = (k' 2).val; omega

/-- A load of a whole buffer at known contents. -/
theorem wp_ldAll {s : Shape} {e : EltTy} {mm : Memref sig .tc .vmem s e} {w : s.Idx → Elt F e} {off : Fin s.rank → ℕ}
    {inb : ∀ x, off x + s.size x ≤ s.size x} {h : 0 < (Rect.unit (s := s) off s.size inb).toLoadRect.shape.numel}
    {k : (s.Idx → Elt F e) → Prog (TpuEff nD τ sig (Elt F) Λ₀ .tc) α} (ho : ∀ x, off x = 0) :
    Own c mm fullShare Finset.univ (fun i v => v = w i)
      ⊢ iprop((Own c mm fullShare Finset.univ (fun _ _ => True) -∗ WP c (k w) Φ) -∗ WP c (ld (F := F) mm off s.size inb h >>= k) Φ) := by
  iintro H Hk
  iapply (wp_ld (c := c) (m := mm) (S := Finset.univ) (Finset.subset_univ _)) $$ H
  iintro %v %hv H
  have hvw : v = w := funext fun j => (hv j).trans (congrArg w (funext fun x => Fin.ext (by
    show off x + 1 * (j x).val = (j x).val
    rw [ho x]; omega)))
  subst hvw
  iapply Hk
  iapply own_any; iexact H

theorem wp_ldPlAny {a b : ℕ} {e : EltTy} {mm : Memref sig .tc .vmem ⟨3, ![2, a, b]⟩ e} {p : ℕ} {off : Fin 3 → ℕ}
    {inb : ∀ x, off x + (⟨3, ![1, a, b]⟩ : Shape).size x ≤ (⟨3, ![2, a, b]⟩ : Shape).size x}
    {h : 0 < (Rect.unit (s := ⟨3, ![2, a, b]⟩) off (⟨3, ![1, a, b]⟩ : Shape).size inb).toLoadRect.shape.numel}
    {k : ((⟨3, ![1, a, b]⟩ : Shape).Idx → Elt F e) → Prog (TpuEff nD τ sig (Elt F) Λ₀ .tc) α} (ho : off = ![p, 0, 0]) :
    PlAny c mm p ⊢ iprop((∀ v, PlAny c mm p -∗ WP c (k v) Φ) -∗ WP c (ld (F := F) mm off (⟨3, ![1, a, b]⟩ : Shape).size inb h >>= k) Φ) := by
  subst ho
  iintro H Hk
  iapply (wp_ld (c := c) (m := mm) (S := plane a b p) (rect_plane inb).subset) $$ H
  iintro %v %hv H
  iapply Hk; iexact H

/-- The weights of layer `r` are in, rounded into plane `p` of the layer's buffers. -/
theorem wp_storePiece {r n p : ℕ} (hr : r < 3) {a : Memref sig .tc .hbm S1024x2048 .f32} {ha : a.view.WordExact}
    {b : Memref sig .tc .hbm S2048x1024 .f32} {hb : b.view.WordExact} {ow : Fin 3 → ℕ} {iw} {pw} {oo : Fin 3 → ℕ} {io} {po}
    (how : ow = ![p, 0, 0]) (hoo : oo = ![p, 0, 0])
    {k : PUnit → Prog (TpuEff nD τ sig (Elt F) Λ₀ .tc) α} :
    iprop(Recs 𝒞 ∗ CFly 0 r c ∗ CFly 1 r c ∗ PlAny c mWin p ∗ PlAny c mWout p ∗ Owe c n)
      ⊢ iprop(((CSl 0 (r + 1) c ∗ CSl 1 (r + 1) c ∗ argAt (m := m) 0 r c ∗ argAt (m := m) 1 r c
            ∗ Own c mWst fullShare Finset.univ (fun _ _ => True) ∗ Own c mOst fullShare Finset.univ (fun _ _ => True)
            ∗ Pl c mWin p (k0_pay2 (w1 m r c)) ∗ Pl c mWout p (k0_pay3 (w2 m r c)) ∗ Owe c n) -∗ WP c (k ⟨⟩) Φ)
          -∗ WP c (storePiece (F := F) a ha b hb ow iw pw oo io po >>= k) Φ) := by
  unfold storePiece
  simp only [bind_assoc, Prog.lift, Prog.bind_op, Prog.bind_ret]
  iintro ⟨#HR, HC0, HC1, Hw, Ho, Howe⟩ Hk
  iapply (wp_waitC 𝒞 (κ := 0) hr rfl) $$ [$HR $HC0 $Howe]
  iintro ⟨HC0, Hp0, Howe⟩
  iapply (wp_waitC 𝒞 (κ := 1) hr rfl) $$ [$HR $HC1 $Howe]
  iintro ⟨HC1, Hp1, Howe⟩
  unfold copyPay
  rw [if_pos rfl, if_neg (by decide)]
  icases Hp0 with ⟨Ha0, Hws⟩
  icases Hp1 with ⟨Ha1, Hos⟩
  iapply (wp_ldAll (c := c) (mm := mWst) (w := w1 m r c) (fun x => by match x with | 0 => rfl | 1 => rfl)) $$ Hws
  iintro Hws
  iapply (wp_ldPlAny (c := c) (mm := mWin) how) $$ Hw
  iintro %_ Hw
  iapply (wp_stPl (c := c) (mm := mWin) how) $$ Hw
  iintro Hw
  iapply (wp_ldAll (c := c) (mm := mOst) (w := w2 m r c) (fun x => by match x with | 0 => rfl | 1 => rfl)) $$ Hos
  iintro Hos
  iapply (wp_ldPlAny (c := c) (mm := mWout) hoo) $$ Ho
  iintro %_ Ho
  iapply (wp_stPl (c := c) (mm := mWout) hoo) $$ Ho
  iintro Ho
  iapply Hk
  iframe HC0 HC1 Ha0 Ha1 Hws Hos Hw Ho Howe

end Cert.KernelIdeal.Gen

end
-- ==== Proof.Spread.lean ====
/- The spreading of the input: four hops, each over one bit of the device's number. -/
module

public import proofs.«01_k».proof.Proof.Local

@[expose] public section

set_option maxRecDepth 65536

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig ℕ (Elt F) ℕ UU ℕ

variable {m : (ℓ : Loc nD τ sig) → Buf (Elt F) ℓ} (𝒞 : Contract (F := F) m)
variable {α : Type} {Φ : α → sProp (MT nD τ sig ℕ (Elt F) ℕ UU ℕ)} {c : Dev nD}

/-! ## Blocks of rows -/

theorem mem_blks {B : Finset ℕ} {i : (Tall 1024).Idx} : i ∈ blks B ↔ (i 0).val / 64 ∈ B := by simp [blks]

theorem blks_one (b : ℕ) : blks {b} = rows 1024 (64 * b) 64 := by
  ext i
  rw [mem_blks, mem_rows, Finset.mem_singleton]
  omega
theorem blks_all : blks (Finset.range 16) = rows 1024 0 1024 := by
  ext i
  have : (i 0).val < 1024 := (i 0).isLt
  rw [mem_blks, mem_rows, Finset.mem_range]
  omega

section
variable {mm : Memref sig .tc .vmem S1024x1024 .bf16} {q : PosShare TreeShare} {P : S1024x1024.Idx → Elt F .bf16 → Prop} {B B₁ B₂ : Finset ℕ}
omit [FloatOps F] [Facts] in
theorem blks_split (hd : Disjoint B₁ B₂) (hB : B = B₁ ∪ B₂) : Own c mm q (blks B) P ⊢ iprop(Own c mm q (blks B₁) P ∗ Own c mm q (blks B₂) P) :=
  own_split (by
    rw [Finset.disjoint_left]; intro i h1 h2
    exact Finset.disjoint_left.mp hd (mem_blks.mp h1) (mem_blks.mp h2))
    (by ext i; rw [hB, Finset.mem_union, mem_blks, mem_blks, mem_blks, Finset.mem_union])
omit [FloatOps F] [Facts] in
theorem blks_join (hd : Disjoint B₁ B₂) (hB : B = B₁ ∪ B₂) : iprop(Own c mm q (blks B₁) P ∗ Own c mm q (blks B₂) P) ⊢ Own c mm q (blks B) P :=
  own_join (by
    rw [Finset.disjoint_left]; intro i h1 h2
    exact Finset.disjoint_left.mp hd (mem_blks.mp h1) (mem_blks.mp h2))
    (by ext i; rw [hB, Finset.mem_union, mem_blks, mem_blks, mem_blks, Finset.mem_union])
end

/-- The blocks that transfers `lo` to `hi` take from `d`. -/
def rem (lo hi : ℕ) (d : Dev nD) : Finset ℕ := (Finset.univ.filter fun x : Fin 15 => lo ≤ x.val ∧ x.val < hi).image fun x => xblk x d
/-- Those, and those they bring it, in hop `h`. -/
def got (h i : ℕ) (d : Dev nD) : Finset ℕ := rem (2 ^ h - 1) i d ∪ rem (2 ^ h - 1) i (flip (3 - h) d)

theorem rem_step (x : Fin 15) (d : Dev nD) : Disjoint {xblk x d} (rem (x.val + 1) (2 ^ (hop x + 1) - 1) d)
    ∧ rem x.val (2 ^ (hop x + 1) - 1) d = {xblk x d} ∪ rem (x.val + 1) (2 ^ (hop x + 1) - 1) d := by
  revert x d; decide +kernel
theorem got_step (x : Fin 15) (d : Dev nD) : Disjoint {xblk x d} (got (hop x) x.val d)
    ∧ Disjoint {xblk x (xpeer x d)} ({xblk x d} ∪ got (hop x) x.val d)
    ∧ got (hop x) (x.val + 1) d = {xblk x (xpeer x d)} ∪ ({xblk x d} ∪ got (hop x) x.val d) := by
  revert x d; decide +kernel
theorem evs_X (x : Fin 15) : evs x.val = (.X x, 0) :: evs (x.val + 1) := by fin_cases x <;> rfl
theorem below_X (x : Fin 15) : Below (.X x) 0 (2 ^ (hop x + 1) - 1) := by
  have : ∀ x : Fin 15, ∀ e ∈ evs (2 ^ (hop x + 1) - 1), lvS (.X x) 0 < lvS e.1 e.2 := by decide +kernel
  exact this x

/-- The gathered buffer's blocks, at the input. -/
abbrev XB (B : Finset ℕ) (c : Dev nD) : sProp 𝕄 := Own c mOut fullShare (blks B) fun i v => 𝒞.X 0 (i 0).val (i 1).val v
abbrev AB (B : Finset ℕ) (c : Dev nD) : sProp 𝕄 := Own (F := F) c mOut fullShare (blks B) fun _ _ => True

theorem recs_reached (s : Slt) (c : Dev nD) : Recs 𝒞 ⊢ (reached ER (gR s c) 0 : sProp 𝕄) := by
  have h := recs_R 𝒞 s c
  unfold Known at h
  iintro H
  ihave H2 := h $$ H
  icases H2 with ⟨-, #H⟩
  iexact H

/-- A transfer of the spreading starts. -/
theorem wp_sendX {x : Fin 15} {h i i' j : ℕ} (hh : hop x = h) (hi : x.val = i) (hi' : x.val + 1 = i') (hj : 2 ^ (hop x + 1) - 1 = j)
    {κ : Fin 35} {d' : Dev nD} {os : Fin 2 → ℕ}
    {is : ∀ a, os a + (Rows 64).size a ≤ S1024x1024.size a}
    {hsx : (rowSl mOut 64 os is).view.WordExact} {hdx : (rowSl mOut 64 os is).view.WordExact}
    (hκ : κ = ix (.X x)) (hd : d'.val = (xpeer x c).val) (ho : os = ![64 * xblk x c, 0])
    {k : PUnit → Prog (TpuEff nD τ sig (Elt F) Λ₀ .tc) α} :
    iprop(Recs 𝒞 ∗ Sl (.X x) 0 c ∗ XB 𝒞 (rem i j c) c ∗ AB (rem i j c) (flip (3 - h) c) ∗ Owe c i)
      ⊢ iprop(((Fly (.X x) 0 c ∗ XB 𝒞 (rem i' j c) c ∗ AB (rem i' j c) (flip (3 - h) c) ∗ Owe c i') -∗ WP c (k ⟨⟩) Φ)
          -∗ WP c (sendPiece (F := F) 64 mOut mOut κ d' os is hsx hdx >>= k) Φ) := by
  subst hh hi hi' hj
  obtain ⟨h1, h2⟩ := rem_step x c
  iintro ⟨#HR, Hsl, HX, HA, Howe⟩ Hk
  ihave HX := (blks_split h1 h2) $$ HX
  icases HX with ⟨HX1, HX⟩
  ihave HA := (blks_split h1 h2) $$ HA
  icases HA with ⟨HA1, HA⟩
  ihave Hre := (recs_reached 𝒞 (.X x) (peerS (.X x) c)) $$ HR
  iapply (wp_sendS 𝒞 (s := .X x) (r := 0) (n := x.val) (show (Slt.X x).ok from trivial) (show 0 < 1 by decide) (evs_X x) rfl rfl rfl hκ (Fin.ext hd) ho)
    $$ [Hsl HX1 HA1 Howe Hre]
  · isplitr; · iexact HR
    isplitl [Hsl]; · iexact Hsl
    isplitl [HX1]
    · unfold sendPay Rw
      rw [blks_one]; iexact HX1
    isplitl [HA1]
    · rw [blks_one]; iexact HA1
    isplitr
    · unfold extra; iempintro
    isplitl [Hre]; · iexact Hre
    iexact Howe
  iintro ⟨Hfly, Howe⟩
  iapply Hk
  iframe Hfly HX HA Howe

/-- One ends. -/
theorem wp_waitX {x : Fin 15} {h i i' j : ℕ} (hh : hop x = h) (hi : x.val = i) (hi' : x.val + 1 = i') (hj : 2 ^ (hop x + 1) - 1 = j)
    {κ : Fin 35} {os : Fin 2 → ℕ}
    {is : ∀ a, os a + (Rows 64).size a ≤ S1024x1024.size a}
    {hsx : (rowSl mOut 64 os is).view.WordExact} {hdx : (rowSl mOut 64 os is).view.WordExact}
    (hκ : κ = ix (.X x))
    {k : PUnit → Prog (TpuEff nD τ sig (Elt F) Λ₀ .tc) α} :
    iprop(Recs 𝒞 ∗ Fly (.X x) 0 c ∗ XB 𝒞 (got h i c) c ∗ Owe c j)
      ⊢ iprop(((Sl (.X x) 1 c ∗ XB 𝒞 (got h i' c) c ∗ Owe c j) -∗ WP c (k ⟨⟩) Φ)
          -∗ WP c (waitPiece (F := F) 64 mOut mOut κ os is hsx hdx >>= k) Φ) := by
  subst hh hi hi' hj
  obtain ⟨h1, h2, h3⟩ := got_step x c
  iintro ⟨#HR, Hfly, HX, Howe⟩ Hk
  iapply (wp_waitS 𝒞 (s := .X x) (r := 0) (show (Slt.X x).ok from trivial) (show 0 < 1 by decide) (below_X x) rfl rfl rfl hκ) $$ [$HR $Hfly $Howe]
  iintro ⟨Hsl, HX1, Hrp, Howe⟩
  unfold recvPay landPay sendPay
  icases Hrp with ⟨HX2, -⟩
  ihave HX := (blks_join (c := c) (mm := mOut) (q := fullShare) (P := fun i v => 𝒞.X 0 (i 0).val (i 1).val v) h1 rfl) $$ [HX1 HX]
  · isplitl [HX1]
    · rw [blks_one]; iexact HX1
    iexact HX
  ihave HX := (blks_join (c := c) (mm := mOut) (q := fullShare) (P := fun i v => 𝒞.X 0 (i 0).val (i 1).val v) h2 h3) $$ [HX2 HX]
  · isplitl [HX2]
    · rw [blks_one]; iexact HX2
    iexact HX
  iapply Hk
  iframe Hsl HX Howe

/-- The next hop starts from what the last has brought. -/
theorem got_next (d : Dev nD) : rem 0 1 d = {d.val} ∧ got 0 1 d = rem 1 3 d ∧ got 1 3 d = rem 3 7 d ∧ got 2 7 d = rem 7 15 d ∧ got 3 15 d = Finset.range 16 := by
  revert d; decide +kernel
theorem got_start (d : Dev nD) : rem 1 1 d = got 0 0 d ∧ rem 3 3 d = got 1 1 d ∧ rem 7 7 d = got 2 3 d ∧ rem 15 15 d = got 3 7 d := by
  revert d; decide +kernel
theorem to_rem (d : Dev nD) : blksTo 3 d = rem 0 1 d ∧ blksTo 2 d = rem 1 3 d ∧ blksTo 1 d = rem 3 7 d ∧ blksTo 0 d = rem 7 15 d := by
  revert d; decide +kernel

set_option maxHeartbeats 4000000 in
/-- The spreading of the input. -/
theorem wp_spread {k : PUnit → Prog (TpuEff nD τ sig (Elt F) Λ₀ .tc) α} :
    iprop(Recs 𝒞 ∗ (Sl (.X 0) 0 c ∗ Sl (.X 1) 0 c ∗ Sl (.X 2) 0 c ∗ Sl (.X 3) 0 c ∗ Sl (.X 4) 0 c ∗ Sl (.X 5) 0 c ∗ Sl (.X 6) 0 c ∗ Sl (.X 7) 0 c ∗ Sl (.X 8) 0 c ∗ Sl (.X 9) 0 c ∗ Sl (.X 10) 0 c ∗ Sl (.X 11) 0 c ∗ Sl (.X 12) 0 c ∗ Sl (.X 13) 0 c ∗ Sl (.X 14) 0 c)
        ∗ XB 𝒞 {c.val} c ∗ AB (blksTo 0 c) (flip 0 c) ∗ AB (blksTo 1 c) (flip 1 c) ∗ AB (blksTo 2 c) (flip 2 c) ∗ AB (blksTo 3 c) (flip 3 c)
        ∗ Owe c 0)
      ⊢ iprop((((Sl (.X 0) 1 c ∗ Sl (.X 1) 1 c ∗ Sl (.X 2) 1 c ∗ Sl (.X 3) 1 c ∗ Sl (.X 4) 1 c ∗ Sl (.X 5) 1 c ∗ Sl (.X 6) 1 c ∗ Sl (.X 7) 1 c ∗ Sl (.X 8) 1 c ∗ Sl (.X 9) 1 c ∗ Sl (.X 10) 1 c ∗ Sl (.X 11) 1 c ∗ Sl (.X 12) 1 c ∗ Sl (.X 13) 1 c ∗ Sl (.X 14) 1 c)
            ∗ XB 𝒞 (Finset.range 16) c ∗ Owe c 15) -∗ WP c (k ⟨⟩) Φ) -∗ WP c (spread (F := F) c >>= k) Φ) := by
  obtain ⟨g0, g1, g2, g3, g4⟩ := got_next c
  obtain ⟨s0, s1, s2, s3⟩ := got_start c
  obtain ⟨t3, t2, t1, t0⟩ := to_rem c
  rw [t0, t1, t2, t3, ← g0, ← g4]
  unfold spread
  simp only [bind_assoc]
  iintro ⟨#HR, ⟨Hs0, Hs1, Hs2, Hs3, Hs4, Hs5, Hs6, Hs7, Hs8, Hs9, Hs10, Hs11, Hs12, Hs13, Hs14⟩, HX, HA0, HA1, HA2, HA3, Howe⟩ Hk
  iapply (wp_sendX 𝒞 (x := 0) (h := 0) (i := 0) (i' := 1) (j := 1) rfl rfl rfl rfl rfl (devX c).1 (offX c).1) $$ [$HR $Hs0 $HX $HA3 $Howe]
  iintro ⟨Hs0, HX, HA3, Howe⟩
  rw [s0]
  iapply (wp_waitX 𝒞 (x := 0) (h := 0) (i := 0) (i' := 1) (j := 1) rfl rfl rfl rfl rfl) $$ [$HR $Hs0 $HX $Howe]
  iintro ⟨Hs0, HX, Howe⟩
  rw [g1]
  iapply (wp_sendX 𝒞 (x := 1) (h := 1) (i := 1) (i' := 2) (j := 3) rfl rfl rfl rfl rfl (devX c).2.1 (offX c).2.1) $$ [$HR $Hs1 $HX $HA2 $Howe]
  iintro ⟨Hs1, HX, HA2, Howe⟩
  iapply (wp_sendX 𝒞 (x := 2) (h := 1) (i := 2) (i' := 3) (j := 3) rfl rfl rfl rfl rfl (devX c).2.2.1 (offX c).2.2.1) $$ [$HR $Hs2 $HX $HA2 $Howe]
  iintro ⟨Hs2, HX, HA2, Howe⟩
  rw [s1]
  iapply (wp_waitX 𝒞 (x := 1) (h := 1) (i := 1) (i' := 2) (j := 3) rfl rfl rfl rfl rfl) $$ [$HR $Hs1 $HX $Howe]
  iintro ⟨Hs1, HX, Howe⟩
  iapply (wp_waitX 𝒞 (x := 2) (h := 1) (i := 2) (i' := 3) (j := 3) rfl rfl rfl rfl rfl) $$ [$HR $Hs2 $HX $Howe]
  iintro ⟨Hs2, HX, Howe⟩
  rw [g2]
  iapply (wp_sendX 𝒞 (x := 3) (h := 2) (i := 3) (i' := 4) (j := 7) rfl rfl rfl rfl rfl (devX c).2.2.2.1 (offX c).2.2.2.1) $$ [$HR $Hs3 $HX $HA1 $Howe]
  iintro ⟨Hs3, HX, HA1, Howe⟩
  iapply (wp_sendX 𝒞 (x := 4) (h := 2) (i := 4) (i' := 5) (j := 7) rfl rfl rfl rfl rfl (devX c).2.2.2.2.1 (offX c).2.2.2.2.1) $$ [$HR $Hs4 $HX $HA1 $Howe]
  iintro ⟨Hs4, HX, HA1, Howe⟩
  iapply (wp_sendX 𝒞 (x := 5) (h := 2) (i := 5) (i' := 6) (j := 7) rfl rfl rfl rfl rfl (devX c).2.2.2.2.2.1 (offX c).2.2.2.2.2.1) $$ [$HR $Hs5 $HX $HA1 $Howe]
  iintro ⟨Hs5, HX, HA1, Howe⟩
  iapply (wp_sendX 𝒞 (x := 6) (h := 2) (i := 6) (i' := 7) (j := 7) rfl rfl rfl rfl rfl (devX c).2.2.2.2.2.2.1 (offX c).2.2.2.2.2.2.1) $$ [$HR $Hs6 $HX $HA1 $Howe]
  iintro ⟨Hs6, HX, HA1, Howe⟩
  rw [s2]
  iapply (wp_waitX 𝒞 (x := 3) (h := 2) (i := 3) (i' := 4) (j := 7) rfl rfl rfl rfl rfl) $$ [$HR $Hs3 $HX $Howe]
  iintro ⟨Hs3, HX, Howe⟩
  iapply (wp_waitX 𝒞 (x := 4) (h := 2) (i := 4) (i' := 5) (j := 7) rfl rfl rfl rfl rfl) $$ [$HR $Hs4 $HX $Howe]
  iintro ⟨Hs4, HX, Howe⟩
  iapply (wp_waitX 𝒞 (x := 5) (h := 2) (i := 5) (i' := 6) (j := 7) rfl rfl rfl rfl rfl) $$ [$HR $Hs5 $HX $Howe]
  iintro ⟨Hs5, HX, Howe⟩
  iapply (wp_waitX 𝒞 (x := 6) (h := 2) (i := 6) (i' := 7) (j := 7) rfl rfl rfl rfl rfl) $$ [$HR $Hs6 $HX $Howe]
  iintro ⟨Hs6, HX, Howe⟩
  rw [g3]
  iapply (wp_sendX 𝒞 (x := 7) (h := 3) (i := 7) (i' := 8) (j := 15) rfl rfl rfl rfl rfl (devX c).2.2.2.2.2.2.2.1 (offX c).2.2.2.2.2.2.2.1) $$ [$HR $Hs7 $HX $HA0 $Howe]
  iintro ⟨Hs7, HX, HA0, Howe⟩
  iapply (wp_sendX 𝒞 (x := 8) (h := 3) (i := 8) (i' := 9) (j := 15) rfl rfl rfl rfl rfl (devX c).2.2.2.2.2.2.2.2.1 (offX c).2.2.2.2.2.2.2.2.1) $$ [$HR $Hs8 $HX $HA0 $Howe]
  iintro ⟨Hs8, HX, HA0, Howe⟩
  iapply (wp_sendX 𝒞 (x := 9) (h := 3) (i := 9) (i' := 10) (j := 15) rfl rfl rfl rfl rfl (devX c).2.2.2.2.2.2.2.2.2.1 (offX c).2.2.2.2.2.2.2.2.2.1) $$ [$HR $Hs9 $HX $HA0 $Howe]
  iintro ⟨Hs9, HX, HA0, Howe⟩
  iapply (wp_sendX 𝒞 (x := 10) (h := 3) (i := 10) (i' := 11) (j := 15) rfl rfl rfl rfl rfl (devX c).2.2.2.2.2.2.2.2.2.2.1 (offX c).2.2.2.2.2.2.2.2.2.2.1) $$ [$HR $Hs10 $HX $HA0 $Howe]
  iintro ⟨Hs10, HX, HA0, Howe⟩
  iapply (wp_sendX 𝒞 (x := 11) (h := 3) (i := 11) (i' := 12) (j := 15) rfl rfl rfl rfl rfl (devX c).2.2.2.2.2.2.2.2.2.2.2.1 (offX c).2.2.2.2.2.2.2.2.2.2.2.1) $$ [$HR $Hs11 $HX $HA0 $Howe]
  iintro ⟨Hs11, HX, HA0, Howe⟩
  iapply (wp_sendX 𝒞 (x := 12) (h := 3) (i := 12) (i' := 13) (j := 15) rfl rfl rfl rfl rfl (devX c).2.2.2.2.2.2.2.2.2.2.2.2.1 (offX c).2.2.2.2.2.2.2.2.2.2.2.2.1) $$ [$HR $Hs12 $HX $HA0 $Howe]
  iintro ⟨Hs12, HX, HA0, Howe⟩
  iapply (wp_sendX 𝒞 (x := 13) (h := 3) (i := 13) (i' := 14) (j := 15) rfl rfl rfl rfl rfl (devX c).2.2.2.2.2.2.2.2.2.2.2.2.2.1 (offX c).2.2.2.2.2.2.2.2.2.2.2.2.2.1) $$ [$HR $Hs13 $HX $HA0 $Howe]
  iintro ⟨Hs13, HX, HA0, Howe⟩
  iapply (wp_sendX 𝒞 (x := 14) (h := 3) (i := 14) (i' := 15) (j := 15) rfl rfl rfl rfl rfl (devX c).2.2.2.2.2.2.2.2.2.2.2.2.2.2 (offX c).2.2.2.2.2.2.2.2.2.2.2.2.2.2) $$ [$HR $Hs14 $HX $HA0 $Howe]
  iintro ⟨Hs14, HX, HA0, Howe⟩
  rw [s3]
  iapply (wp_waitX 𝒞 (x := 7) (h := 3) (i := 7) (i' := 8) (j := 15) rfl rfl rfl rfl rfl) $$ [$HR $Hs7 $HX $Howe]
  iintro ⟨Hs7, HX, Howe⟩
  iapply (wp_waitX 𝒞 (x := 8) (h := 3) (i := 8) (i' := 9) (j := 15) rfl rfl rfl rfl rfl) $$ [$HR $Hs8 $HX $Howe]
  iintro ⟨Hs8, HX, Howe⟩
  iapply (wp_waitX 𝒞 (x := 9) (h := 3) (i := 9) (i' := 10) (j := 15) rfl rfl rfl rfl rfl) $$ [$HR $Hs9 $HX $Howe]
  iintro ⟨Hs9, HX, Howe⟩
  iapply (wp_waitX 𝒞 (x := 10) (h := 3) (i := 10) (i' := 11) (j := 15) rfl rfl rfl rfl rfl) $$ [$HR $Hs10 $HX $Howe]
  iintro ⟨Hs10, HX, Howe⟩
  iapply (wp_waitX 𝒞 (x := 11) (h := 3) (i := 11) (i' := 12) (j := 15) rfl rfl rfl rfl rfl) $$ [$HR $Hs11 $HX $Howe]
  iintro ⟨Hs11, HX, Howe⟩
  iapply (wp_waitX 𝒞 (x := 12) (h := 3) (i := 12) (i' := 13) (j := 15) rfl rfl rfl rfl rfl) $$ [$HR $Hs12 $HX $Howe]
  iintro ⟨Hs12, HX, Howe⟩
  iapply (wp_waitX 𝒞 (x := 13) (h := 3) (i := 13) (i' := 14) (j := 15) rfl rfl rfl rfl rfl) $$ [$HR $Hs13 $HX $Howe]
  iintro ⟨Hs13, HX, Howe⟩
  iapply (wp_waitX 𝒞 (x := 14) (h := 3) (i := 14) (i' := 15) (j := 15) rfl rfl rfl rfl rfl) $$ [$HR $Hs14 $HX $Howe]
  iintro ⟨Hs14, HX, Howe⟩
  iapply Hk
  iframe Hs0 Hs1 Hs2 Hs3 Hs4 Hs5 Hs6 Hs7 Hs8 Hs9 Hs10 Hs11 Hs12 Hs13 Hs14 HX Howe

end Cert.KernelIdeal.Gen

end
-- ==== Proof.Start.lean ====
/- The start of the kernel: a device's own rows, the barrier, and the first layer's `hact`. -/
module

public import proofs.«01_k».proof.Proof.Spread

@[expose] public section

set_option maxRecDepth 65536

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig ℕ (Elt F) ℕ UU ℕ

variable {m : (ℓ : Loc nD τ sig) → Buf (Elt F) ℓ} (𝒞 : Contract (F := F) m)
variable {α : Type} {Φ : α → sProp (MT nD τ sig ℕ (Elt F) ℕ UU ℕ)} {c : Dev nD}

omit [FloatOps F] [Facts] in
theorem rw_cut {w : ℕ} {e : EltTy} {m : Memref sig .tc .vmem (Tall w) e} {q : PosShare TreeShare} {P : ℕ → ℕ → Elt F e → Prop} {lo n lo' n' N : ℕ}
    (h : lo' = lo + n) (hN : N = n + n') : Rw c m q lo N P ⊢ iprop(Rw c m q lo n P ∗ Rw c m q lo' n' P) := by
  have := rw_split (c := c) (m := m) (q := q) (P := P) (.inl h) hN
  rwa [Nat.min_eq_left (by omega)] at this
omit [FloatOps F] [Facts] in
theorem rw_glue {w : ℕ} {e : EltTy} {m : Memref sig .tc .vmem (Tall w) e} {q : PosShare TreeShare} {P : ℕ → ℕ → Elt F e → Prop} {lo n lo' n' N : ℕ}
    (h : lo' = lo + n) (hN : N = n + n') : iprop(Rw c m q lo n P ∗ Rw c m q lo' n' P) ⊢ Rw c m q lo N P := by
  have := rw_join (c := c) (m := m) (q := q) (P := P) (.inl h) hN
  rwa [Nat.min_eq_left (by omega)] at this
omit [FloatOps F] [Facts] in
theorem bigSep_four (f : Fin 4 → sProp (MT nD τ sig ℕ (Elt F) ℕ UU ℕ)) : bigSep Finset.univ f = iprop(f 0 ∗ f 1 ∗ f 2 ∗ f 3) := by
  rw [show (Finset.univ : Finset (Fin 4)) = {0, 1, 2, 3} by rfl, bigSep_insert (by decide), bigSep_insert (by decide), bigSep_insert (by decide),
    bigSep_singleton]
  rfl

/-! ## A device's own rows of the input -/

theorem wp_inPiece {oa : Fin 2 → ℕ} {ia} {pk} (ho : oa = ![64 * c.val, 0])
    {k : PUnit → Prog (TpuEff nD τ sig (Elt F) Λ₀ .tc) α} :
    iprop(Own c mX fullShare Finset.univ (fun i v => v = x0 m c i) ∗ Rw c mOut fullShare 0 1024 Any)
      ⊢ iprop(((Own c mX fullShare Finset.univ (fun i v => v = x0 m c i) ∗ XB 𝒞 {c.val} c ∗ AB (Finset.range 16 \ {c.val}) c) -∗ WP c (k ⟨⟩) Φ)
          -∗ WP c (inPiece (F := F) oa ia pk >>= k) Φ) := by
  have hc : c.val < 16 := c.isLt
  unfold inPiece
  simp only [bind_assoc]
  iintro ⟨Hx, Ho⟩ Hk
  iapply (wp_ld (c := c) (m := mX) (S := Finset.univ) (Finset.subset_univ _)) $$ Hx
  iintro %v %hv Hx
  have hvw : v = x0 m c := funext fun j => (hv j).trans (congrArg (x0 m c) (funext fun x => Fin.ext (by
    match x with
    | 0 => show 0 + 1 * (j 0).val = (j 0).val; omega
    | 1 => show 0 + 1 * (j 1).val = (j 1).val; omega)))
  subst hvw
  iapply (wp_ldRows (c := c) (m := mOut) ho (by omega) (by omega)) $$ Ho
  iintro %_ %_ Ho
  iapply (wp_stRows (c := c) (m := mOut) (P' := fun r j v => 64 * c.val ≤ r → r < 64 * c.val + 64 → 𝒞.X 0 r j v) ho (by omega) (by omega)
    (fun j _ _ => 𝒞.input c j) (fun r j v _ _ hn _ h1 h2 => absurd ⟨h1, h2⟩ hn)) $$ Ho
  iintro Ho
  ihave Ho := (Entails.of_eq (by rw [Rw, ← blks_all])) $$ Ho
  ihave Ho := (blks_split (B₁ := {c.val}) (B₂ := Finset.range 16 \ {c.val}) Finset.disjoint_sdiff
    (Finset.union_sdiff_of_subset (Finset.singleton_subset_iff.mpr (Finset.mem_range.mpr hc))).symm) $$ Ho
  icases Ho with ⟨Ho1, Ho2⟩
  iapply Hk
  isplitl [Hx]; · iexact Hx
  isplitl [Ho1]
  · iapply (own_mono (c := c) (m := mOut) (P := fun i v => 64 * c.val ≤ (i 0).val → (i 0).val < 64 * c.val + 64 → 𝒞.X 0 (i 0).val (i 1).val v) fun i hi v hv => by
      rw [blks_one, mem_rows] at hi; exact hv hi.1 hi.2); iexact Ho1
  · iapply own_any; iexact Ho2

/-! ## What a device lends before the barrier -/

theorem give_sets (c : Dev nD) : Finset.range 16 \ {c.val} = blksTo 0 (flip 0 c) ∪ (blksTo 1 (flip 1 c) ∪ (blksTo 2 (flip 2 c) ∪ blksTo 3 (flip 3 c)))
    ∧ Disjoint (blksTo 0 (flip 0 c)) (blksTo 1 (flip 1 c) ∪ (blksTo 2 (flip 2 c) ∪ blksTo 3 (flip 3 c)))
    ∧ Disjoint (blksTo 1 (flip 1 c)) (blksTo 2 (flip 2 c) ∪ blksTo 3 (flip 3 c))
    ∧ Disjoint (blksTo 2 (flip 2 c)) (blksTo 3 (flip 3 c)) := by
  revert c; decide +kernel

omit [Facts] in
theorem give_blocks : (AB (Finset.range 16 \ {c.val}) c : sProp 𝕄)
    ⊢ iprop(AB (blksTo 0 (flip 0 c)) c ∗ AB (blksTo 1 (flip 1 c)) c ∗ AB (blksTo 2 (flip 2 c)) c ∗ AB (blksTo 3 (flip 3 c)) c) := by
  obtain ⟨h0, h1, h2, h3⟩ := give_sets c
  iintro H
  ihave H := (blks_split h1 h0) $$ H
  icases H with ⟨Ha, H⟩
  ihave H := (blks_split h2 rfl) $$ H
  icases H with ⟨Hb, H⟩
  ihave H := (blks_split h3 rfl) $$ H
  icases H with ⟨Hc, H⟩
  iframe Ha Hb Hc H

/-- The pieces of a band of a buffer of the exchanges, and what is left of it. -/
abbrev Stg (mm : Memref sig .tc .vmem S1024x1024 .bf16) (b : Fin 2) (t : ℕ) (c : Dev nD) : sProp 𝕄 := Rw (F := F) c mm fullShare (stgLo b t) (hsz t) Any
abbrev Left (mm : Memref sig .tc .vmem S1024x1024 .bf16) (c : Dev nD) : sProp 𝕄 :=
  iprop(Rw (F := F) c mm fullShare 480 32 Any ∗ Rw (F := F) c mm fullShare 992 32 Any)

omit [Facts] in
theorem tall_cut {mm : Memref sig .tc .vmem S1024x1024 .bf16} : (Rw c mm fullShare 0 1024 Any : sProp 𝕄)
    ⊢ iprop((Stg mm 0 0 c ∗ Stg mm 0 1 c ∗ Stg mm 0 2 c ∗ Stg mm 0 3 c) ∗ (Stg mm 1 0 c ∗ Stg mm 1 1 c ∗ Stg mm 1 2 c ∗ Stg mm 1 3 c) ∗ Left mm c) := by
  iintro H
  ihave H := (rw_cut (c := c) (m := mm) (lo := 0) (n := 256) (lo' := 256) (n' := 768) (N := 1024) rfl rfl) $$ H
  icases H with ⟨H0, H⟩
  ihave H := (rw_cut (c := c) (m := mm) (lo := 256) (n := 128) (lo' := 384) (n' := 640) (N := 768) rfl rfl) $$ H
  icases H with ⟨H1, H⟩
  ihave H := (rw_cut (c := c) (m := mm) (lo := 384) (n := 64) (lo' := 448) (n' := 576) (N := 640) rfl rfl) $$ H
  icases H with ⟨H2, H⟩
  ihave H := (rw_cut (c := c) (m := mm) (lo := 448) (n := 32) (lo' := 480) (n' := 544) (N := 576) rfl rfl) $$ H
  icases H with ⟨H3, H⟩
  ihave H := (rw_cut (c := c) (m := mm) (lo := 480) (n := 32) (lo' := 512) (n' := 512) (N := 544) rfl rfl) $$ H
  icases H with ⟨H4, H⟩
  ihave H := (rw_cut (c := c) (m := mm) (lo := 512) (n := 256) (lo' := 768) (n' := 256) (N := 512) rfl rfl) $$ H
  icases H with ⟨H5, H⟩
  ihave H := (rw_cut (c := c) (m := mm) (lo := 768) (n := 128) (lo' := 896) (n' := 128) (N := 256) rfl rfl) $$ H
  icases H with ⟨H6, H⟩
  ihave H := (rw_cut (c := c) (m := mm) (lo := 896) (n := 64) (lo' := 960) (n' := 64) (N := 128) rfl rfl) $$ H
  icases H with ⟨H7, H⟩
  ihave H := (rw_cut (c := c) (m := mm) (lo := 960) (n := 32) (lo' := 992) (n' := 32) (N := 64) rfl rfl) $$ H
  icases H with ⟨H8, H⟩
  isplitl [H0 H1 H2 H3]
  · isplitl [H0]; · iexact H0
    isplitl [H1]; · iexact H1
    isplitl [H2]; · iexact H2
    iexact H3
  isplitl [H5 H6 H7 H8]
  · isplitl [H5]; · iexact H5
    isplitl [H6]; · iexact H6
    isplitl [H7]; · iexact H7
    iexact H8
  isplitl [H4]; · iexact H4
  iexact H

omit [Facts] in
theorem tall_glue {mm : Memref sig .tc .vmem S1024x1024 .bf16} :
    iprop((Stg mm 0 0 c ∗ Stg mm 0 1 c ∗ Stg mm 0 2 c ∗ Stg mm 0 3 c) ∗ (Stg mm 1 0 c ∗ Stg mm 1 1 c ∗ Stg mm 1 2 c ∗ Stg mm 1 3 c) ∗ Left mm c)
      ⊢ (Rw c mm fullShare 0 1024 Any : sProp 𝕄) := by
  iintro ⟨⟨H0, H1, H2, H3⟩, ⟨H5, H6, H7, H8⟩, H4, H⟩
  ihave H := (rw_glue (c := c) (m := mm) (q := fullShare) (P := Any) (lo := 960) (n := 32) (lo' := 992) (n' := 32) (N := 64) rfl rfl) $$ [H8 H]
  · isplitl [H8]; · iexact H8
    iexact H
  ihave H := (rw_glue (c := c) (m := mm) (q := fullShare) (P := Any) (lo := 896) (n := 64) (lo' := 960) (n' := 64) (N := 128) rfl rfl) $$ [H7 H]
  · isplitl [H7]; · iexact H7
    iexact H
  ihave H := (rw_glue (c := c) (m := mm) (q := fullShare) (P := Any) (lo := 768) (n := 128) (lo' := 896) (n' := 128) (N := 256) rfl rfl) $$ [H6 H]
  · isplitl [H6]; · iexact H6
    iexact H
  ihave H := (rw_glue (c := c) (m := mm) (q := fullShare) (P := Any) (lo := 512) (n := 256) (lo' := 768) (n' := 256) (N := 512) rfl rfl) $$ [H5 H]
  · isplitl [H5]; · iexact H5
    iexact H
  ihave H := (rw_glue (c := c) (m := mm) (q := fullShare) (P := Any) (lo := 480) (n := 32) (lo' := 512) (n' := 512) (N := 544) rfl rfl) $$ [H4 H]
  · isplitl [H4]; · iexact H4
    iexact H
  ihave H := (rw_glue (c := c) (m := mm) (q := fullShare) (P := Any) (lo := 448) (n := 32) (lo' := 480) (n' := 544) (N := 576) rfl rfl) $$ [H3 H]
  · isplitl [H3]; · iexact H3
    iexact H
  ihave H := (rw_glue (c := c) (m := mm) (q := fullShare) (P := Any) (lo := 384) (n := 64) (lo' := 448) (n' := 576) (N := 640) rfl rfl) $$ [H2 H]
  · isplitl [H2]; · iexact H2
    iexact H
  ihave H := (rw_glue (c := c) (m := mm) (q := fullShare) (P := Any) (lo := 256) (n := 128) (lo' := 384) (n' := 640) (N := 768) rfl rfl) $$ [H1 H]
  · isplitl [H1]; · iexact H1
    iexact H
  ihave H := (rw_glue (c := c) (m := mm) (q := fullShare) (P := Any) (lo := 0) (n := 256) (lo' := 256) (n' := 768) (N := 1024) rfl rfl) $$ [H0 H]
  · isplitl [H0]; · iexact H0
    iexact H
  iexact H

/-! ## The barrier -/

set_option maxHeartbeats 1000000 in
theorem wp_signalB {κ : Fin 4} {j : ℕ} (hj : κ.val = j) {d' : Dev nD} (hd : d'.val = (flip j c).val) {O : CellTallies nD τ sig ℕ}
    {k : PUnit → Prog (TpuEff nD τ sig (Elt F) Λ₀ .tc) α} :
    iprop(Recs 𝒞 ∗ dutyTok ER (gB (flip j c)) 0 κ ∗ barPay κ (flip j c) c ∗ (∃ W, owes (c : Thread nD τ) (O + tallyAt (gB (flip j c)) 0 1) W))
      ⊢ iprop(((∃ W, owes (c : Thread nD τ) O W) -∗ WP c (k ⟨⟩) Φ) -∗ WP c (semSignalWord d' sBar 1#32 >>= k) Φ) := by
  subst hj
  obtain rfl : d' = flip κ.val c := Fin.ext hd
  iintro ⟨#HR, Ht, Hpay, ⟨%W, Ho⟩⟩ Hk
  ihave HkB := (recs_B 𝒞 (flip κ.val c)) $$ HR
  unfold Known
  icases HkB with ⟨⟨%κ₁, #Hi⟩, #Hr⟩
  simp only [semSignalWord, Prog.bind_op, Prog.pure_eq_ret, Prog.bind_ret]
  rw [show (1#32 : BitVec 32).toInt = ((1 : ℕ) : ℤ) from rfl]
  have h0 : κ ∈ (Rd 𝒞).duties (gB (flip κ.val c)) 0 := by rw [duties_B, if_pos rfl]; exact Finset.mem_univ _
  iapply (wp_signal 𝒱₀ ER (Rd 𝒞) (c : Thread nD τ) none (dst := ((flip κ.val c : Dev nD) : Thread nD τ)) (κ := κ₁) h0 (amount_B 𝒞 _ κ) 0 O rfl) $$ [Ht Hpay Ho]
  · isplitr; · iexact Hi
    isplitl [Ho]; · iexact Ho
    isplitl [Ht]; · iexact Ht
    isplitl [Hpay]
    · rw [payload_B, flip_flip _ κ.isLt]; iexact Hpay
    iexact Hr
  iintro Ho
  iapply Hk
  iexists W; iexact Ho

set_option maxHeartbeats 1000000 in
theorem wp_waitB {k : PUnit → Prog (TpuEff nD τ sig (Elt F) Λ₀ .tc) α} :
    iprop(Recs 𝒞 ∗ atPos ER (gB c) 0 ∅ 0 ∗ cred (tallyAt (gB c) 0 4) ∗ Owe c 0)
      ⊢ iprop(((atPos ER (gB c) 1 ∅ 0 ∗ (bigSep Finset.univ fun k : Fin 4 => barPay k c (flip k c)) ∗ Owe c 0) -∗ WP c (k ⟨⟩) Φ)
          -∗ WP c (semWaitWord sBar 4#32 >>= k) Φ) := by
  unfold Owe
  iintro ⟨#HR, Hat, Hc, ⟨%W, Ho⟩⟩ Hk
  ihave HkB := (recs_B 𝒞 c) $$ HR
  ihave #Hlev := (recs_lev 𝒞) $$ HR
  unfold Known
  icases HkB with ⟨⟨%κ₁, #Hi⟩, #Hr⟩
  simp only [semWaitWord, Prog.bind_op, Prog.pure_eq_ret, Prog.bind_ret]
  rw [show (4#32 : BitVec 32).toInt = ((4 : ℕ) : ℤ) from rfl]
  iapply (wp_wait_rest_token 𝒱₀ ER (Rd 𝒞) (c : Thread nD τ) none (κ := κ₁)
      (wpE_semWait_eq 𝒱₀ (c : Thread nD τ) none Set.univ) (Set.mem_univ _) 0 (O := tally c (evs 0)) (W := W) (R := 0) (m := 0) (T := ∅)
      (by rw [Nat.zero_add, expect_B])) $$ [Hc Ho Hat]
  · isplitr; · iexact Hi
    isplitl [Hc]; · iexact Hc
    isplitl [Ho]; · iexact Ho
    isplitr
    · iapply (mayWait_tally (.reg sBar) 0 (by decide) (lvl := 1) rfl
        (fun e he => lt_of_lt_of_le (by decide) (evAll_ok e (List.mem_of_mem_drop he)).2.2)); iexact Hlev
    iexact Hat
  iintro ⟨Ho, Hat, -, Hpay⟩
  ihave Hpay := (Entails.of_eq (rest_B 𝒞 c)) $$ Hpay
  iapply Hk
  isplitl [Hat]; · iexact Hat
  isplitl [Hpay]; · iexact Hpay
  iexists _; iexact Ho

/-- Tell the neighbours, lending them what they write first; then wait for what they lend. -/
theorem wp_barrierPiece {d₁ d₂ d₃ d₄ : Dev nD} (h1 : d₁.val = (flip 0 c).val) (h2 : d₂.val = (flip 1 c).val)
    (h3 : d₃.val = (flip 2 c).val) (h4 : d₄.val = (flip 3 c).val)
    {k : PUnit → Prog (TpuEff nD τ sig (Elt F) Λ₀ .tc) α} :
    iprop(Recs 𝒞 ∗ atPos ER (gB c) 0 ∅ 0 ∗ cred (tallyAt (gB c) 0 4)
        ∗ (dutyTok ER (gB (flip 0 c)) 0 0 ∗ dutyTok ER (gB (flip 1 c)) 0 1 ∗ dutyTok ER (gB (flip 2 c)) 0 2 ∗ dutyTok ER (gB (flip 3 c)) 0 3)
        ∗ (barPay 0 (flip 0 c) c ∗ barPay 1 (flip 1 c) c ∗ barPay 2 (flip 2 c) c ∗ barPay 3 (flip 3 c) c)
        ∗ (∃ W, owes (c : Thread nD τ) (O₀ c) W))
      ⊢ iprop(((atPos ER (gB c) 1 ∅ 0 ∗ (barPay 0 c (flip 0 c) ∗ barPay 1 c (flip 1 c) ∗ barPay 2 c (flip 2 c) ∗ barPay 3 c (flip 3 c)) ∗ Owe c 0)
            -∗ WP c (k ⟨⟩) Φ)
          -∗ WP c (barrierPiece (F := F) d₁ d₂ d₃ d₄ >>= k) Φ) := by
  unfold barrierPiece O₀
  simp only [bind_assoc]
  iintro ⟨#HR, Hat, Hc, ⟨Ht0, Ht1, Ht2, Ht3⟩, ⟨Hp0, Hp1, Hp2, Hp3⟩, Ho⟩ Hk
  iapply (wp_signalB 𝒞 (κ := 0) (j := 0) rfl h1) $$ [$HR $Ht0 $Hp0 $Ho]
  iintro Ho
  iapply (wp_signalB 𝒞 (κ := 1) (j := 1) rfl h2) $$ [$HR $Ht1 $Hp1 $Ho]
  iintro Ho
  iapply (wp_signalB 𝒞 (κ := 2) (j := 2) rfl h3) $$ [$HR $Ht2 $Hp2 $Ho]
  iintro Ho
  iapply (wp_signalB 𝒞 (κ := 3) (j := 3) rfl h4) $$ [$HR $Ht3 $Hp3 $Ho]
  iintro Ho
  ihave Howe := (show iprop(∃ W, owes (c : Thread nD τ) (tally c evAll) W) ⊢ (Owe c 0 : sProp 𝕄) from BI.Entails.refl _) $$ Ho
  iapply (wp_waitB 𝒞) $$ [$HR $Hat $Hc $Howe]
  iintro ⟨Hat, Hpay, Howe⟩
  ihave Hpay := (Entails.of_eq (bigSep_four (fun k : Fin 4 => (barPay k c (flip k c) : sProp 𝕄)))) $$ Hpay
  icases Hpay with ⟨Hp0, Hp1, Hp2, Hp3⟩
  iapply Hk
  isplitl [Hat]; · iexact Hat
  isplitr [Howe]
  · isplitl [Hp0]; · iexact Hp0
    isplitl [Hp1]; · iexact Hp1
    isplitl [Hp2]; · iexact Hp2
    iexact Hp3
  iexact Howe

/-! ## The first layer's `hact` -/

theorem wp_headPiece {o : ℕ} (ho : o + 1024 ≤ 2048) {x : Vec F S1024x1024 .bf16} (hx : ∀ j, 𝒞.X 0 (j 0).val (j 1).val (x j))
    {P : ℕ → ℕ → Elt F .bf16 → Prop} {P' : ℕ → ℕ → Elt F .bf16 → Prop}
    {ow : Fin 3 → ℕ} {iw} {oh : Fin 2 → ℕ} {ih} {pk} (how : ow = ![0, 0, o]) (hoh : oh = ![0, o])
    (hnew : ∀ r j v, o ≤ j → j < o + 1024 → 𝒞.H 0 c r j v → P' r j v) (hold : ∀ r j v, j < 2048 → ¬ (o ≤ j ∧ j < o + 1024) → P r j v → P' r j v)
    {k : PUnit → Prog (TpuEff nD τ sig (Elt F) Λ₀ .tc) α} :
    iprop(Pl c mWin 0 (k0_pay2 (w1 m 0 c)) ∗ Rw c mHact fullShare 0 1024 P)
      ⊢ iprop(((Pl c mWin 0 (k0_pay2 (w1 m 0 c)) ∗ Rw c mHact fullShare 0 1024 P') -∗ WP c (k ⟨⟩) Φ)
          -∗ WP c (headPiece (F := F) x ow iw oh ih pk >>= k) Φ) := by
  subst how hoh
  have hsub : ∀ i : (Tall 2048).Idx, i ∈ rows 2048 0 1024 := fun i => mem_rows.mpr ⟨Nat.zero_le _, by have : (i 0).val < 1024 := (i 0).isLt; omega⟩
  unfold headPiece
  simp only [bind_assoc]
  iintro ⟨Hw, Hh⟩ Hk
  iapply (wp_ld (c := c) (m := mWin) (S := plane 1024 2048 0) (fun i hi => by
    obtain ⟨j, rfl⟩ := (Rect.unit (s := S2x1024x2048) ![0, 0, o] S1x1024x1024.size iw).toLoadRect.exists_idx_of_mem hi
    refine mem_plane.mpr ?_
    have hj : (j 0).val < 1 := (j 0).isLt
    show 0 + 1 * (j 0).val = 0
    omega)) $$ Hw
  iintro %w %hw Hw
  iapply (wp_ld (c := c) (m := mHact) (S := rows 2048 0 1024) (fun i _ => hsub i)) $$ Hh
  iintro %_ %_ Hh
  iapply (wp_stIn (c := c) (m := mHact) (S := rows 2048 0 1024) (P' := fun i v => P' (i 0).val (i 1).val v) (fun i _ => hsub i)
    (fun j => by
      have hj : (j 1).val < 1024 := (j 1).isLt
      have e0 : ((Rect.unit (s := S1024x2048) ![0, o] S1024x1024.size ih).emb j 0).val = (j 0).val := by
        show 0 + 1 * (j 0).val = _; omega
      have e1 : ((Rect.unit (s := S1024x2048) ![0, o] S1024x1024.size ih).emb j 1).val = o + (j 1).val := by
        show o + 1 * (j 1).val = _; omega
      rw [e0, e1]
      refine hnew _ _ _ (by omega) (by omega) (𝒞.head c x w o hx (fun j' k' h1 h2 => ?_) j ho)
      refine hw j' k' ?_ ?_
      · show (k' 1).val = 0 + 1 * (j' 1).val; omega
      · show (k' 2).val = o + 1 * (j' 2).val; omega)
    (fun i _ hn v hv => hold _ _ _ (i 1).isLt (fun hh => hn (by
      rw [LoadRect.mem_set]
      intro a
      match a with
      | ⟨0, _⟩ => exact ⟨(i 0).val, (i 0).isLt, by show (i 0).val = 0 + 1 * (i 0).val; omega⟩
      | ⟨1, _⟩ => exact ⟨(i 1).val - o, by show (i 1).val - o < 1024; omega, by show (i 1).val = o + 1 * ((i 1).val - o); omega⟩)) hv)) $$ Hh
  iintro Hh
  iapply Hk
  iframe Hw Hh

theorem wp_headPieces {k : PUnit → Prog (TpuEff nD τ sig (Elt F) Λ₀ .tc) α} :
    iprop(XB 𝒞 (Finset.range 16) c ∗ Pl c mWin 0 (k0_pay2 (w1 m 0 c)) ∗ Rw c mHact fullShare 0 1024 Any)
      ⊢ iprop(((Rw c mOut fullShare 0 1024 Any ∗ Pl c mWin 0 (k0_pay2 (w1 m 0 c))
            ∗ Rw c mHact fullShare (512 * (0 : Fin 2).val) 512 (𝒞.H 0 c) ∗ Rw c mHact fullShare (512 * (1 : Fin 2).val) 512 (𝒞.H 0 c)) -∗ WP c (k ⟨⟩) Φ)
          -∗ WP c (headPieces (F := F) >>= k) Φ) := by
  unfold headPieces
  simp only [bind_assoc]
  iintro ⟨Hx, Hw, Hh⟩ Hk
  iapply (wp_ld (c := c) (m := mOut) (S := blks (Finset.range 16)) (fun i _ => by
    rw [blks_all]; exact mem_rows.mpr ⟨Nat.zero_le _, by have : (i 0).val < 1024 := (i 0).isLt; omega⟩)) $$ Hx
  iintro %x %hx Hx
  have hx' : ∀ j, 𝒞.X 0 (j 0).val (j 1).val (x j) := fun j => by
    have h := hx j
    have e0 : ((Rect.unit (s := S1024x1024) ![0, 0] S1024x1024.size inb_S1024x1024_S1024x1024_0_0).emb j 0).val = (j 0).val := by
      show 0 + 1 * (j 0).val = _; omega
    have e1 : ((Rect.unit (s := S1024x1024) ![0, 0] S1024x1024.size inb_S1024x1024_S1024x1024_0_0).emb j 1).val = (j 1).val := by
      show 0 + 1 * (j 1).val = _; omega
    rwa [e0, e1] at h
  iapply (wp_headPiece 𝒞 (o := 0) (by decide) hx' (P := Any) (P' := fun r j v => j < 1024 → 𝒞.H 0 c r j v) rfl rfl
    (fun r j v _ _ h _ => h) (fun r j v _ hn _ h => absurd ⟨Nat.zero_le _, by omega⟩ hn)) $$ [$Hw $Hh]
  iintro ⟨Hw, Hh⟩
  iapply (wp_headPiece 𝒞 (o := 1024) (by decide) hx' (P := fun r j v => j < 1024 → 𝒞.H 0 c r j v) (P' := 𝒞.H 0 c) rfl rfl
    (fun r j v _ _ h => h) (fun r j v h1 hn h => h (by omega))) $$ [$Hw $Hh]
  iintro ⟨Hw, Hh⟩
  ihave Hh := (rw_cut (c := c) (m := mHact) (q := fullShare) (P := 𝒞.H 0 c) (lo := 0) (n := 512) (lo' := 512) (n' := 512) (N := 1024) rfl rfl) $$ Hh
  icases Hh with ⟨Hh0, Hh1⟩
  iapply Hk
  isplitl [Hx]
  · rw [blks_all]; iapply own_any; iexact Hx
  isplitl [Hw]; · iexact Hw
  isplitl [Hh0]; · iexact Hh0
  iexact Hh1

end Cert.KernelIdeal.Gen

end
-- ==== Proof.Body.lean ====
/- The whole body, from what a device has at launch to what it ends with. -/
module

public import proofs.«01_k».proof.Proof.Use
public import proofs.«01_k».proof.Proof.Weights
public import proofs.«01_k».proof.Proof.Start

@[expose] public section

set_option maxRecDepth 65536

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig ℕ (Elt F) ℕ UU ℕ

variable {m : (ℓ : Loc nD τ sig) → Buf (Elt F) ℓ} (𝒞 : Contract (F := F) m)
variable {α : Type} {Φ : α → sProp (MT nD τ sig ℕ (Elt F) ℕ UU ℕ)} {c : Dev nD}

/-! ## What a device's run takes and gives back -/

/-- The kernel's scratch buffers, at some contents. -/
def Mem (c : Dev nD) : sProp 𝕄 :=
  iprop(Rw c mOut fullShare 0 1024 Any ∗ Rw c mSend fullShare 0 1024 Any ∗ Rw c mStage fullShare 0 1024 Any ∗ Rw c mAcc fullShare 0 1024 Any
    ∗ Rw c mHact fullShare 0 1024 Any ∗ Own (F := F) c mWin fullShare Finset.univ (fun _ _ => True) ∗ Own (F := F) c mWout fullShare Finset.univ (fun _ _ => True)
    ∗ Own (F := F) c mWst fullShare Finset.univ (fun _ _ => True) ∗ Own (F := F) c mOst fullShare Finset.univ (fun _ _ => True))
/-- The weights. -/
def Args (c : Dev nD) : sProp 𝕄 :=
  iprop((argAt (m := m) 0 0 c ∗ argAt (m := m) 1 0 c) ∗ (argAt (m := m) 0 1 c ∗ argAt (m := m) 1 1 c) ∗ (argAt (m := m) 0 2 c ∗ argAt (m := m) 1 2 c))
/-- The exchanges' transfers before layer `r`, -/
def SlB (r : ℕ) (b : Fin 2) (c : Dev nD) : sProp 𝕄 :=
  iprop((Sl (.R b 0) r c ∗ Sl (.R b 1) r c ∗ Sl (.R b 2) r c ∗ Sl (.R b 3) r c) ∗ (Sl (.A b 0) r c ∗ Sl (.A b 1) r c ∗ Sl (.A b 2) r c ∗ Sl (.A b 3) r c))
/-- those of the input, -/
def SlX (r : ℕ) (c : Dev nD) : sProp 𝕄 :=
  iprop(Sl (.X 0) r c ∗ Sl (.X 1) r c ∗ Sl (.X 2) r c ∗ Sl (.X 3) r c ∗ Sl (.X 4) r c ∗ Sl (.X 5) r c ∗ Sl (.X 6) r c ∗ Sl (.X 7) r c ∗ Sl (.X 8) r c ∗ Sl (.X 9) r c ∗ Sl (.X 10) r c ∗ Sl (.X 11) r c ∗ Sl (.X 12) r c ∗ Sl (.X 13) r c ∗ Sl (.X 14) r c)
/-- and the barrier's tokens. -/
def BarIn (c : Dev nD) : sProp 𝕄 :=
  iprop(atPos ER (gB c) 0 ∅ 0 ∗ cred (tallyAt (gB c) 0 4)
    ∗ (dutyTok ER (gB (flip 0 c)) 0 0 ∗ dutyTok ER (gB (flip 1 c)) 0 1 ∗ dutyTok ER (gB (flip 2 c)) 0 2 ∗ dutyTok ER (gB (flip 3 c)) 0 3))

theorem rs_start {b : Fin 2} {t : ℕ} : iprop(Recs 𝒞 ∗ Sl (.R b t) 0 c ∗ Sl (.A b t) 0 c ∗ Stg mSend b t c ∗ Stg mStage b t (peer b t c)) ⊢ RSst (F := F) b t 0 c := by
  unfold RSst
  rw [if_pos (by decide)]
  iintro ⟨#HR, H1, H2, H3, H4⟩
  ihave Hre := (recs_reached 𝒞 (.R b t) (peer b t c)) $$ HR
  iframe H1 H2 H3 H4 Hre

omit [Facts] in
theorem rs_end {b : Fin 2} {t : ℕ} : (RSst b t 3 c : sProp 𝕄) ⊢ iprop(Sl (.R b t) 3 c ∗ Sl (.A b t) 3 c ∗ Stg mSend b t c ∗ Stg mStage b t c) := by
  unfold RSst
  rw [if_neg (by decide)]

theorem idle_start {b : Fin 2} : iprop(Recs 𝒞 ∗ SlB 0 b c ∗ Rw c mAcc fullShare (512 * b.val) 512 Any ∗ Rw c mOut fullShare (512 * b.val) 512 Any
      ∗ (Stg mSend b 0 c ∗ Stg mSend b 1 c ∗ Stg mSend b 2 c ∗ Stg mSend b 3 c)
      ∗ (Stg mStage b 0 (peer b 0 c) ∗ Stg mStage b 1 (peer b 1 c) ∗ Stg mStage b 2 (peer b 2 c) ∗ Stg mStage b 3 (peer b 3 c)))
    ⊢ Idle (F := F) 0 b c := by
  unfold Idle SlB
  iintro ⟨#HR, ⟨⟨H0, H1, H2, H3⟩, ⟨A0, A1, A2, A3⟩⟩, Ha, Ho, ⟨S0, S1, S2, S3⟩, ⟨T0, T1, T2, T3⟩⟩
  ihave R0 := (rs_start 𝒞 (b := b) (t := 0)) $$ [$HR $H0 $A0 $S0 $T0]
  ihave R1 := (rs_start 𝒞 (b := b) (t := 1)) $$ [$HR $H1 $A1 $S1 $T1]
  ihave R2 := (rs_start 𝒞 (b := b) (t := 2)) $$ [$HR $H2 $A2 $S2 $T2]
  ihave R3 := (rs_start 𝒞 (b := b) (t := 3)) $$ [$HR $H3 $A3 $S3 $T3]
  isplitl [Ha]; · iexact Ha
  isplitl [Ho]; · iexact Ho
  iframe R0 R1 R2 R3

omit [Facts] in
theorem idle_end {b : Fin 2} : (Idle 3 b c : sProp 𝕄) ⊢ iprop(SlB 3 b c ∗ Rw c mAcc fullShare (512 * b.val) 512 Any ∗ Rw c mOut fullShare (512 * b.val) 512 Any
      ∗ (Stg mSend b 0 c ∗ Stg mSend b 1 c ∗ Stg mSend b 2 c ∗ Stg mSend b 3 c)
      ∗ (Stg mStage b 0 c ∗ Stg mStage b 1 c ∗ Stg mStage b 2 c ∗ Stg mStage b 3 c)) := by
  unfold Idle SlB
  iintro ⟨Ha, Ho, R0, R1, R2, R3⟩
  ihave R0 := rs_end $$ R0
  icases R0 with ⟨H0, A0, S0, T0⟩
  ihave R1 := rs_end $$ R1
  icases R1 with ⟨H1, A1, S1, T1⟩
  ihave R2 := rs_end $$ R2
  icases R2 with ⟨H2, A2, S2, T2⟩
  ihave R3 := rs_end $$ R3
  icases R3 with ⟨H3, A3, S3, T3⟩
  isplitl [H0 H1 H2 H3 A0 A1 A2 A3]
  · isplitl [H0 H1 H2 H3]
    · iframe H0 H1 H2 H3
    · iframe A0 A1 A2 A3
  isplitl [Ha]; · iexact Ha
  isplitl [Ho]; · iexact Ho
  isplitl [S0 S1 S2 S3]
  · iframe S0 S1 S2 S3
  · iframe T0 T1 T2 T3

omit [Facts] in
theorem planes_cut {a b : ℕ} {e : EltTy} {mm : Memref sig .tc .vmem ⟨3, ![2, a, b]⟩ e} :
    (Own c mm fullShare Finset.univ (fun _ _ => True) : sProp 𝕄) ⊢ iprop(PlAny c mm 0 ∗ PlAny c mm 1) :=
  own_split (by
    rw [Finset.disjoint_left]; intro i h1 h2
    rw [mem_plane] at h1 h2; omega)
    (by
      ext i
      have : (i 0).val < 2 := (i 0).isLt
      rw [Finset.mem_union, mem_plane, mem_plane]
      simp only [Finset.mem_univ, true_iff]; omega)
omit [Facts] in
theorem planes_glue {a b : ℕ} {e : EltTy} {mm : Memref sig .tc .vmem ⟨3, ![2, a, b]⟩ e} :
    iprop(PlAny c mm 0 ∗ PlAny c mm 1) ⊢ (Own c mm fullShare Finset.univ (fun _ _ => True) : sProp 𝕄) :=
  own_join (by
    rw [Finset.disjoint_left]; intro i h1 h2
    rw [mem_plane] at h1 h2; omega)
    (by
      ext i
      have : (i 0).val < 2 := (i 0).isLt
      rw [Finset.mem_union, mem_plane, mem_plane]
      simp only [Finset.mem_univ, true_iff]; omega)

/-- What the neighbours lend in the barrier is what the first exchanges and the spreading write. -/
theorem lent : iprop(barPay 0 c (flip 0 c) ∗ barPay 1 c (flip 1 c) ∗ barPay 2 c (flip 2 c) ∗ barPay 3 c (flip 3 c))
    ⊢ (iprop((Stg mStage 0 0 (peer 0 0 c) ∗ Stg mStage 0 1 (peer 0 1 c) ∗ Stg mStage 0 2 (peer 0 2 c) ∗ Stg mStage 0 3 (peer 0 3 c))
      ∗ (Stg mStage 1 0 (peer 1 0 c) ∗ Stg mStage 1 1 (peer 1 1 c) ∗ Stg mStage 1 2 (peer 1 2 c) ∗ Stg mStage 1 3 (peer 1 3 c))
      ∗ AB (blksTo 0 c) (flip 0 c) ∗ AB (blksTo 1 c) (flip 1 c) ∗ AB (blksTo 2 c) (flip 2 c) ∗ AB (blksTo 3 c) (flip 3 c)) : sProp 𝕄) := by
  unfold barPay
  iintro ⟨⟨H00, H10, B0⟩, ⟨H01, H11, B1⟩, ⟨H02, H12, B2⟩, ⟨H03, H13, B3⟩⟩
  isplitl [H00 H01 H02 H03]
  · isplitl [H00]; · iexact H00
    isplitl [H02]; · iexact H02
    isplitl [H01]; · iexact H01
    iexact H03
  isplitl [H10 H11 H12 H13]
  · isplitl [H12]; · iexact H12
    isplitl [H10]; · iexact H10
    isplitl [H13]; · iexact H13
    iexact H11
  isplitl [B0]; · iexact B0
  isplitl [B1]; · iexact B1
  isplitl [B2]; · iexact B2
  iexact B3

theorem lend : iprop((Stg mStage 0 0 c ∗ Stg mStage 0 1 c ∗ Stg mStage 0 2 c ∗ Stg mStage 0 3 c)
      ∗ (Stg mStage 1 0 c ∗ Stg mStage 1 1 c ∗ Stg mStage 1 2 c ∗ Stg mStage 1 3 c)
      ∗ AB (blksTo 0 (flip 0 c)) c ∗ AB (blksTo 1 (flip 1 c)) c ∗ AB (blksTo 2 (flip 2 c)) c ∗ AB (blksTo 3 (flip 3 c)) c)
    ⊢ (iprop(barPay 0 (flip 0 c) c ∗ barPay 1 (flip 1 c) c ∗ barPay 2 (flip 2 c) c ∗ barPay 3 (flip 3 c) c) : sProp 𝕄) := by
  unfold barPay
  iintro ⟨⟨H00, H02, H01, H03⟩, ⟨H12, H10, H13, H11⟩, B0, B1, B2, B3⟩
  isplitl [H00 H10 B0]
  · isplitl [H00]; · iexact H00
    isplitl [H10]; · iexact H10
    iexact B0
  isplitl [H01 H11 B1]
  · isplitl [H01]; · iexact H01
    isplitl [H11]; · iexact H11
    iexact B1
  isplitl [H02 H12 B2]
  · isplitl [H02]; · iexact H02
    isplitl [H12]; · iexact H12
    iexact B2
  isplitl [H03]; · iexact H03
  isplitl [H13]; · iexact H13
  iexact B3

/-- The part of the body before the first layer's exchanges. -/
def progA (d : Dev nD) : Prog (TpuEff nD τ sig (Elt F) Λ₀ .tc) PUnit := do
  inPiece (F := F) (k0_off1 d) (k0_off1_inb d) ((Memref.isWhole_whole _).storeExact_slice rfl _ (k0_off1_packedbf16 d))
  loadPiece (F := F) (Memref.whole main_arg1) (Memref.isWhole_whole _).wordExact (Memref.whole main_arg2) (Memref.isWhole_whole _).wordExact
  barrierPiece (F := F) ⟨k0_dev1 d, k0_dev1_lt d⟩ ⟨k0_dev2 d, k0_dev2_lt d⟩ ⟨k0_dev3 d, k0_dev3_lt d⟩ ⟨k0_dev4 d, k0_dev4_lt d⟩
  spread (F := F) d
  storePiece (F := F) (Memref.whole main_arg1) (Memref.isWhole_whole _).wordExact (Memref.whole main_arg2) (Memref.isWhole_whole _).wordExact ![0, 0, 0] inb_S2x1024x2048_S1x1024x2048_0_0_0 ((Memref.isWhole_whole _).storeExact_slice rfl _ packedbf16_S2x1024x2048_S1x1024x2048_0_0_0) ![0, 0, 0] inb_S2x2048x1024_S1x2048x1024_0_0_0 ((Memref.isWhole_whole _).storeExact_slice rfl _ packedbf16_S2x2048x1024_S1x2048x1024_0_0_0)
  loadPiece (F := F) (Memref.whole main_arg3) (Memref.isWhole_whole _).wordExact (Memref.whole main_arg4) (Memref.isWhole_whole _).wordExact
  headPieces (F := F)

/-- The rest. -/
def progB (d : Dev nD) : Prog (TpuEff nD τ sig (Elt F) Λ₀ .tc) PUnit := do
  layerDot (F := F) d (dv0 d) ![0, 0, 0] inb_S2x2048x1024_S1x2048x1024_0_0_0
  storePiece (F := F) (Memref.whole main_arg1) (Memref.isWhole_whole _).wordExact (Memref.whole main_arg2) (Memref.isWhole_whole _).wordExact ![1, 0, 0] inb_S2x1024x2048_S1x1024x2048_1_0_0 ((Memref.isWhole_whole _).storeExact_slice rfl _ packedbf16_S2x1024x2048_S1x1024x2048_1_0_0) ![1, 0, 0] inb_S2x2048x1024_S1x2048x1024_1_0_0 ((Memref.isWhole_whole _).storeExact_slice rfl _ packedbf16_S2x2048x1024_S1x2048x1024_1_0_0)
  loadPiece (F := F) (Memref.whole main_arg5) (Memref.isWhole_whole _).wordExact (Memref.whole main_arg6) (Memref.isWhole_whole _).wordExact
  layerReduce (F := F) d (dv0 d)
  layerGather (F := F) d (dv0 d) (toHact (F := F) d ![1, 0, 0] inb_S2x1024x2048_S1x1024x2048_1_0_0)
  layerDot (F := F) d (dv1 d) ![1, 0, 0] inb_S2x2048x1024_S1x2048x1024_1_0_0
  storePiece (F := F) (Memref.whole main_arg1) (Memref.isWhole_whole _).wordExact (Memref.whole main_arg2) (Memref.isWhole_whole _).wordExact ![0, 0, 0] inb_S2x1024x2048_S1x1024x2048_0_0_0 ((Memref.isWhole_whole _).storeExact_slice rfl _ packedbf16_S2x1024x2048_S1x1024x2048_0_0_0) ![0, 0, 0] inb_S2x2048x1024_S1x2048x1024_0_0_0 ((Memref.isWhole_whole _).storeExact_slice rfl _ packedbf16_S2x2048x1024_S1x2048x1024_0_0_0)
  layerReduce (F := F) d (dv1 d)
  layerGather (F := F) d (dv1 d) (toHact (F := F) d ![0, 0, 0] inb_S2x1024x2048_S1x1024x2048_0_0_0)
  layerDot (F := F) d (dv2 d) ![0, 0, 0] inb_S2x2048x1024_S1x2048x1024_0_0_0
  layerReduce (F := F) d (dv2 d)
  layerGather (F := F) d (dv2 d) (toOut (F := F) d)

theorem prog_eq (d : Dev nD) : prog (F := F) d = (progA (F := F) d >>= fun _ => progB (F := F) d) := by
  unfold prog progA progB
  simp only [bind_assoc]

/-- The state between the two. -/
def Half (c : Dev nD) : sProp 𝕄 :=
  iprop(SlX 1 c ∗ (Idle 0 0 c ∗ Idle 0 1 c) ∗ (CFly 0 1 c ∗ CFly 1 1 c) ∗ atPos ER (gB c) 1 ∅ 0 ∗ Owe c 15
    ∗ ((argAt (m := m) 0 0 c ∗ argAt (m := m) 1 0 c) ∗ (argAt (m := m) 0 2 c ∗ argAt (m := m) 1 2 c))
    ∗ (Left mStage c ∗ Left mSend c)
    ∗ (Rw c mHact fullShare (512 * (0 : Fin 2).val) 512 (𝒞.H 0 c) ∗ Rw c mHact fullShare (512 * (1 : Fin 2).val) 512 (𝒞.H 0 c))
    ∗ (Pl c mWin 0 (k0_pay2 (w1 m 0 c)) ∗ PlAny c mWin 1) ∗ (Pl c mWout 0 (k0_pay3 (w2 m 0 c)) ∗ PlAny c mWout 1))

set_option maxHeartbeats 4000000 in
theorem wp_progA {k : PUnit → Prog (TpuEff nD τ sig (Elt F) Λ₀ .tc) α} :
    iprop(Recs 𝒞 ∗ SlX 0 c ∗ (SlB 0 0 c ∗ SlB 0 1 c) ∗ (CSl 0 0 c ∗ CSl 1 0 c) ∗ BarIn c ∗ (∃ W, owes (c : Thread nD τ) (O₀ c) W)
        ∗ Args (m := m) c ∗ Mem c ∗ Own c mX fullShare Finset.univ (fun i v => v = x0 m c i))
      ⊢ iprop(((Half 𝒞 c ∗ Own c mX fullShare Finset.univ (fun i v => v = x0 m c i)) -∗ WP c (k ⟨⟩) Φ) -∗ WP c (progA (F := F) c >>= k) Φ) := by
  obtain ⟨b1, b2, b3, b4⟩ := devB c
  unfold progA Mem Args BarIn SlX
  simp only [bind_assoc]
  iintro ⟨#HR, HX, ⟨HB0, HB1⟩, ⟨HC0, HC1⟩, ⟨Hat, Hcr, Hdt⟩, Howe, ⟨⟨Ha00, Ha10⟩, ⟨Ha01, Ha11⟩, ⟨Ha02, Ha12⟩⟩, ⟨Mo, Ms, Mt, Ma, Mh, Mwi, Mwo, Mws, Mos⟩, Mx⟩ Hk
  iapply (wp_inPiece 𝒞 (off1_eq c)) $$ [$Mx $Mo]
  iintro ⟨Mx, Hx, Hrest⟩
  iapply (wp_loadPiece 𝒞 (r := 0) (by decide) (arg_pts main_arg1 rfl) (arg_pts main_arg2 rfl) rfl rfl) $$ [$HR $HC0 $HC1 $Ha00 $Ha10 $Mws $Mos]
  iintro ⟨HC0, HC1⟩
  ihave Mt := tall_cut $$ Mt
  icases Mt with ⟨Mt0, Mt1, Mtl⟩
  ihave Ms := tall_cut $$ Ms
  icases Ms with ⟨Ms0, Ms1, Msl⟩
  ihave Hrest := give_blocks $$ Hrest
  ihave Hlend := lend $$ [$Mt0 $Mt1 $Hrest]
  iapply (wp_barrierPiece 𝒞 b1 b2 b3 b4) $$ [$HR $Hat $Hcr $Hdt $Hlend $Howe]
  iintro ⟨Hat, Hlent, Howe⟩
  ihave Hlent := lent $$ Hlent
  icases Hlent with ⟨Mt0, Mt1, B0, B1, B2, B3⟩
  iapply (wp_spread 𝒞) $$ [$HR $HX $Hx $B0 $B1 $B2 $B3 $Howe]
  iintro ⟨HX, Hx, Howe⟩
  ihave Mwi := planes_cut $$ Mwi
  icases Mwi with ⟨Mwi0, Mwi1⟩
  ihave Mwo := planes_cut $$ Mwo
  icases Mwo with ⟨Mwo0, Mwo1⟩
  iapply (wp_storePiece 𝒞 (r := 0) (p := 0) (by decide) rfl rfl) $$ [$HR $HC0 $HC1 $Mwi0 $Mwo0 $Howe]
  iintro ⟨HC0, HC1, Ha00, Ha10, Mws, Mos, Mwi0, Mwo0, Howe⟩
  iapply (wp_loadPiece 𝒞 (r := 1) (by decide) (arg_pts main_arg3 rfl) (arg_pts main_arg4 rfl) rfl rfl) $$ [$HR $HC0 $HC1 $Ha01 $Ha11 $Mws $Mos]
  iintro ⟨HC0, HC1⟩
  iapply (wp_headPieces 𝒞) $$ [$Hx $Mwi0 $Mh]
  iintro ⟨Mo, Mwi0, Mh0, Mh1⟩
  ihave Mo := (rw_cut (c := c) (m := mOut) (lo := 0) (n := 512) (lo' := 512) (n' := 512) (N := 1024) rfl rfl) $$ Mo
  icases Mo with ⟨Mo0, Mo1⟩
  ihave Ma := (rw_cut (c := c) (m := mAcc) (lo := 0) (n := 512) (lo' := 512) (n' := 512) (N := 1024) rfl rfl) $$ Ma
  icases Ma with ⟨Ma0, Ma1⟩
  ihave I0 := (idle_start 𝒞 (b := 0)) $$ [HB0 Ma0 Mo0 Ms0 Mt0]
  · isplitr; · iexact HR
    isplitl [HB0]; · iexact HB0
    isplitl [Ma0]; · iexact Ma0
    isplitl [Mo0]; · iexact Mo0
    isplitl [Ms0]; · iexact Ms0
    iexact Mt0
  ihave I1 := (idle_start 𝒞 (b := 1)) $$ [HB1 Ma1 Mo1 Ms1 Mt1]
  · isplitr; · iexact HR
    isplitl [HB1]; · iexact HB1
    isplitl [Ma1]; · iexact Ma1
    isplitl [Mo1]; · iexact Mo1
    isplitl [Ms1]; · iexact Ms1
    iexact Mt1
  iapply Hk
  unfold Half SlX
  isplitr [Mx]
  · iframe HX I0 I1 HC0 HC1 Hat Howe Ha00 Ha10 Ha02 Ha12 Mtl Msl Mh0 Mh1 Mwi0 Mwi1 Mwo0 Mwo1
  iexact Mx

set_option maxHeartbeats 4000000 in
theorem wp_progB {k : PUnit → Prog (TpuEff nD τ sig (Elt F) Λ₀ .tc) α} :
    iprop(Recs 𝒞 ∗ Half 𝒞 c ∗ Rw c mO fullShare 0 1024 Any)
      ⊢ iprop(((SlX 1 c ∗ (SlB 3 0 c ∗ SlB 3 1 c) ∗ (CSl 0 3 c ∗ CSl 1 3 c) ∗ atPos ER (gB c) 1 ∅ 0 ∗ Owe c 63
            ∗ Args (m := m) c ∗ Mem c ∗ Rw c mO fullShare 0 1024 𝒞.O) -∗ WP c (k ⟨⟩) Φ)
          -∗ WP c (progB (F := F) c >>= k) Φ) := by
  unfold progB Half Mem Args
  simp only [bind_assoc, dv0_eq, dv1_eq, dv2_eq]
  iintro ⟨#HR, ⟨HX, ⟨I0, I1⟩, ⟨HC0, HC1⟩, Hat, Howe, ⟨⟨Ha00, Ha10⟩, ⟨Ha02, Ha12⟩⟩, ⟨Mtl, Msl⟩, ⟨Mh0, Mh1⟩, ⟨Mwi0, Mwi1⟩, ⟨Mwo0, Mwo1⟩⟩, Mr⟩ Hk
  iapply (wp_layerDot 𝒞 (l := 0) (p := 0) (by decide) rfl) $$ [$HR $Mh0 $Mh1 $Mwo0 $I0 $I1 $Howe]
  iintro ⟨Mh0, Mh1, Mwo0, I0, I1, Howe⟩
  iapply (wp_storePiece 𝒞 (r := 1) (p := 1) (by decide) rfl rfl) $$ [$HR $HC0 $HC1 $Mwi1 $Mwo1 $Howe]
  iintro ⟨HC0, HC1, Ha01, Ha11, Mws, Mos, Mwi1, Mwo1, Howe⟩
  iapply (wp_loadPiece 𝒞 (r := 2) (by decide) (arg_pts main_arg5 rfl) (arg_pts main_arg6 rfl) rfl rfl) $$ [$HR $HC0 $HC1 $Ha02 $Ha12 $Mws $Mos]
  iintro ⟨HC0, HC1⟩
  iapply (wp_layerReduce 𝒞 (l := 0) (by decide)) $$ [$HR $I0 $I1 $Howe]
  iintro ⟨I0, I1, Howe⟩
  iapply (wp_gatherHact 𝒞 (l := 0) (p := 1) (by decide) rfl) $$ [$HR $I0 $I1 $Mwi1 $Mh0 $Mh1 $Howe]
  iintro ⟨I0, I1, Mwi1, Mh0, Mh1, Howe⟩
  iapply (wp_layerDot 𝒞 (l := 1) (p := 1) (by decide) rfl) $$ [$HR $Mh0 $Mh1 $Mwo1 $I0 $I1 $Howe]
  iintro ⟨Mh0, Mh1, Mwo1, I0, I1, Howe⟩
  ihave Mwi0 := own_any $$ Mwi0
  ihave Mwo0 := own_any $$ Mwo0
  iapply (wp_storePiece 𝒞 (r := 2) (p := 0) (by decide) rfl rfl) $$ [$HR $HC0 $HC1 $Mwi0 $Mwo0 $Howe]
  iintro ⟨HC0, HC1, Ha02, Ha12, Mws, Mos, Mwi0, Mwo0, Howe⟩
  iapply (wp_layerReduce 𝒞 (l := 1) (by decide)) $$ [$HR $I0 $I1 $Howe]
  iintro ⟨I0, I1, Howe⟩
  iapply (wp_gatherHact 𝒞 (l := 1) (p := 0) (by decide) rfl) $$ [$HR $I0 $I1 $Mwi0 $Mh0 $Mh1 $Howe]
  iintro ⟨I0, I1, Mwi0, Mh0, Mh1, Howe⟩
  iapply (wp_layerDot 𝒞 (l := 2) (p := 0) (by decide) rfl) $$ [$HR $Mh0 $Mh1 $Mwo0 $I0 $I1 $Howe]
  iintro ⟨Mh0, Mh1, Mwo0, I0, I1, Howe⟩
  iapply (wp_layerReduce 𝒞 (l := 2) (by decide)) $$ [$HR $I0 $I1 $Howe]
  iintro ⟨I0, I1, Howe⟩
  ihave Mr := (rw_cut (c := c) (m := mO) (lo := 0) (n := 512) (lo' := 512) (n' := 512) (N := 1024) rfl rfl) $$ Mr
  icases Mr with ⟨Mr0, Mr1⟩
  iapply (wp_gatherOut 𝒞 (P := Any)) $$ [I0 I1 Mr0 Mr1 Howe]
  · isplitr; · iexact HR
    isplitl [I0]; · iexact I0
    isplitl [I1]; · iexact I1
    isplitl [Mr0]; · iexact Mr0
    isplitl [Mr1]; · iexact Mr1
    iexact Howe
  iintro ⟨I0, I1, Mr0, Mr1, Howe⟩
  ihave I0 := (idle_end (b := 0)) $$ I0
  icases I0 with ⟨HB0, Ma0, Mo0, Ms0, Mt0⟩
  ihave I1 := (idle_end (b := 1)) $$ I1
  icases I1 with ⟨HB1, Ma1, Mo1, Ms1, Mt1⟩
  ihave Ms := (tall_glue (c := c) (mm := mSend)) $$ [$Ms0 $Ms1 $Msl]
  ihave Mt := (tall_glue (c := c) (mm := mStage)) $$ [$Mt0 $Mt1 $Mtl]
  ihave Ma := (rw_glue (c := c) (m := mAcc) (q := fullShare) (P := Any) (lo := 0) (n := 512) (lo' := 512) (n' := 512) (N := 1024) rfl rfl) $$ [Ma0 Ma1]
  · isplitl [Ma0]; · iexact Ma0
    iexact Ma1
  ihave Mo := (rw_glue (c := c) (m := mOut) (q := fullShare) (P := Any) (lo := 0) (n := 512) (lo' := 512) (n' := 512) (N := 1024) rfl rfl) $$ [Mo0 Mo1]
  · isplitl [Mo0]; · iexact Mo0
    iexact Mo1
  ihave Mh0 := rw_any $$ Mh0
  ihave Mh1 := rw_any $$ Mh1
  ihave Mh := (rw_glue (c := c) (m := mHact) (q := fullShare) (P := Any) (lo := 0) (n := 512) (lo' := 512) (n' := 512) (N := 1024) rfl rfl) $$ [Mh0 Mh1]
  · isplitl [Mh0]; · iexact Mh0
    iexact Mh1
  ihave Mr := (rw_glue (c := c) (m := mO) (q := fullShare) (P := 𝒞.O) (lo := 0) (n := 512) (lo' := 512) (n' := 512) (N := 1024) rfl rfl) $$ [Mr0 Mr1]
  · isplitl [Mr0]; · iexact Mr0
    iexact Mr1
  ihave Mwi0 := own_any $$ Mwi0
  ihave Mwi1 := own_any $$ Mwi1
  ihave Mwo0 := own_any $$ Mwo0
  ihave Mwo1 := own_any $$ Mwo1
  ihave Mwi := (planes_glue (c := c) (mm := mWin)) $$ [$Mwi0 $Mwi1]
  ihave Mwo := (planes_glue (c := c) (mm := mWout)) $$ [$Mwo0 $Mwo1]
  iapply Hk
  iframe HX HB0 HB1 HC0 HC1 Hat Howe Ha00 Ha10 Ha01 Ha11 Ha02 Ha12 Mo Ms Mt Ma Mh Mwi Mwo Mws Mos Mr

/-- The whole body on device `c`. -/
theorem wp_prog {k : PUnit → Prog (TpuEff nD τ sig (Elt F) Λ₀ .tc) α} :
    iprop(Recs 𝒞 ∗ SlX 0 c ∗ (SlB 0 0 c ∗ SlB 0 1 c) ∗ (CSl 0 0 c ∗ CSl 1 0 c) ∗ BarIn c ∗ (∃ W, owes (c : Thread nD τ) (O₀ c) W)
        ∗ Args (m := m) c ∗ Mem c ∗ Own c mX fullShare Finset.univ (fun i v => v = x0 m c i) ∗ Rw c mO fullShare 0 1024 Any)
      ⊢ iprop(((SlX 1 c ∗ (SlB 3 0 c ∗ SlB 3 1 c) ∗ (CSl 0 3 c ∗ CSl 1 3 c) ∗ atPos ER (gB c) 1 ∅ 0 ∗ Owe c 63
            ∗ Args (m := m) c ∗ Mem c ∗ Own c mX fullShare Finset.univ (fun i v => v = x0 m c i) ∗ Rw c mO fullShare 0 1024 𝒞.O) -∗ WP c (k ⟨⟩) Φ)
          -∗ WP c (prog (F := F) c >>= k) Φ) := by
  rw [prog_eq, bind_assoc]
  iintro ⟨#HR, HX, HB, HC, Hbar, Howe, Harg, Hmem, Mx, Mr⟩ Hk
  iapply (wp_progA 𝒞) $$ [$HR $HX $HB $HC $Hbar $Howe $Harg $Hmem $Mx]
  iintro ⟨Hh, Mx⟩
  iapply (wp_progB 𝒞) $$ [$HR $Hh $Mr]
  iintro ⟨HX, HB, HC, Hat, Howe, Harg, Hmem, Mr⟩
  iapply Hk
  iframe HX HB HC Hat Howe Harg Hmem Mx Mr

end Cert.KernelIdeal.Gen

end
-- ==== Proof.Fund.lean ====
/- The launch: the semaphores put under the schedule, and each device's share of rights and credit; and how each device closes its semaphores at the end. -/
module

public import proofs.«01_k».proof.Proof.Body

@[expose] public section

set_option maxRecDepth 65536

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig ℕ (Elt F) ℕ UU ℕ

variable {m : (ℓ : Loc nD τ sig) → Buf (Elt F) ℓ} (𝒞 : Contract (F := F) m)
variable {α : Type} {Φ : α → sProp (MT nD τ sig ℕ (Elt F) ℕ UU ℕ)} {c : Dev nD}

/-! ## The entries of the semaphore arrays, one by one -/

omit [Facts] [FloatOps F] in
theorem bigSep_fin_add {a b : ℕ} (Φ : Fin (a + b) → sProp 𝕄) :
    bigSep Finset.univ Φ = iprop((bigSep Finset.univ fun i : Fin a => Φ (Fin.castAdd b i)) ∗ bigSep Finset.univ fun j : Fin b => Φ (Fin.natAdd a j)) := by
  rw [bigSep_univ_equiv finSumFinEquiv Φ, bigSep_univ_sum]
  rfl

omit [Facts] [FloatOps F] in
theorem bigSep_fin_one (Φ : Fin 1 → sProp 𝕄) : bigSep Finset.univ Φ = Φ 0 := bigSep_univ_of_subsingleton 0

omit [Facts] [FloatOps F] in
theorem bigSep_pair (Φ : Fin 2 → sProp 𝕄) : bigSep Finset.univ Φ = iprop(Φ 0 ∗ Φ 1) := bigSep_univ_two Φ

omit [Facts] [FloatOps F] in
theorem bigSep_both {I : Type} [DecidableEq I] (S : Finset I) (Φ Ψ : I → sProp 𝕄) :
    bigSep S (fun i => iprop(Φ i ∗ Ψ i)) = iprop(bigSep S Φ ∗ bigSep S Ψ) := bigSep_sep' _ _ _

omit [Facts] [FloatOps F] in
theorem cells_eq (Ψ : GSem nD τ sig → sProp 𝕄) :
    (bigSep Finset.univ fun k : Fin 73 => Ψ (kcell (c, k)))
      = iprop((bigSep Finset.univ fun k : Fin 35 => Ψ (gS (dec k) c)) ∗ (bigSep Finset.univ fun k : Fin 35 => Ψ (gR (dec k) c))
          ∗ (bigSep Finset.univ fun k : Fin 2 => Ψ (gC k c)) ∗ Ψ (gB c)) := by
  refine (bigSep_fin_add (a := 35) (b := 38) _).trans ?_
  refine congrArg₂ _ (bigSep_congr fun k _ => ?_) ?_
  · exact congrArg Ψ (congrArg (Prod.mk _) ((ksem_S k).trans (by rw [ix_dec])))
  refine (bigSep_fin_add (a := 35) (b := 3) _).trans ?_
  refine congrArg₂ _ (bigSep_congr fun k _ => ?_) ?_
  · exact congrArg Ψ (congrArg (Prod.mk _) (((congrArg ksem (Fin.ext rfl)).trans (ksem_R k)).trans (by rw [ix_dec])))
  refine (bigSep_fin_add (a := 2) (b := 1) _).trans ?_
  refine congrArg₂ _ (bigSep_congr fun k _ => ?_) ?_
  · exact congrArg Ψ (congrArg (Prod.mk _) ((congrArg ksem (Fin.ext (by show 35 + (35 + k.val) = 70 + k.val; omega))).trans (ksem_C k)))
  rw [bigSep_fin_one]
  exact congrArg Ψ (congrArg (Prod.mk _) rfl)

omit [Facts] [FloatOps F] in
theorem sems_eq : (iprop(Pipeline.ownSems0 (Ix := ℕ) (Name := ℕ) (U := UU) (Lvl := ℕ) (Val := Elt F) (τ := τ) osem c ∗ unscopedSems0 c) : sProp 𝕄)
    = bigSep Finset.univ fun k : Fin 73 => semVal (kcell (c, k)) 0 := by
  symm
  refine (bigSep_fin_add (a := 72) (b := 1) _).trans ?_
  refine congrArg₂ _ (bigSep_congr fun k _ => ?_) ?_
  · show semVal (kcell (c, Fin.castAdd 1 k)) 0 = semVal (_, osem k) 0
    have : ksem (Fin.castAdd 1 k) = osem k := by
      unfold ksem
      rw [dif_pos (show (Fin.castAdd 1 k).val < 72 from k.isLt)]; rfl
    unfold kcell
    rw [this]
  rw [bigSep_fin_one]
  unfold unscopedSems0
  rw [bigSep_eq_bigSepL_of_eq [SemLoc.reg sBar] (by decide) (by decide)]
  rfl

omit [Facts] [FloatOps F] in
theorem slots_eq (Ψ : Slt → sProp 𝕄) : (bigSep Finset.univ fun k : Fin 35 => Ψ (dec k))
    = iprop(Ψ (.A 0 0) ∗ Ψ (.A 0 1) ∗ Ψ (.A 0 2) ∗ Ψ (.A 0 3) ∗ Ψ (.A 1 0) ∗ Ψ (.A 1 1) ∗ Ψ (.A 1 2) ∗ Ψ (.A 1 3) ∗ Ψ (.U 0) ∗ Ψ (.U 1) ∗ Ψ (.U 2) ∗ Ψ (.U 3) ∗ Ψ (.R 0 0) ∗ Ψ (.R 0 1) ∗ Ψ (.R 0 2) ∗ Ψ (.R 0 3) ∗ Ψ (.R 1 0) ∗ Ψ (.R 1 1) ∗ Ψ (.R 1 2) ∗ Ψ (.R 1 3) ∗ Ψ (.X 0) ∗ Ψ (.X 1) ∗ Ψ (.X 2) ∗ Ψ (.X 3) ∗ Ψ (.X 4) ∗ Ψ (.X 5) ∗ Ψ (.X 6) ∗ Ψ (.X 7) ∗ Ψ (.X 8) ∗ Ψ (.X 9) ∗ Ψ (.X 10) ∗ Ψ (.X 11) ∗ Ψ (.X 12) ∗ Ψ (.X 13) ∗ Ψ (.X 14)) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34] (by decide) (by decide) (fun k : Fin 35 => Ψ (dec k))

omit [Facts] [FloatOps F] in
theorem bigSep_with {I : Type} [DecidableEq I] {S : Finset I} {R : sProp 𝕄} [BI.Persistent R] {Φ Ψ : I → sProp 𝕄} (h : ∀ i ∈ S, iprop(R ∗ Φ i) ⊢ Ψ i) :
    iprop(R ∗ bigSep S Φ) ⊢ bigSep S Ψ := by
  refine .trans ?_ (bigSep_mono h)
  rw [bigSep_sep']
  exact sep_mono_left (BI.bigSep_of_persistent S R)

/-! ## The launch's ghost state -/

theorem kcell_injective : Function.Injective (kcell : Dev nD × Fin 73 → GSem nD τ sig) := by
  rintro ⟨c, k⟩ ⟨c', k'⟩ h
  have h1 : c = c' := congrArg (fun g : GSem nD τ sig => g.1.1) h
  have h2 : ksem k = ksem k' := congrArg Prod.snd h
  have h3 : ∀ a b : Fin 73, ksem a = ksem b → a = b := by
    intro a b hab
    unfold ksem at hab
    split at hab <;> split at hab
    · unfold osem at hab
      have := congrArg (fun s : SemLoc sig => match s with | .dma q => q.val | .reg _ => 0) hab
      simp only at this
      exact Fin.ext (by omega)
    · cases hab
    · cases hab
    · exact Fin.ext (by omega)
  rw [h1, h3 k k' h2]

/-- The rights to make the transfers, by the device that makes them. -/
abbrev TJ : Type := (Dev nD × Fin 35 × Fin 3) ⊕ (Dev nD × Fin 35 × Fin 3) ⊕ (Dev nD × Fin 2 × Fin 3) ⊕ (Dev nD × Fin 4)
def tok : TJ → GSem nD τ sig × ℕ × Fin 4
  | .inl (c, k, r) => (gS (dec k) c, r.val, 0)
  | .inr (.inl (c, k, r)) => (gR (dec k) (peerS (dec k) c), r.val, 0)
  | .inr (.inr (.inl (c, k, r))) => (gC k c, r.val, 0)
  | .inr (.inr (.inr (c, j))) => (gB (flip j.val c), 0, j)

theorem dec_inj {k k' : Fin 35} (h : dec k = dec k') : k = k' := by rw [← ix_dec k, h, ix_dec]
theorem peerS_inj {s : Slt} {c d : Dev nD} (h : peerS s c = peerS s d) : c = d := by rw [← peerS_peerS s c, h, peerS_peerS]

theorem tok_injective : Function.Injective tok := by
  intro x y h
  have h1 : (tok x).1.1.1 = (tok y).1.1.1 := by rw [h]
  have h2 : kd (tok x).1.2 = kd (tok y).1.2 := by rw [h]
  have h3 : (tok x).2.1 = (tok y).2.1 := by rw [h]
  have h4 : (tok x).2.2 = (tok y).2.2 := by rw [h]
  clear h
  rcases x with ⟨c, k, r⟩ | ⟨c, k, r⟩ | ⟨c, k, r⟩ | ⟨c, j⟩ <;> rcases y with ⟨c', k', r'⟩ | ⟨c', k', r'⟩ | ⟨c', k', r'⟩ | ⟨c', j'⟩ <;>
    simp only [tok, kd_send (dec_ok _), kd_recv (dec_ok _), kd_copy, kd_bar, Kd.send.injEq, Kd.recv.injEq, Kd.copy.injEq, reduceCtorEq] at h1 h2 h3 h4
  · obtain rfl := dec_inj h2; obtain rfl := Fin.ext h3; obtain rfl : c = c' := h1; rfl
  · obtain rfl := dec_inj h2; obtain rfl := Fin.ext h3; obtain rfl : c = c' := peerS_inj h1; rfl
  · obtain rfl := h2; obtain rfl := Fin.ext h3; obtain rfl : c = c' := h1; rfl
  · obtain rfl := h4
    obtain rfl : c = c' := by rw [← flip_flip j.val j.isLt c, h1, flip_flip j.val j.isLt]
    rfl

def ringCells : Finset (GSem nD τ sig) := Finset.univ.map ⟨kcell, kcell_injective⟩
def ringToks : Finset (GSem nD τ sig × ℕ × Fin 4) := Finset.univ.map ⟨tok, tok_injective⟩
def u₀ : UU := (initOf (Pipeline.cells cfgs cellOf_inj) (Pipeline.launchToks cfgs cellOf_inj), initOf ringCells ringToks)

def Pay (c : Dev nD) : sProp 𝕄 :=
  iprop((bigSep Finset.univ fun k : Fin 35 => bigSep Finset.univ fun r : Fin 3 => dutyTok ER (gS (dec k) c) r.val 0)
    ∗ (bigSep Finset.univ fun k : Fin 35 => bigSep Finset.univ fun r : Fin 3 => dutyTok ER (gR (dec k) (peerS (dec k) c)) r.val 0)
    ∗ (bigSep Finset.univ fun k : Fin 2 => bigSep Finset.univ fun r : Fin 3 => dutyTok ER (gC k c) r.val 0)
    ∗ (bigSep Finset.univ fun j : Fin 4 => dutyTok ER (gB (flip j.val c)) 0 j))

def G (c : Dev nD) : sProp 𝕄 :=
  iprop((bigSep Finset.univ fun k : Fin 73 => roundState ER (Rd 𝒞) (kcell (c, k)) 0) ∗ (bigSep Finset.univ fun k : Fin 73 => reached ER (kcell (c, k)) 0)
    ∗ (bigSep Finset.univ fun k : Fin 73 => atPos ER (kcell (c, k)) 0 ∅ 0) ∗ Pay c)
def Facts₀ : sProp 𝕄 := bigSep Finset.univ fun ck : Dev nD × Fin 73 => Known 𝒞 (kcell ck)
instance facts₀_persistent : BI.Persistent (Facts₀ 𝒞) := by unfold Facts₀; infer_instance
def G' (c : Dev nD) : sProp 𝕄 :=
  iprop(Facts₀ 𝒞 ∗ (bigSep Finset.univ fun k : Fin 73 => atPos ER (kcell (c, k)) 0 ∅ 0) ∗ Pay c)

theorem cells_sum (Φ : GSem nD τ sig → sProp 𝕄) :
    bigSep ringCells Φ = bigSep Finset.univ fun c : Dev nD => bigSep Finset.univ fun k : Fin 73 => Φ (kcell (c, k)) := by
  unfold ringCells; rw [bigSep_map, bigSep_univ_prod]; rfl

theorem pay_sum : bigSep ringToks (fun x => (dutyTok ER x.1 x.2.1 x.2.2 : sProp 𝕄)) = bigSep Finset.univ fun c : Dev nD => Pay c := by
  unfold ringToks Pay
  rw [bigSep_map, bigSep_univ_sum, bigSep_univ_sum, bigSep_univ_sum, bigSep_univ_prod, bigSep_univ_prod, bigSep_univ_prod, bigSep_univ_prod,
    bigSep_sep', bigSep_sep', bigSep_sep']
  refine congrArg₂ _ (bigSep_congr fun c _ => ?_) (congrArg₂ _ (bigSep_congr fun c _ => ?_) (congrArg₂ _ (bigSep_congr fun c _ => ?_) rfl))
  · rw [bigSep_univ_prod]; rfl
  · rw [bigSep_univ_prod]; rfl
  · rw [bigSep_univ_prod]; rfl

theorem fund_ring : BI.own (ER (initOf ringCells ringToks)) ⊢ (|==> bigSep Finset.univ (G 𝒞) : sProp 𝕄) := by
  iintro HX
  imod (Rounds.fund ER (Rd 𝒞) ringCells ringToks) $$ HX with ⟨Hst, Hr, Hat, Htok⟩
  imodintro
  ihave Hst := (Entails.of_eq (cells_sum fun g => roundState ER (Rd 𝒞) g 0)) $$ Hst
  ihave Hat := (Entails.of_eq (cells_sum fun g => (atPos ER g 0 ∅ 0 : sProp 𝕄))) $$ Hat
  ihave Hr := (Entails.of_eq (cells_sum fun g => (reached ER g 0 : sProp 𝕄))) $$ Hr
  ihave Htok := (Entails.of_eq (pay_sum)) $$ Htok
  unfold G; simp only [bigSep_sep']
  isplitl [Hst]; · iexact Hst
  isplitl [Hr]; · iexact Hr
  isplitl [Hat]; · iexact Hat
  iexact Htok

theorem core_alloc (c : Dev nD) :
    iprop(Pipeline.ownSems0 (Ix := ℕ) (Name := ℕ) (U := UU) (Lvl := ℕ) (Val := Elt F) (τ := τ) osem c ∗ unscopedSems0 c ∗ G 𝒞 c)
      ⊢ |={Set.univ}=> iprop((bigSep Finset.univ fun k : Fin 73 => Known 𝒞 (kcell (c, k))) ∗ (bigSep Finset.univ fun k : Fin 73 => atPos ER (kcell (c, k)) 0 ∅ 0) ∗ Pay c) := by
  unfold G
  iintro ⟨Ho, Hu, Hst, Hr, Hat, Htok⟩
  ihave Hv := (Entails.of_eq (sems_eq (F := F) (c := c))) $$ [Ho Hu]
  · isplitl [Ho] <;> iassumption
  imod (show iprop((bigSep Finset.univ fun k : Fin 73 => semVal (kcell (c, k)) 0) ∗ bigSep Finset.univ fun k : Fin 73 => roundState ER (Rd 𝒞) (kcell (c, k)) 0)
      ⊢ (|={Set.univ}=> bigSep Finset.univ fun k : Fin 73 => iprop(∃ κ : ℕ, cellInv ER (Rd 𝒞) κ (kcell (c, k))) : sProp 𝕄) from by
        rw [← bigSep_sep']
        exact (bigSep_mono fun k _ => (Rounds.body_intro ER (Rd 𝒞) (kcell (c, k))).trans inv_alloc).trans (bigSep_fupd _ _)) $$ [Hv Hst] with Hinv
  · isplitl [Hv] <;> iassumption
  imodintro
  isplitl [Hinv Hr]
  · unfold Known
    rw [bigSep_sep']
    isplitl [Hinv] <;> iassumption
  isplitl [Hat]; · iexact Hat
  iexact Htok

theorem glob : (bigSep Finset.univ fun c => iprop(Pipeline.ownSems0 (Ix := ℕ) (Name := ℕ) (U := UU) (Lvl := ℕ) (Val := Elt F) (τ := τ) osem c ∗ unscopedSems0 c ∗ G 𝒞 c) : sProp 𝕄)
    ⊢ |={Set.univ}=> bigSep Finset.univ (G' 𝒞) := by
  iintro H
  ihave H := (show _ ⊢ (|={Set.univ}=> bigSep Finset.univ fun c => iprop((bigSep Finset.univ fun k : Fin 73 => Known 𝒞 (kcell (c, k))) ∗ (bigSep Finset.univ fun k : Fin 73 => atPos ER (kcell (c, k)) 0 ∅ 0) ∗ Pay c) : sProp 𝕄) from
    (bigSep_mono fun c _ => core_alloc 𝒞 c).trans (bigSep_fupd _ _)) $$ H
  imod H
  imodintro
  ihave H := (Entails.of_eq (bigSep_both _ _ _)) $$ H
  icases H with ⟨HK, H⟩
  ihave HK := (show (bigSep Finset.univ fun c : Dev nD => bigSep Finset.univ fun k : Fin 73 => Known 𝒞 (kcell (c, k))) ⊢ Facts₀ 𝒞 from
    Entails.of_eq (by unfold Facts₀; rw [bigSep_univ_prod])) $$ HK
  icases HK with #HK
  ihave H := (bigSep_with (R := Facts₀ 𝒞) (Ψ := G' 𝒞) (fun c _ => by
    unfold G'
    iintro ⟨#HK, H⟩
    isplitr; · iexact HK
    iexact H)) $$ [H]
  · isplitr; · iexact HK
    iexact H
  iexact H

/-! ## The credit of the launch -/

omit [Facts] [FloatOps F] in
/-- If each device owes its partner `n` units, each has `n` units of credit. -/
theorem launch_one (σ : Dev nD → Dev nD) (hσ : ∀ d, σ (σ d) = d) (sm : SemLoc sig) (i n : ℕ) :
    (Pipeline.launchCred (fun d => tallyAt ((σ d : Thread nD τ), sm) i n) c : sProp 𝕄) ⊢ cred (tallyAt ((c : Thread nD τ), sm) i n) := by
  refine (Pipeline.launchCred_elim _ c sm).trans (Entails.of_eq (congrArg cred ?_))
  unfold tallyAt
  refine congrArg _ (Finsupp.ext fun u => ?_)
  rw [Pipeline.launchCredit_owing]
  have h : ∀ d : Dev nD, (tallyAt ((σ d : Thread nD τ), sm) i n : CellTallies nD τ sig ℕ) ((c : Thread nD τ), sm) u = if d = σ c then Finsupp.single i n u else 0 := by
    intro d
    rw [tallyAt_apply]
    by_cases hd : d = σ c
    · subst hd
      rw [hσ, if_pos rfl, Finsupp.single_apply]
      by_cases hu : u = i
      · rw [if_pos ⟨rfl, hu⟩, if_pos hu.symm]
      · rw [if_neg (fun h => hu h.2), if_neg (fun h => hu h.symm)]
    · rw [if_neg hd, if_neg]
      rintro ⟨h1, -⟩
      have : c = σ d := congrArg (fun g : GSem nD τ sig => g.1.1) h1
      exact hd (by rw [this, hσ])
  exact (Finset.sum_congr rfl fun d _ => h d).trans (by rw [Finset.sum_ite_eq' Finset.univ (σ c), if_pos (Finset.mem_univ _)])

omit [Facts] [FloatOps F] in
theorem launch_list (E : List (Slt × ℕ)) (h : E.Nodup) :
    (Pipeline.launchCred (fun d => tally d E) c : sProp 𝕄) ⊢ bigSep E.toFinset fun e => cred (tallyAt (gR e.1 c) e.2 (NS e.1)) := by
  induction E with
  | nil => rw [List.toFinset_nil, bigSep_empty]; iintro -; iempintro
  | cons e E ih =>
    rw [List.toFinset_cons, bigSep_insert (by rw [List.mem_toFinset]; exact (List.nodup_cons.mp h).1)]
    refine (Entails.of_eq (Pipeline.launchCred_add (fun d => tally d E) (fun d => tallyAt (gR e.1 (peerS e.1 d)) e.2 (NS e.1)) c)).trans ?_
    refine (BIClass.sep_mono (ih (List.nodup_cons.mp h).2) (launch_one (peerS e.1) (peerS_peerS e.1) (.dma (sRecv (ix e.1))) e.2 (NS e.1))).trans ?_
    exact sep_comm.1

omit [Facts] [FloatOps F] in
theorem bigSep_parts {I J : Type} [DecidableEq I] [DecidableEq J] (s : Finset J) (t : J → Finset I) {Φ : I → sProp 𝕄}
    (h : ∀ i j, i ≠ j → Disjoint (t i) (t j)) : bigSep (s.biUnion t) Φ ⊢ bigSep s fun j => bigSep (t j) Φ := by
  induction s using Finset.induction_on with
  | empty => exact .refl
  | insert j s hj ih =>
    rw [bigSep_insert hj, Finset.biUnion_insert, bigSep_union ((Finset.disjoint_biUnion_right _ _ _).mpr fun i hi => h j i fun e => hj (e ▸ hi))]
    exact sep_mono_right ih

theorem evAll_nodup : evAll.Nodup := by decide +kernel
theorem evAll_all : ∀ k : Fin 35, ∀ i < 3, i < rnds (dec k) → (dec k, i) ∈ evAll := by decide +kernel

omit [Facts] [FloatOps F] in
theorem creds : (Pipeline.launchCred O₀ c : sProp 𝕄)
    ⊢ iprop((bigSep Finset.univ fun k : Fin 35 => bigSep (Finset.Ico 0 (rnds (dec k))) fun i => cred (tallyAt (gR (dec k) c) i (NS (dec k)))) ∗ cred (tallyAt (gB c) 0 4)) := by
  have e1 := Pipeline.launchCred_add (Val := Elt F) (Name := ℕ) (U := UU) (Lvl := ℕ)
    (fun d => tally d evAll + tallyAt (gB (flip 3 d)) 0 1 + tallyAt (gB (flip 2 d)) 0 1 + tallyAt (gB (flip 1 d)) 0 1) (fun d => tallyAt (gB (flip 0 d)) 0 1) c
  have e2 := Pipeline.launchCred_add (Val := Elt F) (Name := ℕ) (U := UU) (Lvl := ℕ)
    (fun d => tally d evAll + tallyAt (gB (flip 3 d)) 0 1 + tallyAt (gB (flip 2 d)) 0 1) (fun d => tallyAt (gB (flip 1 d)) 0 1) c
  have e3 := Pipeline.launchCred_add (Val := Elt F) (Name := ℕ) (U := UU) (Lvl := ℕ)
    (fun d => tally d evAll + tallyAt (gB (flip 3 d)) 0 1) (fun d => tallyAt (gB (flip 2 d)) 0 1) c
  have e4 := Pipeline.launchCred_add (Val := Elt F) (Name := ℕ) (U := UU) (Lvl := ℕ)
    (fun d => tally d evAll) (fun d => tallyAt (gB (flip 3 d)) 0 1) c
  refine (Entails.of_eq e1).trans ?_
  rw [e2, e3, e4]
  iintro ⟨⟨⟨⟨H, H3⟩, H2⟩, H1⟩, H0⟩
  ihave H0 := (launch_one (flip 0) (flip_flip 0 (by decide)) (.reg sBar) 0 1) $$ H0
  ihave H1 := (launch_one (flip 1) (flip_flip 1 (by decide)) (.reg sBar) 0 1) $$ H1
  ihave H2 := (launch_one (flip 2) (flip_flip 2 (by decide)) (.reg sBar) 0 1) $$ H2
  ihave H3 := (launch_one (flip 3) (flip_flip 3 (by decide)) (.reg sBar) 0 1) $$ H3
  ihave H := (launch_list evAll evAll_nodup) $$ H
  isplitl [H]
  · iapply (show bigSep evAll.toFinset (fun e => (cred (tallyAt (gR e.1 c) e.2 (NS e.1)) : sProp 𝕄)) ⊢ _ from by
      refine (bigSep_subset (t := Finset.univ.biUnion fun k : Fin 35 => (Finset.Ico 0 (rnds (dec k))).map ⟨fun i => (dec k, i), fun a b h => congrArg Prod.snd h⟩) ?_).trans
        ((bigSep_parts _ _ ?_).trans (bigSep_mono fun k _ => Entails.of_eq (bigSep_map _)))
      · intro e he
        obtain ⟨k, -, hk⟩ := Finset.mem_biUnion.mp he
        obtain ⟨i, hi, rfl⟩ := Finset.mem_map.mp hk
        have hi := (Finset.mem_Ico.mp hi).2
        exact List.mem_toFinset.mpr (evAll_all k i (lt_of_lt_of_le hi (rnds_le _)) hi)
      · intro k k' hk
        rw [Finset.disjoint_left]
        intro e h1 h2
        obtain ⟨i, -, rfl⟩ := Finset.mem_map.mp h1
        obtain ⟨j, -, h⟩ := Finset.mem_map.mp h2
        exact hk (dec_inj (congrArg Prod.fst h)).symm)
    iexact H
  · ihave A := (cred_add (nD := nD) (τ := τ) (sig := sig) (tallyAt (gB c) 0 1) (tallyAt (gB c) 0 1)).2 $$ [H0 H1]
    · isplitl [H0] <;> iassumption
    ihave B := (cred_add (nD := nD) (τ := τ) (sig := sig) (tallyAt (gB c) 0 1) (tallyAt (gB c) 0 1)).2 $$ [H2 H3]
    · isplitl [H2] <;> iassumption
    ihave A := (cred_add (nD := nD) (τ := τ) (sig := sig) (tallyAt (gB c) 0 1 + tallyAt (gB c) 0 1) (tallyAt (gB c) 0 1 + tallyAt (gB c) 0 1)).2 $$ [A B]
    · isplitl [A] <;> iassumption
    rw [tallyAt_add, tallyAt_add]
    iexact A

/-! ## What each device starts with -/

omit [Facts] [FloatOps F] in
theorem fin3_Ico {Φ : ℕ → sProp 𝕄} {n : ℕ} (h : n ≤ 3) : (bigSep Finset.univ fun r : Fin 3 => Φ r.val) ⊢ bigSep (Finset.Ico 0 n) Φ := by
  refine (Entails.of_eq (bigSep_map (s := Finset.univ) (Fin.valEmbedding (n := 3)) (Φ := Φ)).symm).trans (bigSep_subset ?_)
  intro i hi
  have hi := (Finset.mem_Ico.mp hi).2
  exact Finset.mem_map.mpr ⟨⟨i, by omega⟩, Finset.mem_univ _, rfl⟩

/-- All of a device's transfers, before round `r` of each. -/
def Slots (r : Slt → ℕ) (c : Dev nD) : sProp 𝕄 := bigSep Finset.univ fun k : Fin 35 => Sl (dec k) (r (dec k)) c

theorem known_reached {g : GSem nD τ sig} : Known 𝒞 g ⊢ (reached ER g 0 : sProp 𝕄) := by
  unfold Known
  iintro ⟨-, H⟩
  iexact H

theorem slots_start (c : Dev nD) :
    iprop(Recs 𝒞 ∗ (bigSep Finset.univ fun k : Fin 73 => atPos ER (kcell (c, k)) 0 ∅ 0) ∗ Pay c ∗ Pipeline.launchCred O₀ c)
      ⊢ iprop(Slots (fun _ => 0) c ∗ (CSl 0 0 c ∗ CSl 1 0 c) ∗ BarIn c) := by
  unfold Pay
  rw [cells_eq (fun g => (atPos ER g 0 ∅ 0 : sProp 𝕄))]
  iintro ⟨#HR, ⟨HaS, HaR, HaC, HaB⟩, ⟨HtS, HtR, HtC, HtB⟩, Hcr⟩
  ihave Hcr := creds $$ Hcr
  icases Hcr with ⟨HcR, HcB⟩
  isplitl [HaS HaR HtS HtR HcR]
  · unfold Slots
    ihave H := (bigSep_with (S := (Finset.univ : Finset (Fin 35))) (R := Recs 𝒞)
      (Φ := fun k => iprop(atPos ER (gS (dec k) c) 0 ∅ 0 ∗ atPos ER (gR (dec k) c) 0 ∅ 0
        ∗ (bigSep Finset.univ fun r : Fin 3 => dutyTok ER (gS (dec k) c) r.val 0) ∗ (bigSep Finset.univ fun r : Fin 3 => dutyTok ER (gR (dec k) (peerS (dec k) c)) r.val 0)
        ∗ (bigSep (Finset.Ico 0 (rnds (dec k))) fun i => cred (tallyAt (gR (dec k) c) i (NS (dec k))))))
      (Ψ := fun k => Sl (dec k) 0 c) (fun k _ => by
        unfold Sl Toks
        iintro ⟨#HR, H1, H2, H3, H4, H5⟩
        isplitl [H1 H2]; · isplitl [H1] <;> iassumption
        isplitr
        · isplitr
          · iapply (known_reached 𝒞); iapply (recs_S 𝒞); iexact HR
          · iapply (known_reached 𝒞); iapply (recs_R 𝒞); iexact HR
        simp only [bigSep_sep']
        isplitl [H3]; · iapply (fin3_Ico (Φ := fun i => (dutyTok ER (gS (dec k) c) i 0 : sProp 𝕄)) (rnds_le (dec k))); iexact H3
        isplitl [H4]; · iapply (fin3_Ico (Φ := fun i => (dutyTok ER (gR (dec k) (peerS (dec k) c)) i 0 : sProp 𝕄)) (rnds_le (dec k))); iexact H4
        iexact H5)) $$ [HaS HaR HtS HtR HcR]
    · isplitr; · iexact HR
      simp only [bigSep_sep']
      isplitl [HaS]; · iexact HaS
      isplitl [HaR]; · iexact HaR
      isplitl [HtS]; · iexact HtS
      isplitl [HtR]; · iexact HtR
      iexact HcR
    iexact H
  isplitl [HaC HtC]
  · ihave HaC := (Entails.of_eq (bigSep_pair (fun k : Fin 2 => (atPos ER (gC k c) 0 ∅ 0 : sProp 𝕄)))) $$ HaC
    ihave HtC := (Entails.of_eq (bigSep_pair (fun k : Fin 2 => (bigSep Finset.univ fun r : Fin 3 => dutyTok ER (gC k c) r.val 0 : sProp 𝕄)))) $$ HtC
    icases HaC with ⟨Ha0, Ha1⟩
    icases HtC with ⟨Ht0, Ht1⟩
    unfold CSl
    isplitl [Ha0 Ht0]
    · isplitl [Ha0]; · iexact Ha0
      isplitr; · iapply (known_reached 𝒞); iapply (recs_C 𝒞); iexact HR
      iapply (fin3_Ico (Φ := fun i => (dutyTok ER (gC 0 c) i 0 : sProp 𝕄)) (le_refl 3)); iexact Ht0
    · isplitl [Ha1]; · iexact Ha1
      isplitr; · iapply (known_reached 𝒞); iapply (recs_C 𝒞); iexact HR
      iapply (fin3_Ico (Φ := fun i => (dutyTok ER (gC 1 c) i 0 : sProp 𝕄)) (le_refl 3)); iexact Ht1
  · unfold BarIn
    isplitl [HaB]; · iexact HaB
    isplitl [HcB]; · iexact HcB
    ihave HtB := (Entails.of_eq (bigSep_four (fun j : Fin 4 => (dutyTok ER (gB (flip j.val c)) 0 j : sProp 𝕄)))) $$ HtB
    iexact HtB

/-! ## And how it ends -/

theorem slot_close {s : Slt} (hs : s.ok) : iprop(Recs 𝒞 ∗ Sl s (rnds s) c) ⊢ (|={Set.univ}=> iprop(semVal (gS s c) 0 ∗ semVal (gR s c) 0) : sProp 𝕄) := by
  unfold Sl
  iintro ⟨#HR, ⟨H1, H2⟩, -, -⟩
  ihave K1 := (recs_S 𝒞 s c) $$ HR
  ihave K2 := (recs_R 𝒞 s c) $$ HR
  unfold Known
  icases K1 with ⟨⟨%κ, K1⟩, -⟩
  icases K2 with ⟨⟨%κ', K2⟩, -⟩
  imod (Rounds.cell_close ER (Rd 𝒞) (Set.mem_univ κ) (fun h => h) (R := rnds s) (fun r hr => by rw [duties_S 𝒞 c hs, if_neg (Nat.not_lt.mpr hr)])) $$ [K1 H1] with Z1
  · isplitl [K1] <;> iassumption
  imod (Rounds.cell_close ER (Rd 𝒞) (Set.mem_univ κ') (fun h => h) (R := rnds s) (fun r hr => by rw [duties_R 𝒞 c hs, if_neg (Nat.not_lt.mpr hr)])) $$ [K2 H2] with Z2
  · isplitl [K2] <;> iassumption
  imodintro
  isplitl [Z1] <;> iassumption

theorem copy_close {k : Fin 2} : iprop(Recs 𝒞 ∗ CSl k 3 c) ⊢ (|={Set.univ}=> semVal (gC k c) 0 : sProp 𝕄) := by
  unfold CSl
  iintro ⟨#HR, H1, -, -⟩
  ihave K1 := (recs_C 𝒞 k c) $$ HR
  unfold Known
  icases K1 with ⟨⟨%κ, K1⟩, -⟩
  imod (Rounds.cell_close ER (Rd 𝒞) (Set.mem_univ κ) (fun h => h) (R := 3) (fun r hr => by rw [duties_C 𝒞, if_neg (Nat.not_lt.mpr hr)])) $$ [K1 H1] with Z1
  · isplitl [K1] <;> iassumption
  imodintro
  iexact Z1

theorem bar_close : iprop(Recs 𝒞 ∗ atPos ER (gB c) 1 ∅ 0) ⊢ (|={Set.univ}=> semVal (gB c) 0 : sProp 𝕄) := by
  iintro ⟨#HR, H1⟩
  ihave K1 := (recs_B 𝒞 c) $$ HR
  unfold Known
  icases K1 with ⟨⟨%κ, K1⟩, -⟩
  imod (Rounds.cell_close ER (Rd 𝒞) (Set.mem_univ κ) (fun h => h) (R := 1) (fun r hr => by rw [duties_B 𝒞, if_neg (by omega)])) $$ [K1 H1] with Z1
  · isplitl [K1] <;> iassumption
  imodintro
  iexact Z1

theorem slots_close : iprop(Recs 𝒞 ∗ Slots rnds c ∗ (CSl 0 3 c ∗ CSl 1 3 c) ∗ atPos ER (gB c) 1 ∅ 0)
    ⊢ (|={Set.univ}=> iprop(Pipeline.ownSems0 (Ix := ℕ) (Name := ℕ) (U := UU) (Lvl := ℕ) (Val := Elt F) (τ := τ) osem c ∗ unscopedSems0 c) : sProp 𝕄) := by
  rw [sems_eq, cells_eq (fun g => (semVal g 0 : sProp 𝕄))]
  iintro ⟨#HR, HS, ⟨H0, H1⟩, HB⟩
  imod (copy_close 𝒞) $$ [H0] with Z0
  · isplitr; · iexact HR
    iexact H0
  imod (copy_close 𝒞) $$ [H1] with Z1
  · isplitr; · iexact HR
    iexact H1
  imod (bar_close 𝒞) $$ [HB] with ZB
  · isplitr; · iexact HR
    iexact HB
  unfold Slots
  ihave HS := (bigSep_with (S := (Finset.univ : Finset (Fin 35))) (R := Recs 𝒞) (Φ := fun k => Sl (dec k) (rnds (dec k)) c)
    (Ψ := fun k => iprop(|={Set.univ}=> (semVal (gS (dec k) c) 0 ∗ semVal (gR (dec k) c) 0))) (fun k _ => by
      iintro ⟨#HR, H⟩
      iapply (slot_close 𝒞 (dec_ok k))
      isplitr; · iexact HR
      iexact H)) $$ [HS]
  · isplitr; · iexact HR
    iexact HS
  imod (bigSep_fupd Finset.univ (fun k : Fin 35 => (iprop(semVal (gS (dec k) c) 0 ∗ semVal (gR (dec k) c) 0) : sProp 𝕄))) $$ HS with HS
  imodintro
  rw [bigSep_pair]
  ihave HS := (Entails.of_eq (bigSep_both _ _ _)) $$ HS
  icases HS with ⟨HS, HS'⟩
  isplitl [HS]; · iexact HS
  isplitl [HS']; · iexact HS'
  isplitl [Z0 Z1]; · isplitl [Z0] <;> iassumption
  iexact ZB

end Cert.KernelIdeal.Gen

end
-- ==== Proof.Run.lean ====
/- The run of the whole kernel on the mesh. -/
module

public import proofs.«01_k».proof.Proof.Fund
public import Idealize.ShloMosaic.Lib.Pipeline.ArrRel
public import Idealize.ShloMosaic.Lib.Pipeline.DatRel
public import Idealize.ShloMosaic.Lib.Pipeline.CollectiveSegs

@[expose] public section

set_option maxRecDepth 65536

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig ℕ (Elt F) ℕ UU ℕ

variable {m : (ℓ : Loc nD τ sig) → Buf (Elt F) ℓ} (𝒞 : Contract (F := F) m)
variable {α : Type} {Φ : α → sProp (MT nD τ sig ℕ (Elt F) ℕ UU ℕ)} {c : Dev nD}

/-! ## Whole buffers -/

section Whole
variable {b : Ref sig .tc}

omit [Facts] [FloatOps F] in
theorem owns_whole (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]
end Whole

omit [Facts] [FloatOps F] in
theorem rows_all {w : ℕ} : rows w 0 1024 = Finset.univ := by
  ext i
  rw [mem_rows]
  exact ⟨fun _ => Finset.mem_univ _, fun _ => ⟨Nat.zero_le _, by have := (i 0).isLt; simpa using this⟩⟩

section Mems
variable {s : Shape} {e : EltTy} {M : Memref sig .tc .vmem s e} {P : s.Idx → Elt F e → Prop}

omit [Facts] [FloatOps F] in
theorem own_of_pt (hM : M.IsWhole) {f : Buf (Elt F) (M.view.loc (c : Thread nD τ))} (h : ∀ i, P i (M.view.read (Elt F) f i)) :
    (M.view.loc (c : Thread nD τ) ↦{fullShare} f : sProp 𝕄) ⊢ Own c M fullShare Finset.univ P := by
  unfold Own
  iintro H
  iexists f
  isplitr; · ipureintro; exact fun i _ => h i
  rw [show M.view.setOn Finset.univ = Finset.univ from hM.set_eq_univ]
  iexact H

omit [Facts] [FloatOps F] in
theorem pt_of_own (hM : M.IsWhole) : (Own c M fullShare Finset.univ P : sProp 𝕄)
    ⊢ iprop(∃ f : Buf (Elt F) (M.view.loc (c : Thread nD τ)), ⌜∀ i, P i (M.view.read (Elt F) f i)⌝ ∗ (M.view.loc (c : Thread nD τ) ↦{fullShare} f)) := by
  unfold Own
  rw [show M.view.setOn Finset.univ = Finset.univ from hM.set_eq_univ]
  iintro ⟨%f, %h, H⟩
  iexists f
  isplitr; · ipureintro; exact fun i => h i (Finset.mem_univ i)
  iexact H
end Mems

section Talls
variable {w : ℕ} {e : EltTy} {M : Memref sig .tc .vmem (Tall w) e} {P : ℕ → ℕ → Elt F e → Prop}

omit [Facts] [FloatOps F] in
theorem rw_of_pt (hM : M.IsWhole) {f : Buf (Elt F) (M.view.loc (c : Thread nD τ))} :
    (M.view.loc (c : Thread nD τ) ↦{fullShare} f : sProp 𝕄) ⊢ Rw c M fullShare 0 1024 Any := by
  unfold Rw
  rw [rows_all]
  exact own_of_pt hM fun _ => trivial

omit [Facts] [FloatOps F] in
theorem pt_of_rw (hM : M.IsWhole) : (Rw c M fullShare 0 1024 P : sProp 𝕄)
    ⊢ iprop(∃ f : Buf (Elt F) (M.view.loc (c : Thread nD τ)), ⌜∀ i : (Tall w).Idx, P (i 0).val (i 1).val (M.view.read (Elt F) f i)⌝ ∗ (M.view.loc (c : Thread nD τ) ↦{fullShare} f)) := by
  unfold Rw
  rw [rows_all]
  exact pt_of_own hM
end Talls

omit [Facts] [FloatOps F] in
theorem mem_in : (Pipeline.scopedRest (Ix := ℕ) (Name := ℕ) (U := UU) (Lvl := ℕ) (Val := Elt F) (τ := τ) spec0 c : sProp 𝕄) ⊢ Mem c := by
  rw [scopedRest0_eq]
  unfold Mem
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩
  isplitl [H1]; · iapply (rw_of_pt (M := mOut) (Memref.isWhole_whole _)); iexact H1
  isplitl [H3]; · iapply (rw_of_pt (M := mSend) (Memref.isWhole_whole _)); iexact H3
  isplitl [H2]; · iapply (rw_of_pt (M := mStage) (Memref.isWhole_whole _)); iexact H2
  isplitl [H0]; · iapply (rw_of_pt (M := mAcc) (Memref.isWhole_whole _)); iexact H0
  isplitl [H4]; · iapply (rw_of_pt (M := mHact) (Memref.isWhole_whole _)); iexact H4
  isplitl [H7]; · iapply (own_of_pt (M := mWin) (P := fun _ _ => True) (Memref.isWhole_whole _) (fun _ => trivial)); iexact H7
  isplitl [H8]; · iapply (own_of_pt (M := mWout) (P := fun _ _ => True) (Memref.isWhole_whole _) (fun _ => trivial)); iexact H8
  isplitl [H5]; · iapply (own_of_pt (M := mWst) (P := fun _ _ => True) (Memref.isWhole_whole _) (fun _ => trivial)); iexact H5
  iapply (own_of_pt (M := mOst) (P := fun _ _ => True) (Memref.isWhole_whole _) (fun _ => trivial)); iexact H6

omit [Facts] [FloatOps F] in
theorem mem_out : Mem c ⊢ (Pipeline.scopedRest (Ix := ℕ) (Name := ℕ) (U := UU) (Lvl := ℕ) (Val := Elt F) (τ := τ) spec0 c : sProp 𝕄) := by
  rw [scopedRest0_eq]
  unfold Mem
  iintro ⟨H1, H3, H2, H0, H4, H7, H8, H5, H6⟩
  ihave H1 := (pt_of_rw (M := mOut) (Memref.isWhole_whole _)) $$ H1
  icases H1 with ⟨%f1, -, H1⟩
  ihave H3 := (pt_of_rw (M := mSend) (Memref.isWhole_whole _)) $$ H3
  icases H3 with ⟨%f3, -, H3⟩
  ihave H2 := (pt_of_rw (M := mStage) (Memref.isWhole_whole _)) $$ H2
  icases H2 with ⟨%f2, -, H2⟩
  ihave H0 := (pt_of_rw (M := mAcc) (Memref.isWhole_whole _)) $$ H0
  icases H0 with ⟨%f0, -, H0⟩
  ihave H4 := (pt_of_rw (M := mHact) (Memref.isWhole_whole _)) $$ H4
  icases H4 with ⟨%f4, -, H4⟩
  ihave H7 := (pt_of_own (M := mWin) (Memref.isWhole_whole _)) $$ H7
  icases H7 with ⟨%f7, -, H7⟩
  ihave H8 := (pt_of_own (M := mWout) (Memref.isWhole_whole _)) $$ H8
  icases H8 with ⟨%f8, -, H8⟩
  ihave H5 := (pt_of_own (M := mWst) (Memref.isWhole_whole _)) $$ H5
  icases H5 with ⟨%f5, -, H5⟩
  ihave H6 := (pt_of_own (M := mOst) (Memref.isWhole_whole _)) $$ H6
  icases H6 with ⟨%f6, -, H6⟩
  isplitl [H0]; · iexists f0; iexact H0
  isplitl [H1]; · iexists f1; iexact H1
  isplitl [H2]; · iexists f2; iexact H2
  isplitl [H3]; · iexists f3; iexact H3
  isplitl [H4]; · iexists f4; iexact H4
  isplitl [H5]; · iexists f5; iexact H5
  isplitl [H6]; · iexists f6; iexact H6
  isplitl [H7]; · iexists f7; iexact H7
  iexists f8; iexact H8

/-! ## The pipeline's data -/

/-- What a device starts from, besides its scoped buffers. -/
def Begin (c : Dev nD) : sProp 𝕄 :=
  iprop(Recs 𝒞 ∗ (Slots (fun _ => 0) c ∗ (CSl 0 0 c ∗ CSl 1 0 c) ∗ BarIn c) ∗ Args (m := m) c)
def Ends (c : Dev nD) : sProp 𝕄 := iprop(unscopedSems0 c ∗ Args (m := m) c)

def dats (_ : Fin 1) (c : Dev nD) : Pipeline.Dat τ (Elt F) ℕ ℕ UU ℕ cfg0 c where
  A w := m ((cfg0.win w).arr.view.loc (c : Thread nD τ))
  after w _ := match w with
    | ⟨0, _⟩ => x0 m c
    | ⟨1, _⟩ => Classical.arbitrary _
  Φ t := match t with
    | ⟨0, _⟩ => iprop(Begin 𝒞 c ∗ Mem c)
    | ⟨_ + 1, _⟩ => iprop(Ends (m := m) c ∗ Pipeline.ownSems0 osem c ∗ Mem c)
  q _ := fullShare
  owed t := match t with
    | ⟨0, _⟩ => O₀ c
    | ⟨_ + 1, _⟩ => 0

/-- Of the result's window it is said what the kernel's result meets. -/
def marked : Fin 2 → Bool
  | ⟨0, _⟩ => false
  | ⟨_ + 1, _⟩ => true
def Res : (w : Fin 2) → Fin cfg0.N → ((cfg0.win w).block.Idx → Elt F (cfg0.win w).elt) → Prop
  | ⟨0, _⟩, _, _ => True
  | ⟨1, _⟩, _, X => ∀ i : S1024x1024.Idx, 𝒞.O (i 0).val (i 1).val (X i)

def rdats (p : Fin 1) (c : Dev nD) : Pipeline.RDat τ (Elt F) ℕ ℕ UU ℕ cfg0 c := (dats 𝒞 p c).toRRel marked (Res 𝒞)

theorem fetch_x : (cfg0.win (0 : Fin 2)).fetch t0_0 = true := fetch0_0 _

theorem slots_open : Slots (fun _ => 0) c ⊢ (iprop(SlX 0 c ∗ (SlB 0 0 c ∗ SlB 0 1 c) ∗ (Sl (.U 0) 0 c ∗ Sl (.U 1) 0 c ∗ Sl (.U 2) 0 c ∗ Sl (.U 3) 0 c)) : sProp 𝕄) := by
  unfold Slots SlX SlB
  rw [slots_eq (fun s => Sl s 0 c)]
  iintro ⟨A0, A1, A2, A3, B0, B1, B2, B3, U0, U1, U2, U3, R0, R1, R2, R3, Q0, Q1, Q2, Q3, X0, X1, X2, X3, X4, X5, X6, X7, X8, X9, X10, X11, X12, X13, X14⟩
  iframe A0 A1 A2 A3 B0 B1 B2 B3 U0 U1 U2 U3 R0 R1 R2 R3 Q0 Q1 Q2 Q3 X0 X1 X2 X3 X4 X5 X6 X7 X8 X9 X10 X11 X12 X13 X14

theorem slots_shut : (iprop(SlX 1 c ∗ (SlB 3 0 c ∗ SlB 3 1 c) ∗ (Sl (.U 0) 0 c ∗ Sl (.U 1) 0 c ∗ Sl (.U 2) 0 c ∗ Sl (.U 3) 0 c)) : sProp 𝕄) ⊢ Slots rnds c := by
  unfold Slots SlX SlB
  rw [slots_eq (fun s => Sl s (rnds s) c)]
  simp only [rnds]
  iintro ⟨⟨X0, X1, X2, X3, X4, X5, X6, X7, X8, X9, X10, X11, X12, X13, X14⟩, ⟨⟨⟨R0, R1, R2, R3⟩, A0, A1, A2, A3⟩, ⟨Q0, Q1, Q2, Q3⟩, B0, B1, B2, B3⟩, U0, U1, U2, U3⟩
  iframe A0 A1 A2 A3 B0 B1 B2 B3 U0 U1 U2 U3 R0 R1 R2 R3 Q0 Q1 Q2 Q3 X0 X1 X2 X3 X4 X5 X6 X7 X8 X9 X10 X11 X12 X13 X14

theorem body_call : defs₀ (F := F) .tc cfg0.body (cfg0.bodyArgs t0_0 (cfg0.slots t0_0)) = bodyAt0 (F := F) t0_0 := rfl

/-- The kernel on device `c`, at the pipeline's one point. -/
theorem body_obligation (c : Dev nD) : Pipeline.BodyObligationRel (dats 𝒞 0 c) (defs₀ (F := F)) 𝒱₀ 0 Set.univ marked (Res 𝒞) := fun t => by
  rw [fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  have e1 : (dats 𝒞 0 c).Φ t0_0.castSucc = iprop(Begin 𝒞 c ∗ Mem c) := rfl
  have e2 : (dats 𝒞 0 c).Φ t0_0.succ = iprop(Ends (m := m) c ∗ Pipeline.ownSems0 osem c ∗ Mem c) := rfl
  have e3 : ∀ X : (cc0_stg0_0 : Ref sig .tc).ty.Contents (Elt F), (owns (Ix := ℕ) (Name := ℕ) (U := UU) (Lvl := ℕ) (c : Thread nD τ) (stage0_0 0) fullShare X : sProp 𝕄)
      = iprop(∃ f : Buf (Elt F) ((c : Thread nD τ).loc cc0_stg0_0), ⌜f = X⌝ ∗ (((c : Thread nD τ).loc cc0_stg0_0) ↦{fullShare} f)) := owns_whole
  have e4 : ∀ X : (cc0_stg1_0 : Ref sig .tc).ty.Contents (Elt F), (owns (Ix := ℕ) (Name := ℕ) (U := UU) (Lvl := ℕ) (c : Thread nD τ) (stage0_1 0) fullShare X : sProp 𝕄)
      = iprop(∃ f : Buf (Elt F) ((c : Thread nD τ).loc cc0_stg1_0), ⌜f = X⌝ ∗ (((c : Thread nD τ).loc cc0_stg1_0) ↦{fullShare} f)) := owns_whole
  have e5 : (dats 𝒞 0 c).after (0 : Fin 2) t0_0 = x0 m c := rfl
  rw [body_call, e1, e2]
  dsimp only [marked]
  rw [e5, body_eq]
  simp only [Prog.lift, Prog.bind_op, Prog.bind_ret, wp_deviceId, e3, e4]
  unfold Begin Ends Pipeline.Dat.owesAt Pipeline.owesWithin
  rw [show (dats 𝒞 0 c).owed t0_0.castSucc = O₀ c from rfl, show (dats 𝒞 0 c).owed t0_0.succ = 0 from rfl]
  iintro ⟨⟨⟨#HR, ⟨Hsl, Hc, Hbar⟩, Harg⟩, Hmem⟩, ⟨%W, -, Howe⟩, ⟨%d, %f, %hf, Hx⟩, ⟨%Y, -, %g, -, Hy⟩⟩
  rw [← bind_pure (prog (F := F) c)]
  ihave Hsl := (slots_open (F := F)) $$ Hsl
  icases Hsl with ⟨HX, HB, HU⟩
  have hx : f = x0 m c := by rw [hf]; unfold Pipeline.Dat.before; rw [if_pos fetch_x]; rfl
  iapply (wp_prog 𝒞) $$ [HX HB Hc Hbar Howe Harg Hmem Hx Hy]
  · isplitr; · iexact HR
    isplitl [HX]; · iexact HX
    isplitl [HB]; · iexact HB
    isplitl [Hc]; · iexact Hc
    isplitl [Hbar]; · iexact Hbar
    isplitl [Howe]; · iexists W; iexact Howe
    isplitl [Harg]; · iexact Harg
    isplitl [Hmem]; · iexact Hmem
    isplitl [Hx]
    · iapply (own_of_pt (M := mX) (P := fun i v => v = x0 m c i) (Memref.isWhole_whole _) (fun i => congrFun hx i)); iexact Hx
    iapply (rw_of_pt (M := mO) (Memref.isWhole_whole _)); iexact Hy
  iintro ⟨HX, HB, HC, Hat, Howe, Harg, Hmem, Hx, Hy⟩
  ihave Hsl := (slots_shut (F := F)) $$ [HX HB HU]
  · isplitl [HX]; · iexact HX
    isplitl [HB]; · iexact HB
    iexact HU
  imod (slots_close 𝒞) $$ [Hsl HC Hat] with ⟨Hos, Hus⟩
  · isplitr; · iexact HR
    isplitl [Hsl]; · iexact Hsl
    isplitl [HC]; · iexact HC
    iexact Hat
  rw [show (pure PUnit.unit : Prog (TpuEff nD τ sig (Elt F) Λ₀ .tc) PUnit) = .ret ⟨⟩ from rfl, wp_ret]
  imodintro
  isplitl [Hus Harg Hos Hmem]
  · isplitl [Hus Harg]
    · isplitl [Hus]; · iexact Hus
      iexact Harg
    isplitl [Hos]; · iexact Hos
    iexact Hmem
  isplitl [Howe]
  · unfold Owe
    icases Howe with ⟨%W', Howe⟩
    iexists W'
    isplitr; · ipureintro; exact fun _ _ => Or.inl trivial
    iexact Howe
  isplitl [Hx]
  · ihave Hx := (pt_of_own (M := mX) (Memref.isWhole_whole _)) $$ Hx
    icases Hx with ⟨%f', %hf', Hx⟩
    iexists f'
    isplitr; · ipureintro; exact funext hf'
    iexact Hx
  ihave Hy := (pt_of_rw (M := mO) (Memref.isWhole_whole _)) $$ Hy
  icases Hy with ⟨%g', %hg', Hy⟩
  iexists g'
  isplitr; · ipureintro; exact hg'
  iexists g'
  isplitr; · ipureintro; rfl
  iexact Hy

/-! ## The launch -/

theorem ownSemFacts : Pipeline.OwnSemFacts cfg0.spec osem := (by decide : Pipeline.OwnSemFacts spec0 osem)

theorem share_eq (c : Dev nD) (w : Fin cfg0.W) : (rdats 𝒞 0 c).share w = fullShare := by
  show (dats 𝒞 0 c).share w = fullShare
  unfold Pipeline.Dat.share; split <;> rfl

theorem args_eq : (Args (m := m) c : sProp 𝕄)
    = iprop(((((c : Thread nD τ).loc main_arg1) ↦{fullShare} m ((c : Thread nD τ).loc main_arg1)) ∗ (((c : Thread nD τ).loc main_arg2) ↦{fullShare} m ((c : Thread nD τ).loc main_arg2)))
      ∗ ((((c : Thread nD τ).loc main_arg3) ↦{fullShare} m ((c : Thread nD τ).loc main_arg3)) ∗ (((c : Thread nD τ).loc main_arg4) ↦{fullShare} m ((c : Thread nD τ).loc main_arg4)))
      ∗ (((c : Thread nD τ).loc main_arg5) ↦{fullShare} m ((c : Thread nD τ).loc main_arg5)) ∗ (((c : Thread nD τ).loc main_arg6) ↦{fullShare} m ((c : Thread nD τ).loc main_arg6))) := rfl

theorem begin_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' 𝒞 c)
      ⊢ |={Set.univ}=> iprop(Begin 𝒞 c ∗ emp) := by
  rw [Pipeline.unscopedRestP_none, unscopedRest0_eq]
  unfold G' Begin Facts₀
  iintro ⟨⟨A1, A2, A3, A4, A5, A6⟩, #Hlev, Hcr, -, #HK, Hat, Hpay⟩
  imodintro
  isplitl
  · isplitr
    · unfold Recs; isplitr; · iexact HK
      iexact Hlev
    isplitl [Hcr Hat Hpay]
    · iapply (slots_start 𝒞 c)
      isplitr
      · unfold Recs; isplitr; · iexact HK
        iexact Hlev
      isplitl [Hat]; · iexact Hat
      isplitl [Hpay]; · iexact Hpay
      iexact Hcr
    rw [args_eq]
    isplitl [A1 A2]; · isplitl [A1] <;> iassumption
    isplitl [A3 A4]; · isplitl [A3] <;> iassumption
    isplitl [A5] <;> iassumption
  · iempintro

theorem owed_level {g : GSem nD τ sig} {i : ℕ} (h : 0 < O₀ c g i) : i ∈ L g ∧ 0 < lv g i := by
  have bar : ∀ d : Dev nD, 0 < (tallyAt (gB d) 0 1 : CellTallies nD τ sig ℕ) g i → i ∈ L g ∧ 0 < lv g i := by
    intro d hd
    obtain ⟨rfl, rfl⟩ : g = gB d ∧ i = 0 := by
      rw [tallyAt_apply] at hd
      by_contra hn
      rw [if_neg hn] at hd
      exact absurd hd (Nat.lt_irrefl 0)
    exact ⟨Finset.mem_range.mpr (by decide), by unfold lv; rw [kd_bar]; decide⟩
  have h : 0 < tally c evAll g i + (tallyAt (gB (flip 3 c)) 0 1 : CellTallies nD τ sig ℕ) g i + (tallyAt (gB (flip 2 c)) 0 1 : CellTallies nD τ sig ℕ) g i
    + (tallyAt (gB (flip 1 c)) 0 1 : CellTallies nD τ sig ℕ) g i + (tallyAt (gB (flip 0 c)) 0 1 : CellTallies nD τ sig ℕ) g i := h
  by_cases h0 : 0 < (tallyAt (gB (flip 0 c)) 0 1 : CellTallies nD τ sig ℕ) g i
  · exact bar _ h0
  by_cases h1 : 0 < (tallyAt (gB (flip 1 c)) 0 1 : CellTallies nD τ sig ℕ) g i
  · exact bar _ h1
  by_cases h2 : 0 < (tallyAt (gB (flip 2 c)) 0 1 : CellTallies nD τ sig ℕ) g i
  · exact bar _ h2
  by_cases h3 : 0 < (tallyAt (gB (flip 3 c)) 0 1 : CellTallies nD τ sig ℕ) g i
  · exact bar _ h3
  obtain ⟨e, he, rfl, rfl⟩ := tally_pos (c := c) (E := evAll) (g := g) (i := i) (by omega)
  obtain ⟨ho, hr, hl⟩ := evAll_ok e he
  refine ⟨Finset.mem_range.mpr (lt_of_lt_of_le hr (rnds_le _)), ?_⟩
  unfold lv
  rw [kd_recv ho]
  exact lt_of_lt_of_le (by decide) hl

theorem wait_stage (c : Dev nD) (q : DmaSem sig) (hq : lvK (kd (.dma q)) 0 = 0) (O : CellTallies nD τ sig ℕ) (hO : O = O₀ c ∨ O = 0) :
    (levAts L lv : sProp 𝕄) ⊢ MayWait (c : Thread nD τ) (.dma q) 0 O := by
  rcases hO with rfl | rfl
  · refine Pipeline.mayWait_of_levAts (Finset.mem_range.mpr (by decide)) fun g i hg => ?_
    obtain ⟨h1, h2⟩ := owed_level hg
    exact ⟨h1, lt_of_eq_of_lt hq h2⟩
  · rw [MayWait_zero]; iintro -; iempintro

theorem stage_waits (c : Dev nD) : (levAts L lv : sProp 𝕄) ⊢ Pipeline.RDat.cellsWaits cfgs (rdats 𝒞) 0 0 c :=
  Pipeline.RDat.cellsWaits_intro cfgs (rdats 𝒞) 0 0 c fun w s t =>
    wait_stage c _ (by fin_cases w <;> fin_cases s <;> rfl) _ (by
      rcases t with ⟨_ | _, ht⟩
      · exact Or.inl rfl
      · exact Or.inr rfl)

theorem pt_read (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave Hr := (pointsTo_read_all (Finset.univ : Finset (Fin 1)) (fun _ => ℓ) (fun _ => f) s') $$ [H HSI]
  · rw [bigSep_fin_one]
    isplitl [H] <;> iassumption
  icases Hr with ⟨%h, HSI⟩
  isplitr; · ipureintro; exact h 0 (Finset.mem_univ _)
  iexact HSI

/-- What is read off a device's memory at the end. -/
def Kept (c : Dev nD) (s : MemSt nD τ sig (Elt F)) : Prop :=
  s.mem ((c : Thread nD τ).loc main_arg1) = m ((c : Thread nD τ).loc main_arg1) ∧ s.mem ((c : Thread nD τ).loc main_arg2) = m ((c : Thread nD τ).loc main_arg2)
  ∧ s.mem ((c : Thread nD τ).loc main_arg3) = m ((c : Thread nD τ).loc main_arg3) ∧ s.mem ((c : Thread nD τ).loc main_arg4) = m ((c : Thread nD τ).loc main_arg4)
  ∧ s.mem ((c : Thread nD τ).loc main_arg5) = m ((c : Thread nD τ).loc main_arg5) ∧ s.mem ((c : Thread nD τ).loc main_arg6) = m ((c : Thread nD τ).loc main_arg6)

theorem ends_read (c : Dev nD) (s' : Phys nD τ sig (Elt F)) :
    iprop(Ends (m := m) c ∗ emp ∗ SI s')
      ⊢ (|={Set.univ}=> iprop(⌜(∀ sm : SemLoc sig, sm.isScoped .tc = false → s'.mem.sem ((c.tc : Thread nD τ), sm) = 0) ∧ Kept (m := m) c s'.mem⌝ ∗ SI s') : sProp 𝕄) := by
  unfold Ends Kept
  rw [args_eq]
  iintro ⟨⟨Hu, ⟨A1, A2⟩, ⟨A3, A4⟩, A5, A6⟩, -, HSI⟩
  ihave H := (pt_read s' _ _) $$ [A1 HSI]
  · isplitl [A1] <;> iassumption
  icases H with ⟨%h1, HSI⟩
  ihave H := (pt_read s' _ _) $$ [A2 HSI]
  · isplitl [A2] <;> iassumption
  icases H with ⟨%h2, HSI⟩
  ihave H := (pt_read s' _ _) $$ [A3 HSI]
  · isplitl [A3] <;> iassumption
  icases H with ⟨%h3, HSI⟩
  ihave H := (pt_read s' _ _) $$ [A4 HSI]
  · isplitl [A4] <;> iassumption
  icases H with ⟨%h4, HSI⟩
  ihave H := (pt_read s' _ _) $$ [A5 HSI]
  · isplitl [A5] <;> iassumption
  icases H with ⟨%h5, HSI⟩
  ihave H := (pt_read s' _ _) $$ [A6 HSI]
  · isplitl [A6] <;> iassumption
  icases H with ⟨%h6, HSI⟩
  imod (Pipeline.unscopedSems0_read (X := unscopedSems0 c) (c := c) fupd_intro s') $$ [Hu HSI] with ⟨%h, HSI⟩
  · isplitl [Hu] <;> iassumption
  imodintro
  isplitr; · ipureintro; exact ⟨h, h1, h2, h3, h4, h5, h6⟩
  iexact HSI

theorem whole_out : (cfg0.win (1 : Fin 2)).WholeAt t0_0 := (by decide +kernel : win0_1.WholeAt t0_0)

/-- The run of the kernel on the mesh, for any float values: it ends, every semaphore at zero, with the
    arguments unchanged, and with a result that meets `O` on every device. -/
theorem run_main (ρ : Dev nD → PrngReg) : θ_run defs (onTc (τ := τ) (main (F := F))) ⟨m, fun _ => 0, ρ⟩
    (fun r => (∀ c : Dev nD, (∀ i : S1024x1024.Idx, 𝒞.O (i 0).val (i 1).val ((r.2.mem ((c : Thread nD τ).loc main_v1) : Vec F S1024x1024 .f32) i))
        ∧ r.2.mem ((c : Thread nD τ).loc main_arg0) = m ((c : Thread nD τ).loc main_arg0) ∧ Kept (m := m) c r.2) ∧ r.2.sem = fun _ => 0) :=
  Pipeline.RDat.θ_run_region_owing_glob_pf (fun p => (cfgs p).toPCfg) (fun p => (cfgs p).toPCfg_adm) (rdats 𝒞) 0 cellOf_inj (0 : Fin 1)
    winFacts0.to₀ ownSemFacts (Pipeline.PreFacts.none _) EP defs₀ 𝒱₀ m ρ main
    (hmain := fun _ => rfl)
    (hbody := fun c => (body_obligation 𝒞 c).toRRel) (hne := fun w => by fin_cases w <;> exact Nat.succ_pos _) (harr := arr_whole0) (hstage := stage_whole0)
    (hshare := share_eq 𝒞) (hdistinct := winFacts0.arr_inj)
    (O₀ := O₀) (howed₀ := fun _ => rfl) (howedN := fun _ => rfl)
    (L := L) (lv := lv) (hL := fun g h => if_neg h) (hwaits := stage_waits 𝒞)
    (G := G 𝒞) (G' := G' 𝒞) (u₀ := u₀)
    (hu₀ := by
      unfold u₀
      iintro Hu
      ihave H := (ownU_pair _ _) $$ Hu
      icases H with ⟨HP, HX⟩
      imod (fund_ring 𝒞) $$ HX with HG
      imodintro
      isplitl [HP] <;> iassumption)
    (hglob := glob 𝒞)
    (hA := fun _ _ => rfl) (hpf := fun _ k => k.elim0)
    (X := Begin 𝒞) (Y := fun c => Ends (m := m) c) (Z := fun _ => iprop(emp))
    (hX := begin_intro 𝒞 ρ)
    (hin := fun c => by
      show _ ⊢ iprop(Begin 𝒞 c ∗ Mem c)
      iintro ⟨H, -, Hs⟩
      isplitl [H]; · iexact H
      iapply mem_in; iexact Hs)
    (hout := fun c => by
      show iprop(Ends (m := m) c ∗ Pipeline.ownSems0 osem c ∗ Mem c) ⊢ _
      iintro ⟨H, Ho, Hs⟩
      isplitl [H]; · iexact H
      isplitl [Ho]; · iexact Ho
      iapply mem_out; iexact Hs)
    (QY := fun c s => (∀ sm : SemLoc sig, sm.isScoped .tc = false → s.sem ((c.tc : Thread nD τ), sm) = 0) ∧ Kept (m := m) c s)
    (hY := ends_read)
    (hQ := fun s h hs => ⟨fun c => by
      obtain ⟨X, ⟨Y, -, hX⟩, hG⟩ := Pipeline.RDat.ArrAt.emb_eq_of_wholeAt ((h c).1 (1 : Fin 2)) whole_out
      refine ⟨fun i => ?_, ?_, (h c).2.2.2⟩
      · have e : s.mem ((c : Thread nD τ).loc main_v1) i = X i := hG i
        have hX : ∀ i : S1024x1024.Idx, 𝒞.O (i 0).val (i 1).val (X i) := hX
        exact e ▸ hX i
      · exact (congrFun (Pipeline.RDat.ArrAt_in (rdats 𝒞 0 c) (0 : Fin 2) rfl _) _).mp ((h c).1 (0 : Fin 2)),
      sem_eq_zero hs fun c => (h c).2.2.1⟩)

end Cert.KernelIdeal.Gen

end
-- ==== Proof.Vals.lean ====
/- The kernel's values over the reals: the gathered input of each layer, the shares of the products and
   their sums through the exchanges, row by row; and that each step of the kernel leads from one to the next. -/
module

public import proofs.«01_k».proof.Proof.Run
public import Idealize.ShloMosaic.Lib.MatmulPlain
public import Idealize.ShloMosaic.Lib.ValueLayout
public import Idealize.ShloMosaic.Lib.Pointwise

@[expose] public section

set_option maxRecDepth 65536

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

variable [Facts]

/-! ## Nothing claimed -/

/-- The steps with nothing said of the values: what the claims of termination need. -/
def plain {F : FTy → Type} [FloatOps F] (m : (ℓ : Loc nD τ sig) → Buf (Elt F) ℓ) : Contract (F := F) m where
  X _ _ _ _ := True
  H _ _ _ _ _ := True
  A _ _ _ _ _ _ := True
  S _ _ _ _ _ _ := True
  O _ _ _ := True
  input _ _ := trivial
  head _ _ _ _ _ _ _ _ := trivial
  dot _ _ _ _ _ _ _ := trivial
  pack _ _ _ _ _ _ _ _ _ _ := trivial
  add _ _ _ _ _ _ _ _ _ _ _ := trivial
  done _ _ _ _ _ _ _ := trivial
  cons _ _ _ _ _ _ _ _ := trivial
  out _ _ _ _ _ := trivial

variable (m : (ℓ : Loc nD τ sig) → Buf (Elt Ideal) ℓ)

/-! ## The values, by row and column -/

/-- A number read as one of the first `n`. -/
abbrev wrap (n : ℕ) (h : 0 < n) (k : ℕ) : Fin n := ⟨k % n, Nat.mod_lt _ h⟩
theorem wrap_val {n : ℕ} (h : 0 < n) (k : Fin n) : wrap n h k.val = k := Fin.ext (Nat.mod_eq_of_lt k.isLt)
theorem wrap_of_lt {n : ℕ} (h : 0 < n) {k : ℕ} (hk : k < n) : wrap n h k = ⟨k, hk⟩ := Fin.ext (Nat.mod_eq_of_lt hk)

/-- A device's share of the hidden activations of a layer whose input is `x`, -/
def hidden (x : ℕ → ℕ → EReal) (l : ℕ) (d : Dev nD) (r k : ℕ) : EReal :=
  max (∑ j : Fin 1024, x r j.val * w1 m l d (ValueIdx.ix2 j (wrap 2048 (by omega) k))) 0
/-- and its share of the layer's output. -/
def share (x : ℕ → ℕ → EReal) (l : ℕ) (d : Dev nD) (r j : ℕ) : EReal :=
  ∑ k : Fin 2048, hidden m x l d r k.val * w2 m l d (ValueIdx.ix2 k (wrap 1024 (by omega) j))
/-- The input of each layer. -/
def xv : ℕ → ℕ → ℕ → EReal
  | 0, r, j => x0 m (wrap 16 (by omega) (r / 64)) (ValueIdx.ix2 (wrap 64 (by omega) r) (wrap 1024 (by omega) j))
  | l + 1, r, j => ∑ d : Dev nD, share m (xv l) l d r j
/-- What a device has summed of a band after `t` exchanges. -/
def part (f : Dev nD → EReal) (b : Fin 2) : ℕ → Dev nD → EReal
  | 0, d => f d
  | t + 1, d => part f b t d + part f b t (peer b t d)
/-- The band of a row. -/
def band (r : ℕ) : Fin 2 := if r < 512 then 0 else 1
def av (l t : ℕ) (d : Dev nD) (r j : ℕ) : EReal := part (fun e => share m (xv m l) l e r j) (band r) t d

/-- Whose shares those are. -/
def who (b : Fin 2) : ℕ → Dev nD → Finset (Dev nD)
  | 0, d => {d}
  | t + 1, d => who b t d ∪ who b t (peer b t d)
theorem who_disjoint : ∀ (b : Fin 2) (t : Fin 4) (d : Dev nD), Disjoint (who b t.val d) (who b t.val (peer b t.val d)) := by
  decide +kernel
theorem who_all : ∀ (b : Fin 2) (d : Dev nD), who b 4 d = Finset.univ := by decide +kernel
theorem part_eq (f : Dev nD → EReal) (b : Fin 2) : ∀ t ≤ 4, ∀ d, part f b t d = ∑ e ∈ who b t d, f e
  | 0, _, d => (Finset.sum_singleton f d).symm
  | t + 1, ht, d => by
    rw [part, who, Finset.sum_union (who_disjoint b ⟨t, by omega⟩ d), part_eq f b t (by omega), part_eq f b t (by omega)]
theorem part_all (f : Dev nD → EReal) (b : Fin 2) (d : Dev nD) : part f b 4 d = ∑ e, f e := by
  rw [part_eq f b 4 le_rfl, who_all]

theorem band_rows : ∀ (b : Fin 2) (t : Fin 4) (d : Dev nD), 512 * b.val ≤ keepLo b (t.val + 1) d ∧ keepLo b (t.val + 1) d + hsz t.val ≤ 512 * b.val + 512 := by
  decide +kernel
theorem band_eq {b : Fin 2} {r : ℕ} (h : 512 * b.val ≤ r) (h' : r < 512 * b.val + 512) : band r = b := by
  unfold band
  have : b.val = 0 ∨ b.val = 1 := by omega
  rcases this with hb | hb
  · rw [if_pos (by omega)]; exact Fin.ext hb.symm
  · rw [if_neg (by omega)]; exact Fin.ext hb.symm
theorem band_keep (b : Fin 2) {t : ℕ} (ht : t < 4) (d : Dev nD) (j : Fin (hsz t)) : band (keepLo b (t + 1) d + j.val) = b := by
  have h := band_rows b ⟨t, ht⟩ d
  have hj := j.isLt
  exact band_eq (by have := h.1; dsimp only at this; omega) (by have := h.2; dsimp only at this; omega)

/-! ## The pieces over the reals -/

theorem pay2_at (v : Vec Ideal S1024x2048 .f32) (a : Fin 1024) (b : Fin 2048) :
    k0_pay2 v (ValueIdx.ix3 (0 : Fin 1) a b) = v (ValueIdx.ix2 a b) :=
  ValueIdx.shapeCast_ab_1ab_apply _ _ _ _ _
theorem pay3_at (v : Vec Ideal S2048x1024 .f32) (a : Fin 2048) (b : Fin 1024) :
    k0_pay3 v (ValueIdx.ix3 (0 : Fin 1) a b) = v (ValueIdx.ix2 a b) :=
  ValueIdx.shapeCast_ab_1ab_apply _ _ _ _ _
theorem pay1_eq (v : Vec Ideal S64x1024 .f32) : k0_pay1 v = v := by
  simp only [k0_pay1, shapeCast_id]; rfl
theorem truncV_at (n : ℕ) (v : Vec Ideal (Rows n) .f32) (j) : truncV n v j = v j := by
  simp only [truncV, shapeCast_id]; rfl
theorem addV_at (n : ℕ) (v : Vec Ideal (Rows n) .f32) (w : Vec Ideal (Rows n) .bf16) (j) : addV n v w j = (v j + w j : EReal) := by
  simp only [addV, shapeCast_id]; rfl
theorem zeros_at {s : Shape} (j : s.Idx) : constant (F := Ideal) s .f32 0x00000000#32 j = (0 : EReal) := Ideal.ofBits_zero_f32
/-- A product read at an entry, -/
theorem prod_at {M K N : ℕ} (v : FVec Ideal ⟨2, ![M, K]⟩ .bf16) (w : FVec Ideal ⟨3, ![1, K, N]⟩ .bf16)
    (h : (⟨3, ![1, K, N]⟩ : Shape).ShapeCasts ⟨2, ![K, N]⟩) (a : Fin M) (b : Fin N) :
    matmul (DotDims.plain M K N) none v (shapeCast ⟨2, ![K, N]⟩ w h) (constant ⟨2, ![M, N]⟩ .f32 0x00000000#32) (ValueIdx.ix2 a b)
      = ∑ k : Fin K, (v (ValueIdx.ix2 a k) * w (ValueIdx.ix3 (0 : Fin 1) k b) : EReal) := by
  refine (Ideal.matmul_plain_apply none v _ _ a b).trans ?_
  rw [zeros_at, zero_add]
  exact Finset.sum_congr rfl fun k _ => congrArg (v (ValueIdx.ix2 a k) * ·) (ValueIdx.shapeCast_1ab_ab_apply _ _ _ _)
/-- and its positive part. -/
theorem relu_at {s : Shape} (x : FVec Ideal s .f32) (j : s.Idx) (h) :
    truncf .bf16 (maximumf x (broadcast s (Scalar.ofBits .f32 0x00000000#32))) h j = max (x j) (0 : EReal) := by
  show max (x j) (Ideal.ofBits .f32 0x00000000#32) = _
  rw [Ideal.ofBits_zero_f32]
theorem dotV_at (v : Vec Ideal (HRows 256) .bf16) (w : Vec Ideal S1x2048x1024 .bf16) (a : Fin 256) (b : Fin 1024) :
    dotV v w (ValueIdx.ix2 a b) = ∑ k : Fin 2048, (v (ValueIdx.ix2 a k) * w (ValueIdx.ix3 (0 : Fin 1) k b) : EReal) := by
  simp only [dotV, shapeCast_id]
  exact prod_at (M := 256) (K := 2048) (N := 1024) v w _ a b
theorem consV_at (n : ℕ) (v : Vec Ideal (Rows n) .bf16) (w : Vec Ideal S1x1024x2048 .bf16) (a : Fin n) (b : Fin 2048) :
    consV n v w (ValueIdx.ix2 a b) = max (∑ k : Fin 1024, (v (ValueIdx.ix2 a k) * w (ValueIdx.ix3 (0 : Fin 1) k b) : EReal)) 0 := by
  simp only [consV, shapeCast_id]
  exact (relu_at _ _ _).trans (congrArg (max · (0 : EReal)) (prod_at (M := n) (K := 1024) (N := 2048) v w _ a b))
theorem headV_at (v : Vec Ideal S1024x1024 .bf16) (w : Vec Ideal S1x1024x1024 .bf16) (a b : Fin 1024) :
    headV v w (ValueIdx.ix2 a b) = max (∑ k : Fin 1024, (v (ValueIdx.ix2 a k) * w (ValueIdx.ix3 (0 : Fin 1) k b) : EReal)) 0 := by
  simp only [headV, k0_pay6, k0_pay5, shapeCast_id]
  exact (relu_at _ _ _).trans (congrArg (max · (0 : EReal)) (prod_at (M := 1024) (K := 1024) (N := 1024) v w _ a b))

/-! ## Step by step -/

/-- The steps over the reals. -/
def real : Contract (F := Ideal) m where
  X l r j v := v = xv m l r j
  H l d r k v := v = hidden m (xv m l) l d r k
  A l t d r j v := v = av m l t d r j
  S l t d r j v := v = av m l t d r j
  O r j v := v = xv m 3 r j
  input d j := by
    have h0 := (j 0).isLt
    have h1 := (j 1).isLt
    have h2 := d.isLt
    rw [pay1_eq]
    have e1 : wrap 16 (by omega) ((64 * d.val + (j 0).val) / 64) = d := Fin.ext (by show (64 * d.val + (j 0).val) / 64 % 16 = d.val; change (j 0).val < 64 at h0; change d.val < 16 at h2; omega)
    have e2 : wrap 64 (by omega) (64 * d.val + (j 0).val) = j 0 := Fin.ext (by show (64 * d.val + (j 0).val) % 64 = (j 0).val; change (j 0).val < 64 at h0; omega)
    show _ = x0 m (wrap 16 _ ((64 * d.val + (j 0).val) / 64)) (ValueIdx.ix2 (wrap 64 _ (64 * d.val + (j 0).val)) (wrap 1024 _ (j 1).val))
    rw [e1, e2, wrap_val (n := 1024) (by omega) (j 1)]
    exact congrArg (x0 m d) (ValueIdx.eq_ix2 j)
  head d x w o hx hw j ho := by
    obtain ⟨a, b, rfl⟩ : ∃ a b, j = ValueIdx.ix2 a b := ⟨_, _, ValueIdx.eq_ix2 j⟩
    rw [headV_at]
    refine congrArg (max · (0 : EReal)) (Finset.sum_congr rfl fun k _ => ?_)
    have hb := b.isLt
    rw [hx (ValueIdx.ix2 a k), wrap_of_lt _ (show o + b.val < 2048 by omega),
      hw (ValueIdx.ix3 (0 : Fin 1) k b) (ValueIdx.ix3 (0 : Fin 1) k ⟨o + b.val, by omega⟩) rfl rfl, pay2_at]
  dot l _ d lo v hv j := by
    obtain ⟨a, b, rfl⟩ : ∃ a b, j = ValueIdx.ix2 a b := ⟨_, _, ValueIdx.eq_ix2 j⟩
    rw [dotV_at]
    show _ = share m (xv m l) l d _ _
    refine Finset.sum_congr rfl fun k _ => ?_
    rw [hv (ValueIdx.ix2 a k), pay3_at]
    show _ = _ * w2 m l d (ValueIdx.ix2 k (wrap 1024 _ b.val))
    rw [wrap_val]
  pack l _ t _ d lo n v hv j := (truncV_at n v j).trans (hv j)
  add l _ b t ht d v w hv hw j := by
    rw [addV_at, hv j, hw j]
    unfold av
    rw [band_keep b ht d (j 0)]
    rfl
  done l _ b d v hv j := by
    rw [truncV_at, hv j]
    exact part_all _ _ _
  cons l _ d lo n v hv j := by
    obtain ⟨a, b, rfl⟩ : ∃ a b, j = ValueIdx.ix2 a b := ⟨_, _, ValueIdx.eq_ix2 j⟩
    rw [consV_at]
    refine congrArg (max · (0 : EReal)) (Finset.sum_congr rfl fun k _ => ?_)
    rw [hv (ValueIdx.ix2 a k), pay2_at]
    show _ = _ * w1 m (l + 1) d (ValueIdx.ix2 k (wrap 2048 _ b.val))
    rw [wrap_val]
    rfl
  out lo n v hv j := hv j

end Cert.KernelIdeal.Gen

end
-- ==== Proof.Whole.lean ====
/- The reference over the reals: each of its three layers over the whole arrays is the sum of the devices'
   shares, so that its result is the kernel's. -/
module

public import proofs.«01_k».proof.Proof.Vals
public import proofs.«01_k».proof.Proof.Gen.ReferenceIdeal.Run
public import Idealize.ShloMosaic.Lib.Layout
public import Idealize.ShloMosaic.Lib.StackMember

@[expose] public section

set_option maxRecDepth 65536

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

variable [Facts] (m : (ℓ : Loc nD τ sig) → Buf (Elt Ideal) ℓ)

/-- A sum over `a * b` places, taken `b` at a time. -/
theorem sum_split {a b n : ℕ} (h : n = a * b) (f : Fin n → EReal) :
    ∑ k, f k = ∑ d : Fin a, ∑ k : Fin b, f ⟨d.val * b + k.val, by
      rw [h]; calc d.val * b + k.val < d.val * b + b := Nat.add_lt_add_left k.isLt _
        _ = (d.val + 1) * b := (Nat.succ_mul _ _).symm
        _ ≤ a * b := Nat.mul_le_mul_right _ d.isLt⟩ := by
  subst h
  rw [← finProdFinEquiv.sum_comp, Fintype.sum_prod_type]
  refine Finset.sum_congr rfl fun d _ => Finset.sum_congr rfl fun k _ => congrArg f (Fin.ext ?_)
  show k.val + b * d.val = d.val * b + k.val
  rw [Nat.mul_comm, Nat.add_comm]

abbrev WIn : Shape := ⟨2, ![1024, 32768]⟩
abbrev WOut : Shape := ⟨2, ![32768, 1024]⟩

/-- A block of columns read at an entry, -/
theorem cols_at (v : WIn.Idx → EReal) (d : Fin 16) (a : Fin 1024) (b : Fin 2048) :
    Layout.block ⟨2, ![1024, 2048]⟩ WIn 1 16 d v (by decide) (ValueIdx.ix2 a b)
      = v (ValueIdx.ix2 a ⟨d.val * 2048 + b.val, by omega⟩) := by
  refine congrArg v ?_
  funext x; apply Fin.ext
  match x with
  | ⟨0, _⟩ => rfl
  | ⟨1, _⟩ => rfl
/-- and a block of rows. -/
theorem rows_at (v : WOut.Idx → EReal) (d : Fin 16) (a : Fin 2048) (b : Fin 1024) :
    Layout.block ⟨2, ![2048, 1024]⟩ WOut 0 16 d v (by decide) (ValueIdx.ix2 a b)
      = v (ValueIdx.ix2 ⟨d.val * 2048 + a.val, by omega⟩ b) := by
  refine congrArg v ?_
  funext x; apply Fin.ext
  match x with
  | ⟨0, _⟩ => rfl
  | ⟨1, _⟩ => rfl
theorem input_at (v : (⟨2, ![1024, 1024]⟩ : Shape).Idx → EReal) (d : Fin 16) (a : Fin 64) (b : Fin 1024) :
    Layout.block ⟨2, ![64, 1024]⟩ ⟨2, ![1024, 1024]⟩ 0 16 d v (by decide) (ValueIdx.ix2 a b)
      = v (ValueIdx.ix2 ⟨d.val * 64 + a.val, by omega⟩ b) := by
  refine congrArg v ?_
  funext x; apply Fin.ext
  match x with
  | ⟨0, _⟩ => rfl
  | ⟨1, _⟩ => rfl

section
variable [Cert.ReferenceIdeal.Facts]

/-- The hidden activations of a layer of the reference, -/
def wideRef (X : FVec Ideal S1024x1024 .f32) (W : FVec Ideal WIn .f32) : FVec Ideal WIn .f32 :=
  maximumf (Host.dotGeneral Cert.ReferenceIdeal.dot_S1024x1024_S1024x32768_S1024x32768_1_0_0_1_n_n none X W)
    (broadcastInDim WIn ![] Cert.ReferenceIdeal.Facts₀.bcast_S_S1024x32768 (constant S_ .f32 0x00000000#32))
/-- and the layer. -/
def layerRef (X : FVec Ideal S1024x1024 .f32) (W : FVec Ideal WIn .f32) (V : FVec Ideal WOut .f32) : FVec Ideal S1024x1024 .f32 :=
  Host.dotGeneral Cert.ReferenceIdeal.dot_S1024x32768_S32768x1024_S1024x1024_1_0_0_1_n_n none (wideRef X W) V

theorem wideRef_at (X : FVec Ideal S1024x1024 .f32) (W : FVec Ideal WIn .f32) (a : Fin 1024) (b : Fin 32768) :
    wideRef X W (ValueIdx.ix2 a b) = max (∑ k : Fin 1024, (X (ValueIdx.ix2 a k) * W (ValueIdx.ix2 k b) : EReal)) 0 := by
  refine (congrArg₂ max (StackMember.dotGeneral_plain_apply (m := 1024) (k := 1024) (n := 32768) none X W a b) Ideal.ofBits_zero_f32 :)
theorem layerRef_at (X : FVec Ideal S1024x1024 .f32) (W : FVec Ideal WIn .f32) (V : FVec Ideal WOut .f32) (a b : Fin 1024) :
    layerRef X W V (ValueIdx.ix2 a b) = ∑ k : Fin 32768, (wideRef X W (ValueIdx.ix2 a k) * V (ValueIdx.ix2 k b) : EReal) :=
  StackMember.dotGeneral_plain_apply (m := 1024) (k := 32768) (n := 1024) none (wideRef X W) V a b

/-- A layer of the reference is the sum of the devices' shares. -/
theorem layerRef_eq (l : ℕ) (x : ℕ → ℕ → EReal) (X : FVec Ideal S1024x1024 .f32) (W : FVec Ideal WIn .f32) (V : FVec Ideal WOut .f32)
    (hX : ∀ a b : Fin 1024, X (ValueIdx.ix2 a b) = x a.val b.val)
    (hW : ∀ d : Dev nD, w1 m l d = Layout.block ⟨2, ![1024, 2048]⟩ WIn 1 16 d W (by decide))
    (hV : ∀ d : Dev nD, w2 m l d = Layout.block ⟨2, ![2048, 1024]⟩ WOut 0 16 d V (by decide)) (a b : Fin 1024) :
    layerRef X W V (ValueIdx.ix2 a b) = ∑ d : Dev nD, share m x l d a.val b.val := by
  rw [layerRef_at, sum_split (a := 16) (b := 2048) rfl]
  refine Finset.sum_congr rfl fun d _ => Finset.sum_congr rfl fun k _ => ?_
  unfold hidden
  rw [wideRef_at, wrap_val, wrap_val, hV, rows_at]
  refine congrArg (max · (0 : EReal) * _) (Finset.sum_congr rfl fun j _ => ?_)
  rw [hX, hW, cols_at]

theorem x0_at (d : Dev nD) (j) : x0 m d j = (m ((d : Thread nD τ).loc main_arg0) : Vec Ideal S64x1024 .f32) j := by
  refine congrArg (m ((d : Thread nD τ).loc main_arg0) : Vec Ideal S64x1024 .f32) ?_
  funext x; apply Fin.ext
  match x with
  | ⟨0, _⟩ => exact Pipeline.Window.rect_emb_val_of_index_zero win0_0 (0 : Fin 1) (0 : Fin 2) rfl j
  | ⟨1, _⟩ => exact Pipeline.Window.rect_emb_val_of_index_zero win0_0 (0 : Fin 1) (1 : Fin 2) rfl j

/-- **The reference's result is the kernel's**, entry by entry, when each device holds its blocks of the
    whole arrays. -/
theorem result_eq (X : FVec Ideal S1024x1024 .f32) (W₀ W₁ W₂ : FVec Ideal WIn .f32) (V₀ V₁ V₂ : FVec Ideal WOut .f32)
    (hX : ∀ d : Dev nD, m ((d : Thread nD τ).loc main_arg0) = Layout.block ⟨2, ![64, 1024]⟩ ⟨2, ![1024, 1024]⟩ 0 16 d X (by decide))
    (hW₀ : ∀ d : Dev nD, m ((d : Thread nD τ).loc main_arg1) = Layout.block ⟨2, ![1024, 2048]⟩ WIn 1 16 d W₀ (by decide))
    (hV₀ : ∀ d : Dev nD, m ((d : Thread nD τ).loc main_arg2) = Layout.block ⟨2, ![2048, 1024]⟩ WOut 0 16 d V₀ (by decide))
    (hW₁ : ∀ d : Dev nD, m ((d : Thread nD τ).loc main_arg3) = Layout.block ⟨2, ![1024, 2048]⟩ WIn 1 16 d W₁ (by decide))
    (hV₁ : ∀ d : Dev nD, m ((d : Thread nD τ).loc main_arg4) = Layout.block ⟨2, ![2048, 1024]⟩ WOut 0 16 d V₁ (by decide))
    (hW₂ : ∀ d : Dev nD, m ((d : Thread nD τ).loc main_arg5) = Layout.block ⟨2, ![1024, 2048]⟩ WIn 1 16 d W₂ (by decide))
    (hV₂ : ∀ d : Dev nD, m ((d : Thread nD τ).loc main_arg6) = Layout.block ⟨2, ![2048, 1024]⟩ WOut 0 16 d V₂ (by decide))
    (a b : Fin 1024) :
    layerRef (layerRef (layerRef X W₀ V₀) W₁ V₁) W₂ V₂ (ValueIdx.ix2 a b) = xv m 3 a.val b.val := by
  have h0 : ∀ a b : Fin 1024, X (ValueIdx.ix2 a b) = xv m 0 a.val b.val := fun a b => by
    have ha := a.isLt
    unfold xv
    rw [wrap_val, x0_at, hX, input_at]
    refine congrArg (fun r => X (ValueIdx.ix2 r b)) (Fin.ext ?_)
    show a.val = a.val / 64 % 16 * 64 + a.val % 64
    omega
  have h1 := layerRef_eq m 0 (xv m 0) X W₀ V₀ h0 hW₀ hV₀
  have h2 := layerRef_eq m 1 (xv m 1) _ W₁ V₁ h1 hW₁ hV₁
  exact layerRef_eq m 2 (xv m 2) _ W₂ V₂ h2 hW₂ hV₂ a b

end

end Cert.KernelIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Vals
public import proofs.«01_k».proof.Proof.Whole
public import Idealize.ShloMosaic.Adequacy
public import Idealize.ShloMosaic.Init
public import Idealize.ShloMosaic.Lib.Quiescent

@[expose] public section

set_option maxRecDepth 65536

noncomputable section

namespace Cert.Proof

open Idealize.ShloMosaic Idealize.SL.Sem

/-- Facts about the programs' shapes, as the generated modules prove them. -/
local instance : Cert.Kernel.Facts := Cert.Kernel.Gen.facts
local instance : Cert.KernelIdeal.Facts := Cert.KernelIdeal.Gen.facts
local instance : Cert.ReferenceIdeal.Facts := Cert.ReferenceIdeal.Gen.facts

/-- The two programs have one text: the same bodies, -/
theorem bodies_eq {F : FTy → Type} [FloatOps F] : Cert.Kernel.defs₀ (F := F) = Cert.KernelIdeal.defs₀ (F := F) :=
  congrArg Defs.onTc (funext fun l => funext fun a => match l, a with
    | 0, (_, _) => rfl
    | ⟨_ + 1, h⟩, _ => absurd h (Nat.not_lt.2 (Nat.le_add_left _ _)))
/-- under the same calls. -/
theorem defs_eq {F : FTy → Type} [FloatOps F] : Cert.Kernel.defs (F := F) = Cert.KernelIdeal.defs (F := F) :=
  congrArg (Pipeline.defs (Cert.KernelIdeal.pcfgs (F := F))) bodies_eq

/-- The kernel terminates with its arguments unchanged and its counters at zero: the run with nothing kept of
    the values, over float words -/
theorem frame_kernel : Cert.quiescent_Kernel := fun m ρ _ => by
  rw [defs_eq]
  exact (θ_run Cert.KernelIdeal.defs _ _).mono (fun _ h => ⟨fun c => (h.1 c).2, h.2⟩)
    (Cert.KernelIdeal.Gen.run_main (F := Bits) (Cert.KernelIdeal.Gen.plain m) ρ)

/-- and over the reals. -/
theorem frame_ideal : Cert.quiescent_KernelIdeal := fun m ρ _ =>
  (θ_run Cert.KernelIdeal.defs _ _).mono (fun _ h => ⟨fun c => (h.1 c).2, h.2⟩)
    (Cert.KernelIdeal.Gen.run_main (F := Ideal) (Cert.KernelIdeal.Gen.plain m) ρ)

/-- The reference terminates likewise; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Over the reals every device's result is the reference's over the whole arrays. -/
theorem values : Cert.algebraic_KernelIdeal_ReferenceIdeal := fun m ρ m' ρ' _ hm =>
  ⟨_, (θ_run Cert.KernelIdeal.defs _ _).mono (fun _ h c => ⟨funext fun i => by
        refine ((h.1 c).1 i).trans ?_
        refine (Cert.KernelIdeal.Gen.result_eq m _ _ _ _ _ _ _ (fun d => (hm d).1) (fun d => (hm d).2.1) (fun d => (hm d).2.2.1)
          (fun d => (hm d).2.2.2.1) (fun d => (hm d).2.2.2.2.1) (fun d => (hm d).2.2.2.2.2.1) (fun d => (hm d).2.2.2.2.2.2) (i 0) (i 1)).symm.trans ?_
        exact congrArg _ (ValueIdx.eq_ix2 i).symm, (h.1 c).2⟩)
      (Cert.KernelIdeal.Gen.run_main (Cert.KernelIdeal.Gen.real m) ρ),
    (θ_run Cert.ReferenceIdeal.defs _ _).mono (fun _ h => h 0) (Cert.ReferenceIdeal.Value.run m' ρ')⟩

theorem claim : Cert.Claim :=
  ⟨Cert.Kernel.Gen.facts, Cert.KernelIdeal.Gen.facts, Cert.ReferenceIdeal.Gen.facts,
    frame_kernel, frame_ideal, frame_reference, trivial, values⟩

end Cert.Proof

end
